-- ==== Defs.lean ====
def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v64)) (v3 : (c : Dev Cert.KernelIdeal.nD) → Buf (Elt Ideal) ((c.tc : Thread Cert.KernelIdeal.nD Cert.KernelIdeal.τ).loc Cert.KernelIdeal.main_v65)) (v4 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v64) = v2 c
          ∧ r.2.mem ((c.tc : Thread Cert.KernelIdeal.nD Cert.KernelIdeal.τ).loc Cert.KernelIdeal.main_v65) = v3 c
          ∧ r.2.mem ((c.tc : Thread Cert.KernelIdeal.nD Cert.KernelIdeal.τ).loc Cert.KernelIdeal.main_v66) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernelIdeal : Cert.KernelIdeal.Facts) (hReferenceIdeal : Cert.ReferenceIdeal.Facts) (hPre_well_posed : Cert.Pre_well_posed.Facts),
    quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ algebraic_KernelIdeal_ReferenceIdeal_pre_well_posed (hKernelIdeal := hKernelIdeal) (hReferenceIdeal := hReferenceIdeal) (hPre_well_posed := hPre_well_posed)
-- ==== Pre_well_posed.lean ====
abbrev S1024 : Shape := ⟨1, ![1024]⟩
abbrev S1024x8x64 : Shape := ⟨3, ![1024, 8, 64]⟩
abbrev S1024x8x17 : Shape := ⟨3, ![1024, 8, 17]⟩
abbrev S100000x64 : Shape := ⟨2, ![100000, 64]⟩
abbrev S100000 : Shape := ⟨1, ![100000]⟩
abbrev S32x60 : Shape := ⟨2, ![32, 60]⟩
abbrev S32 : Shape := ⟨1, ![32]⟩
abbrev S60x32 : Shape := ⟨2, ![60, 32]⟩
abbrev S60 : Shape := ⟨1, ![60]⟩
abbrev S1x32 : Shape := ⟨2, ![1, 32]⟩
abbrev S1 : Shape := ⟨1, ![1]⟩
abbrev S32x70 : Shape := ⟨2, ![32, 70]⟩
abbrev S_ : Shape := ⟨0, ![]⟩
abbrev S1024x64 : Shape := ⟨2, ![1024, 64]⟩
abbrev S1024x1 : Shape := ⟨2, ![1024, 1]⟩
abbrev S1x100000 : Shape := ⟨2, ![1, 100000]⟩
abbrev S64x100000 : Shape := ⟨2, ![64, 100000]⟩
abbrev S1024x100000 : Shape := ⟨2, ![1024, 100000]⟩
abbrev S1024x61 : Shape := ⟨2, ![1024, 61]⟩
abbrev S1024x60 : Shape := ⟨2, ![1024, 60]⟩
abbrev S1024x60x1 : Shape := ⟨3, ![1024, 60, 1]⟩
abbrev S1x60x1 : Shape := ⟨3, ![1, 60, 1]⟩
abbrev S1x60x32 : Shape := ⟨3, ![1, 60, 32]⟩
abbrev S1024x60x32 : Shape := ⟨3, ![1024, 60, 32]⟩

class Facts : Prop where
  reducesTo_S1024x8x64_S1024x64_d1 : S1024x8x64.ReducesTo [1] S1024x64
  h_S_ : 0 < S_.numel
  bcast_S_S1024x64 : S_.BroadcastsInDim S1024x64 (![] : Fin 0 → Fin S1024x64.rank)
  reducesTo_S1024x64_S1024_d1 : S1024x64.ReducesTo [1] S1024
  bcast_S1024_S1024x1_0 : S1024.BroadcastsInDim S1024x1 (![0] : Fin 1 → Fin S1024x1.rank)
  reducesTo_S100000x64_S100000_d1 : S100000x64.ReducesTo [1] S100000
  bcast_S100000_S1x100000_1 : S100000.BroadcastsInDim S1x100000 (![1] : Fin 1 → Fin S1x100000.rank)
  transposes_S100000x64_S64x100000_1_0 : S100000x64.Transposes [1, 0] S64x100000
  bcast_S_S1024x100000 : S_.BroadcastsInDim S1024x100000 (![] : Fin 0 → Fin S1024x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  sliceFits_S1024x100000_S1024x61 : S1024x100000.Slices (fun _ => 0) S1024x61
  slices_S1024x61_S1024x60_0_0 : S1024x61.Slices ![0, 0] S1024x60
  slices_S1024x61_S1024x60_0_1 : S1024x61.Slices ![0, 1] S1024x60
  bcast_S1024x60_S1024x60x1_0_1 : S1024x60.BroadcastsInDim S1024x60x1 (![0, 1] : Fin 2 → Fin S1024x60x1.rank)
  bcast_S_S60 : S_.BroadcastsInDim S60 (![] : Fin 0 → Fin S60.rank)
  bcast_S60_S1x60x1_1 : S60.BroadcastsInDim S1x60x1 (![1] : Fin 1 → Fin S1x60x1.rank)
  bcast_S1x60x1_S1024x60x1_0_1_2 : S1x60x1.BroadcastsInDim S1024x60x1 (![0, 1, 2] : Fin 3 → Fin S1024x60x1.rank)
  bcast_S_S60x32 : S_.BroadcastsInDim S60x32 (![] : Fin 0 → Fin S60x32.rank)
  bcast_S60x32_S1x60x32_1_2 : S60x32.BroadcastsInDim S1x60x32 (![1, 2] : Fin 2 → Fin S1x60x32.rank)
  bcast_S1024x60x1_S1024x60x32_0_1_2 : S1024x60x1.BroadcastsInDim S1024x60x32 (![0, 1, 2] : Fin 3 → Fin S1024x60x32.rank)
  bcast_S1x60x32_S1024x60x32_0_1_2 : S1x60x32.BroadcastsInDim S1024x60x32 (![0, 1, 2] : Fin 3 → Fin S1024x60x32.rank)
  dot_S1024x64_S64x100000_S1024x100000_1_0_0_1_n_n_wf : DotDims.WF S1024x64 S64x100000 S1024x100000 [1] [0] [0] [1] [] []

variable [Facts]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf
def fn_part1 {F : FTy → Type} [FloatOps F] (main_arg7 : FVec F S60x32 .f32) (main_arg8 : FVec F S60 .f32) (main_v17 : FVec F S1024x100000 .f32) (main_values : FVec F S1024x61 .f32) : IVec S1024x60x32 1 :=
  let main_indices : IVec S1024x61 32 := (fun x => (Host.topK S1024x61 1 (FloatOps.cmpfTotal .gt) x sliceFits_S1024x100000_S1024x61).2) main_v17
  let main_v18 : FVec F S1024x60 .f32 := (extractStridedSlice S1024x60 ![0, 0] · slices_S1024x61_S1024x60_0_0) main_values
  let main_v19 : FVec F S1024x60 .f32 := (extractStridedSlice S1024x60 ![0, 1] · slices_S1024x61_S1024x60_0_1) main_values
  let main_v20 : IVec S1024x60 1 := cmpf .ogt main_v18 main_v19
  let main_v21 : IVec S1024x60x1 1 := broadcastInDim S1024x60x1 ![0, 1] bcast_S1024x60_S1024x60x1_0_1 main_v20
  let main_v22 : FVec F S60 .f32 := Host.absf main_arg8
  let main_cst_4 : FVec F S_ .f32 := constant S_ .f32 0x7F800000#32
  let main_v23 : FVec F S60 .f32 := broadcastInDim S60 ![] bcast_S_S60 main_cst_4
  let main_v24 : IVec S60 1 := cmpf .olt main_v22 main_v23
  let main_v25 : IVec S1x60x1 1 := broadcastInDim S1x60x1 ![1] bcast_S60_S1x60x1_1 main_v24
  let main_v26 : IVec S1024x60x1 1 := broadcastInDim S1024x60x1 ![0, 1, 2] bcast_S1x60x1_S1024x60x1_0_1_2 main_v25
  let main_v27 : IVec S1024x60x1 1 := andi main_v21 main_v26
  let main_v28 : FVec F S60x32 .f32 := Host.absf main_arg7
  let main_cst_5 : FVec F S_ .f32 := constant S_ .f32 0x7F800000#32
  let main_v29 : FVec F S60x32 .f32 := broadcastInDim S60x32 ![] bcast_S_S60x32 main_cst_5
  let main_v30 : IVec S60x32 1 := cmpf .olt main_v28 main_v29
  let main_v31 : IVec S1x60x32 1 := broadcastInDim S1x60x32 ![1, 2] bcast_S60x32_S1x60x32_1_2 main_v30
  let main_v32 : IVec S1024x60x32 1 := broadcastInDim S1024x60x32 ![0, 1, 2] bcast_S1024x60x1_S1024x60x32_0_1_2 main_v27
  let main_v33 : IVec S1024x60x32 1 := broadcastInDim S1024x60x32 ![0, 1, 2] bcast_S1x60x32_S1024x60x32_0_1_2 main_v31
  let main_v34 : IVec S1024x60x32 1 := andi main_v32 main_v33
  main_v34

def fn {F : FTy → Type} [FloatOps F] (main_arg0 : FVec F S1024 .f32) (main_arg1 : FVec F S1024x8x64 .f32) (main_arg2 : FVec F S1024x8x17 .f32) (main_arg3 : FVec F S100000x64 .f32) (main_arg4 : FVec F S100000 .f32) (main_arg5 : FVec F S32x60 .f32) (main_arg6 : FVec F S32 .f32) (main_arg7 : FVec F S60x32 .f32) (main_arg8 : FVec F S60 .f32) (main_arg9 : FVec F S32x60 .f32) (main_arg10 : FVec F S32 .f32) (main_arg11 : FVec F S1x32 .f32) (main_arg12 : FVec F S1 .f32) (main_arg13 : FVec F S32x70 .f32) (main_arg14 : FVec F S32 .f32) (main_arg15 : FVec F S1x32 .f32) (main_arg16 : FVec F S1 .f32) : IVec S1024x60x32 1 :=
  let main_cst : FVec F S_ .f32 := constant S_ .f32 0x00000000#32
  let main_v0 : FVec F S1024x64 .f32 := (fun x v => Host.reduceAdd x v reducesTo_S1024x8x64_S1024x64_d1 h_S_) main_arg1 main_cst
  let main_cst_0 : FVec F S_ .f32 := constant S_ .f32 0x41000000#32
  let main_v1 : FVec F S1024x64 .f32 := broadcastInDim S1024x64 ![] bcast_S_S1024x64 main_cst_0
  let main_v2 : FVec F S1024x64 .f32 := Host.divf main_v0 main_v1
  let main_v3 : FVec F S1024x64 .f32 := mulf main_v2 main_v2
  let main_cst_1 : FVec F S_ .f32 := constant S_ .f32 0x00000000#32
  let main_v4 : FVec F S1024 .f32 := (fun x v => Host.reduceAdd x v reducesTo_S1024x64_S1024_d1 h_S_) main_v3 main_cst_1
  let main_v5 : FVec F S1024x1 .f32 := broadcastInDim S1024x1 ![0] bcast_S1024_S1024x1_0 main_v4
  let main_v6 : FVec F S100000x64 .f32 := mulf main_arg3 main_arg3
  let main_cst_2 : FVec F S_ .f32 := constant S_ .f32 0x00000000#32
  let main_v7 : FVec F S100000 .f32 := (fun x v => Host.reduceAdd x v reducesTo_S100000x64_S100000_d1 h_S_) main_v6 main_cst_2
  let main_v8 : FVec F S1x100000 .f32 := broadcastInDim S1x100000 ![1] bcast_S100000_S1x100000_1 main_v7
  let main_v9 : FVec F S64x100000 .f32 := (transpose S64x100000 [1, 0] · transposes_S100000x64_S64x100000_1_0) main_arg3
  let main_v10 : FVec F S1024x100000 .f32 := (fun l r => Host.dotGeneral dot_S1024x64_S64x100000_S1024x100000_1_0_0_1_n_n none l r) main_v2 main_v9
  let main_cst_3 : FVec F S_ .f32 := constant S_ .f32 0x40000000#32
  let main_v11 : FVec F S1024x100000 .f32 := broadcastInDim S1024x100000 ![] bcast_S_S1024x100000 main_cst_3
  let main_v12 : FVec F S1024x100000 .f32 := mulf main_v11 main_v10
  let main_v13 : FVec F S1024x100000 .f32 := broadcastInDim S1024x100000 ![0, 1] bcast_S1024x1_S1024x100000_0_1 main_v5
  let main_v14 : FVec F S1024x100000 .f32 := subf main_v13 main_v12
  let main_v15 : FVec F S1024x100000 .f32 := broadcastInDim S1024x100000 ![0, 1] bcast_S1x100000_S1024x100000_0_1 main_v8
  let main_v16 : FVec F S1024x100000 .f32 := addf main_v14 main_v15
  let main_v17 : FVec F S1024x100000 .f32 := Host.negf main_v16
  let main_values : FVec F S1024x61 .f32 := (fun x => (Host.topK S1024x61 1 (FloatOps.cmpfTotal .gt) x sliceFits_S1024x100000_S1024x61).1) main_v17
  fn_part1 (F := F) main_arg7 main_arg8 main_v17 main_values
-- ==== KernelIdeal.lean ====
abbrev S1024 : Shape := ⟨1, ![1024]⟩
abbrev S1024x8x64 : Shape := ⟨3, ![1024, 8, 64]⟩
abbrev S1024x8x17 : Shape := ⟨3, ![1024, 8, 17]⟩
abbrev S100000x64 : Shape := ⟨2, ![100000, 64]⟩
abbrev S100000 : Shape := ⟨1, ![100000]⟩
abbrev S32x60 : Shape := ⟨2, ![32, 60]⟩
abbrev S32 : Shape := ⟨1, ![32]⟩
abbrev S60x32 : Shape := ⟨2, ![60, 32]⟩
abbrev S60 : Shape := ⟨1, ![60]⟩
abbrev S1x32 : Shape := ⟨2, ![1, 32]⟩
abbrev S1 : Shape := ⟨1, ![1]⟩
abbrev S32x70 : Shape := ⟨2, ![32, 70]⟩
abbrev S1024x512 : Shape := ⟨2, ![1024, 512]⟩
abbrev S64x100000 : Shape := ⟨2, ![64, 100000]⟩
abbrev S_ : Shape := ⟨0, ![]⟩
abbrev S64x102400 : Shape := ⟨2, ![64, 102400]⟩
abbrev S1024x64 : Shape := ⟨2, ![1024, 64]⟩
abbrev S64x4096 : Shape := ⟨2, ![64, 4096]⟩
abbrev S1024x1 : Shape := ⟨2, ![1024, 1]⟩
abbrev S1024x4096 : Shape := ⟨2, ![1024, 4096]⟩
abbrev S4096 : Shape := ⟨1, ![4096]⟩
abbrev S1x4096 : Shape := ⟨2, ![1, 4096]⟩
abbrev S1x64 : Shape := ⟨2, ![1, 64]⟩
abbrev S1x128 : Shape := ⟨2, ![1, 128]⟩
abbrev S1x1024x4096 : Shape := ⟨3, ![1, 1024, 4096]⟩
abbrev S1x1x1 : Shape := ⟨3, ![1, 1, 1]⟩
abbrev S1024x128 : Shape := ⟨2, ![1024, 128]⟩
abbrev S1x1024x128 : Shape := ⟨3, ![1, 1024, 128]⟩
abbrev S65536 : Shape := ⟨1, ![65536]⟩
abbrev S65536x1 : Shape := ⟨2, ![65536, 1]⟩
abbrev S1x1 : Shape := ⟨2, ![1, 1]⟩
abbrev S64x32 : Shape := ⟨2, ![64, 32]⟩
abbrev S32x64 : Shape := ⟨2, ![32, 64]⟩
abbrev S64 : Shape := ⟨1, ![64]⟩
abbrev S32x8 : Shape := ⟨2, ![32, 8]⟩
abbrev S8x32 : Shape := ⟨2, ![8, 32]⟩
abbrev S1x1x1x32 : Shape := ⟨4, ![1, 1, 1, 32]⟩
abbrev S8x1x1x32 : Shape := ⟨4, ![8, 1, 1, 32]⟩
abbrev S1x1x1x64 : Shape := ⟨4, ![1, 1, 1, 64]⟩
abbrev S8x1x1x64 : Shape := ⟨4, ![8, 1, 1, 64]⟩
abbrev S8x64 : Shape := ⟨2, ![8, 64]⟩
abbrev S1x1x1x1 : Shape := ⟨4, ![1, 1, 1, 1]⟩
abbrev S8x1x1x1 : Shape := ⟨4, ![8, 1, 1, 1]⟩
abbrev S8x1 : Shape := ⟨2, ![8, 1]⟩
abbrev S32x1 : Shape := ⟨2, ![32, 1]⟩
abbrev S1024x136 : Shape := ⟨2, ![1024, 136]⟩
abbrev S1024x32 : Shape := ⟨2, ![1024, 32]⟩
abbrev S1024x17 : Shape := ⟨2, ![1024, 17]⟩
abbrev S1x17 : Shape := ⟨2, ![1, 17]⟩

abbrev nBuf : Space → Nat
  | .hbm => 121
  | .vmem => 33
  | .smem => 0
  | _ => 0

abbrev bufTy : (tb : Table) → Fin (tcTables nBuf tb) → BufTy
  | .hbm, ⟨0, _⟩ => ⟨S1024, .f32⟩
  | .hbm, ⟨1, _⟩ => ⟨S1024x8x64, .f32⟩
  | .hbm, ⟨2, _⟩ => ⟨S1024x8x17, .f32⟩
  | .hbm, ⟨3, _⟩ => ⟨S100000x64, .f32⟩
  | .hbm, ⟨4, _⟩ => ⟨S100000, .f32⟩
  | .hbm, ⟨5, _⟩ => ⟨S32x60, .f32⟩
  | .hbm, ⟨6, _⟩ => ⟨S32, .f32⟩
  | .hbm, ⟨7, _⟩ => ⟨S60x32, .f32⟩
  | .hbm, ⟨8, _⟩ => ⟨S60, .f32⟩
  | .hbm, ⟨9, _⟩ => ⟨S32x60, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S32x70, .f32⟩
  | .hbm, ⟨14, _⟩ => ⟨S32, .f32⟩
  | .hbm, ⟨15, _⟩ => ⟨S1x32, .f32⟩
  | .hbm, ⟨16, _⟩ => ⟨S1, .f32⟩
  | .hbm, ⟨17, _⟩ => ⟨S1024x512, .f32⟩
  | .hbm, ⟨18, _⟩ => ⟨S64x100000, .f32⟩
  | .hbm, ⟨19, _⟩ => ⟨S_, .i32⟩
  | .hbm, ⟨20, _⟩ => ⟨S_, .f32⟩
  | .hbm, ⟨21, _⟩ => ⟨S64x102400, .f32⟩
  | .hbm, ⟨22, _⟩ => ⟨S1024x64, .f32⟩
  | .hbm, ⟨23, _⟩ => ⟨S1024x64, .i32⟩
  | .hbm, ⟨24, _⟩ => ⟨S65536, .i32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S65536x1, .i32⟩
  | .hbm, ⟨33, _⟩ => ⟨S1, .i32⟩
  | .hbm, ⟨34, _⟩ => ⟨S_, .i32⟩
  | .hbm, ⟨35, _⟩ => ⟨S65536x1, .i32⟩
  | .hbm, ⟨36, _⟩ => ⟨S65536x1, .i1⟩
  | .hbm, ⟨37, _⟩ => ⟨S1x1, .i32⟩
  | .hbm, ⟨38, _⟩ => ⟨S65536x1, .i32⟩
  | .hbm, ⟨39, _⟩ => ⟨S65536x1, .i1⟩
  | .hbm, ⟨40, _⟩ => ⟨S65536x1, .i1⟩
  | .hbm, ⟨41, _⟩ => ⟨S_, .i1⟩
  | .hbm, ⟨42, _⟩ => ⟨S65536, .i1⟩
  | .hbm, ⟨43, _⟩ => ⟨S65536, .f32⟩
  | .hbm, ⟨44, _⟩ => ⟨S_, .f32⟩
  | .hbm, ⟨45, _⟩ => ⟨S65536, .f32⟩
  | .hbm, ⟨46, _⟩ => ⟨S65536, .f32⟩
  | .hbm, ⟨47, _⟩ => ⟨S1024x64, .f32⟩
  | .hbm, ⟨48, _⟩ => ⟨S60x32, .f32⟩
  | .hbm, ⟨49, _⟩ => ⟨S_, .i32⟩
  | .hbm, ⟨50, _⟩ => ⟨S_, .f32⟩
  | .hbm, ⟨51, _⟩ => ⟨S64x32, .f32⟩
  | .hbm, ⟨52, _⟩ => ⟨S32x60, .f32⟩
  | .hbm, ⟨53, _⟩ => ⟨S_, .i32⟩
  | .hbm, ⟨54, _⟩ => ⟨S_, .f32⟩
  | .hbm, ⟨55, _⟩ => ⟨S32x64, .f32⟩
  | .hbm, ⟨56, _⟩ => ⟨S_, .i32⟩
  | .hbm, ⟨57, _⟩ => ⟨S_, .f32⟩
  | .hbm, ⟨58, _⟩ => ⟨S64, .f32⟩
  | .hbm, ⟨59, _⟩ => ⟨S60x32, .f32⟩
  | .hbm, ⟨60, _⟩ => ⟨S_, .i32⟩
  | .hbm, ⟨61, _⟩ => ⟨S_, .f32⟩
  | .hbm, ⟨62, _⟩ => ⟨S64x32, .f32⟩
  | .hbm, ⟨63, _⟩ => ⟨S32x60, .f32⟩
  | .hbm, ⟨64, _⟩ => ⟨S60x32, .f32⟩
  | .hbm, ⟨65, _⟩ => ⟨S_, .i32⟩
  | .hbm, ⟨66, _⟩ => ⟨S_, .f32⟩
  | .hbm, ⟨67, _⟩ => ⟨S64x32, .f32⟩
  | .hbm, ⟨68, _⟩ => ⟨S32x8, .f32⟩
  | .hbm, ⟨69, _⟩ => ⟨S8x32, .f32⟩
  | .hbm, ⟨70, _⟩ => ⟨S1x32, .f32⟩
  | .hbm, ⟨71, _⟩ => ⟨S1x1x1x32, .f32⟩
  | .hbm, ⟨72, _⟩ => ⟨S8x1x1x32, .f32⟩
  | .hbm, ⟨73, _⟩ => ⟨S8x32, .f32⟩
  | .hbm, ⟨74, _⟩ => ⟨S1x64, .f32⟩
  | .hbm, ⟨75, _⟩ => ⟨S1x1x1x64, .f32⟩
  | .hbm, ⟨76, _⟩ => ⟨S8x1x1x64, .f32⟩
  | .hbm, ⟨77, _⟩ => ⟨S8x64, .f32⟩
  | .hbm, ⟨78, _⟩ => ⟨S1x32, .f32⟩
  | .hbm, ⟨79, _⟩ => ⟨S1x1x1x32, .f32⟩
  | .hbm, ⟨80, _⟩ => ⟨S8x1x1x32, .f32⟩
  | .hbm, ⟨81, _⟩ => ⟨S8x32, .f32⟩
  | .hbm, ⟨82, _⟩ => ⟨S1x1x1x32, .f32⟩
  | .hbm, ⟨83, _⟩ => ⟨S8x1x1x32, .f32⟩
  | .hbm, ⟨84, _⟩ => ⟨S8x32, .f32⟩
  | .hbm, ⟨85, _⟩ => ⟨S1x1, .f32⟩
  | .hbm, ⟨86, _⟩ => ⟨S1x1x1x1, .f32⟩
  | .hbm, ⟨87, _⟩ => ⟨S8x1x1x1, .f32⟩
  | .hbm, ⟨88, _⟩ => ⟨S8x1, .f32⟩
  | .hbm, ⟨89, _⟩ => ⟨S32x1, .f32⟩
  | .hbm, ⟨90, _⟩ => ⟨S32, .f32⟩
  | .hbm, ⟨91, _⟩ => ⟨S1x32, .f32⟩
  | .hbm, ⟨92, _⟩ => ⟨S1x1x1x32, .f32⟩
  | .hbm, ⟨93, _⟩ => ⟨S8x1x1x32, .f32⟩
  | .hbm, ⟨94, _⟩ => ⟨S8x32, .f32⟩
  | .hbm, ⟨95, _⟩ => ⟨S32x1, .f32⟩
  | .hbm, ⟨96, _⟩ => ⟨S32, .f32⟩
  | .hbm, ⟨97, _⟩ => ⟨S1x32, .f32⟩
  | .hbm, ⟨98, _⟩ => ⟨S1x1x1x32, .f32⟩
  | .hbm, ⟨99, _⟩ => ⟨S8x1x1x32, .f32⟩
  | .hbm, ⟨100, _⟩ => ⟨S8x32, .f32⟩
  | .hbm, ⟨101, _⟩ => ⟨S1x32, .f32⟩
  | .hbm, ⟨102, _⟩ => ⟨S1x1x1x32, .f32⟩
  | .hbm, ⟨103, _⟩ => ⟨S8x1x1x32, .f32⟩
  | .hbm, ⟨104, _⟩ => ⟨S8x32, .f32⟩
  | .hbm, ⟨105, _⟩ => ⟨S1x1x1x32, .f32⟩
  | .hbm, ⟨106, _⟩ => ⟨S8x1x1x32, .f32⟩
  | .hbm, ⟨107, _⟩ => ⟨S8x32, .f32⟩
  | .hbm, ⟨108, _⟩ => ⟨S1x1, .f32⟩
  | .hbm, ⟨109, _⟩ => ⟨S1x1x1x1, .f32⟩
  | .hbm, ⟨110, _⟩ => ⟨S8x1x1x1, .f32⟩
  | .hbm, ⟨111, _⟩ => ⟨S8x1, .f32⟩
  | .hbm, ⟨112, _⟩ => ⟨S1024x1, .f32⟩
  | .hbm, ⟨113, _⟩ => ⟨S1024x136, .f32⟩
  | .hbm, ⟨114, _⟩ => ⟨S1024x1, .f32⟩
  | .hbm, ⟨115, _⟩ => ⟨S1024x1, .f32⟩
  | .hbm, ⟨116, _⟩ => ⟨S1024x1, .f32⟩
  | .hbm, ⟨117, _⟩ => ⟨S1024x1, .f32⟩
  | .hbm, ⟨118, _⟩ => ⟨S1024, .f32⟩
  | .hbm, ⟨119, _⟩ => ⟨S1024, .f32⟩
  | .hbm, ⟨120, _⟩ => ⟨S1024, .f32⟩
  | .local _ .vmem, ⟨0, _⟩ => ⟨S1024x512, .f32⟩
  | .local _ .vmem, ⟨1, _⟩ => ⟨S64x4096, .f32⟩
  | .local _ .vmem, ⟨2, _⟩ => ⟨S64x4096, .f32⟩
  | .local _ .vmem, ⟨3, _⟩ => ⟨S1024x64, .f32⟩
  | .local _ .vmem, ⟨4, _⟩ => ⟨S1024x64, .i32⟩
  | .local _ .vmem, ⟨5, _⟩ => ⟨S1024x64, .f32⟩
  | .local _ .vmem, ⟨6, _⟩ => ⟨S1024x1, .f32⟩
  | .local _ .vmem, ⟨7, _⟩ => ⟨S1024x64, .f32⟩
  | .local _ .vmem, ⟨8, _⟩ => ⟨S1024x64, .f32⟩
  | .local _ .vmem, ⟨9, _⟩ => ⟨S1024x4096, .f32⟩
  | .local _ .vmem, ⟨10, _⟩ => ⟨S1024x64, .f32⟩
  | .local _ .vmem, ⟨11, _⟩ => ⟨S1024x64, .f32⟩
  | .local _ .vmem, ⟨12, _⟩ => ⟨S1024x1, .f32⟩
  | .local _ .vmem, ⟨13, _⟩ => ⟨S1024x136, .f32⟩
  | .local _ .vmem, ⟨14, _⟩ => ⟨S64x32, .f32⟩
  | .local _ .vmem, ⟨15, _⟩ => ⟨S8x32, .f32⟩
  | .local _ .vmem, ⟨16, _⟩ => ⟨S32x64, .f32⟩
  | .local _ .vmem, ⟨17, _⟩ => ⟨S8x64, .f32⟩
  | .local _ .vmem, ⟨18, _⟩ => ⟨S64x32, .f32⟩
  | .local _ .vmem, ⟨19, _⟩ => ⟨S8x32, .f32⟩
  | .local _ .vmem, ⟨20, _⟩ => ⟨S8x32, .f32⟩
  | .local _ .vmem, ⟨21, _⟩ => ⟨S8x1, .f32⟩
  | .local _ .vmem, ⟨22, _⟩ => ⟨S64x32, .f32⟩
  | .local _ .vmem, ⟨23, _⟩ => ⟨S8x32, .f32⟩
  | .local _ .vmem, ⟨24, _⟩ => ⟨S8x32, .f32⟩
  | .local _ .vmem, ⟨25, _⟩ => ⟨S8x32, .f32⟩
  | .local _ .vmem, ⟨26, _⟩ => ⟨S8x32, .f32⟩
  | .local _ .vmem, ⟨27, _⟩ => ⟨S8x32, .f32⟩
  | .local _ .vmem, ⟨28, _⟩ => ⟨S8x1, .f32⟩
  | .local _ .vmem, ⟨29, _⟩ => ⟨S1024x1, .f32⟩
  | .local _ .vmem, ⟨30, _⟩ => ⟨S1024x1, .f32⟩
  | .local _ .vmem, ⟨31, _⟩ => ⟨S1024x1, .f32⟩
  | .local _ .vmem, ⟨32, _⟩ => ⟨S1024x1, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_call0_v0 : Ref sig .tc := ⟨.hbm, 20, rfl⟩
abbrev main_v2 : Ref sig .tc := ⟨.hbm, 21, rfl⟩
abbrev main_v3_0 : Ref sig .tc := ⟨.hbm, 22, rfl⟩
abbrev main_v3_1 : Ref sig .tc := ⟨.hbm, 23, rfl⟩
abbrev main_v4 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_c_0 : Ref sig .tc := ⟨.hbm, 49, rfl⟩
abbrev main_call2_v0 : Ref sig .tc := ⟨.hbm, 50, rfl⟩
abbrev main_v8 : Ref sig .tc := ⟨.hbm, 51, rfl⟩
abbrev main_v9 : Ref sig .tc := ⟨.hbm, 52, rfl⟩
abbrev main_c_1 : Ref sig .tc := ⟨.hbm, 53, rfl⟩
abbrev main_call3_v0 : Ref sig .tc := ⟨.hbm, 54, rfl⟩
abbrev main_v10 : Ref sig .tc := ⟨.hbm, 55, rfl⟩
abbrev main_c_2 : Ref sig .tc := ⟨.hbm, 56, rfl⟩
abbrev main_call4_v0 : Ref sig .tc := ⟨.hbm, 57, rfl⟩
abbrev main_v11 : Ref sig .tc := ⟨.hbm, 58, rfl⟩
abbrev main_v12 : Ref sig .tc := ⟨.hbm, 59, rfl⟩
abbrev main_c_3 : Ref sig .tc := ⟨.hbm, 60, rfl⟩
abbrev main_call5_v0 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_4 : Ref sig .tc := ⟨.hbm, 65, rfl⟩
abbrev main_call6_v0 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63_0 : Ref sig .tc := ⟨.hbm, 114, rfl⟩
abbrev main_v63_1 : Ref sig .tc := ⟨.hbm, 115, rfl⟩
abbrev main_v63_2 : Ref sig .tc := ⟨.hbm, 116, rfl⟩
abbrev main_v63_3 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc1_stg16_0 : Ref sig .tc := ⟨.vmem, 26, rfl⟩
abbrev cc1_stg17_0 : Ref sig .tc := ⟨.vmem, 27, rfl⟩
abbrev cc1_stg18_0 : Ref sig .tc := ⟨.vmem, 28, rfl⟩
abbrev cc1_stg19_0 : Ref sig .tc := ⟨.vmem, 29, rfl⟩
abbrev cc1_stg20_0 : Ref sig .tc := ⟨.vmem, 30, rfl⟩
abbrev cc1_stg21_0 : Ref sig .tc := ⟨.vmem, 31, rfl⟩
abbrev cc1_stg22_0 : Ref sig .tc := ⟨.vmem, 32, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem13_0 : DmaSem sig := 18
abbrev cc1_sem14_0 : DmaSem sig := 19
abbrev cc1_sem15_0 : DmaSem sig := 20
abbrev cc1_sem16_0 : DmaSem sig := 21
abbrev cc1_sem17_0 : DmaSem sig := 22
abbrev cc1_sem18_0 : DmaSem sig := 23
abbrev cc1_sem19_0 : DmaSem sig := 24
abbrev cc1_sem20_0 : DmaSem sig := 25
abbrev cc1_sem21_0 : DmaSem sig := 26
abbrev cc1_sem22_0 : DmaSem sig := 27

abbrev nD : Nat := 1
abbrev τ : Topo := Topo.v7x

variable {F : FTy → Type} [FloatOps F] [Named F]

def κ : String → Option EReal := fun
  | "inf" => some ⊤
  | "neg_inf" => some ⊥
  | _ => none

abbrev grid0 : Pipeline.Grid := ⟨1, ![25], ![false]⟩

def k0_cond34 (i : grid0.Coords) : BitVec 1 :=
  let arg0 : BitVec 32 := BitVec.ofNat 32 (i 0).val
  let c24_i32 : BitVec 32 := 24#32
  let v47 : BitVec 1 := Scalar.cmpi .eq arg0 c24_i32
  let v48 : BitVec 32 := Scalar.extui v47
  let c0_i32_17 : BitVec 32 := 0#32
  let v49 : BitVec 1 := Scalar.cmpi .ne v48 c0_i32_17
  v49

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := .none

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x136 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S32x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S64x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S8x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S64x32 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S8x32 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S8x32 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S8x32 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S8x32 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S8x32 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S8x1 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev stage1_19 : Fin 1 → Memref sig .tc .vmem S1024x1 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))

abbrev stage1_20 : Fin 1 → Memref sig .tc .vmem S1024x1 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))

abbrev stage1_21 : Fin 1 → Memref sig .tc .vmem S1024x1 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))

abbrev stage1_22 : Fin 1 → Memref sig .tc .vmem S1024x1 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
-- ==== ReferenceIdeal.lean ====
abbrev S1024 : Shape := ⟨1, ![1024]⟩
abbrev S1024x8x64 : Shape := ⟨3, ![1024, 8, 64]⟩
abbrev S1024x8x17 : Shape := ⟨3, ![1024, 8, 17]⟩
abbrev S100000x64 : Shape := ⟨2, ![100000, 64]⟩
abbrev S100000 : Shape := ⟨1, ![100000]⟩
abbrev S32x60 : Shape := ⟨2, ![32, 60]⟩
abbrev S32 : Shape := ⟨1, ![32]⟩
abbrev S60x32 : Shape := ⟨2, ![60, 32]⟩
abbrev S60 : Shape := ⟨1, ![60]⟩
abbrev S1x32 : Shape := ⟨2, ![1, 32]⟩
abbrev S1 : Shape := ⟨1, ![1]⟩
abbrev S32x70 : Shape := ⟨2, ![32, 70]⟩
abbrev S_ : Shape := ⟨0, ![]⟩
abbrev S1024x64 : Shape := ⟨2, ![1024, 64]⟩
abbrev S1024x1 : Shape := ⟨2, ![1024, 1]⟩
abbrev S1x100000 : Shape := ⟨2, ![1, 100000]⟩
abbrev S64x100000 : Shape := ⟨2, ![64, 100000]⟩
abbrev S1024x100000 : Shape := ⟨2, ![1024, 100000]⟩
abbrev S1024x60 : Shape := ⟨2, ![1024, 60]⟩
abbrev S1024x60x1 : Shape := ⟨3, ![1024, 60, 1]⟩
abbrev S1x1x1 : Shape := ⟨3, ![1, 1, 1]⟩
abbrev S1024x32 : Shape := ⟨2, ![1024, 32]⟩
abbrev S1x60 : Shape := ⟨2, ![1, 60]⟩
abbrev S32x1 : Shape := ⟨2, ![32, 1]⟩
abbrev S1x1 : Shape := ⟨2, ![1, 1]⟩
abbrev S1024x17 : Shape := ⟨2, ![1024, 17]⟩
abbrev S1024x2 : Shape := ⟨2, ![1024, 2]⟩
abbrev S1024x2x1 : Shape := ⟨3, ![1024, 2, 1]⟩
abbrev S1024x8 : Shape := ⟨2, ![1024, 8]⟩
abbrev S1024x10 : Shape := ⟨2, ![1024, 10]⟩
abbrev S1024x70 : Shape := ⟨2, ![1024, 70]⟩
abbrev S70x32 : Shape := ⟨2, ![70, 32]⟩

abbrev nBuf : Space → Nat
  | .hbm => 206
  | .vmem => 0
  | .smem => 0
  | _ => 0

abbrev hbmTy0_0 (i : Nat) : BufTy := match i % 128 with
  | 0 => ⟨S1024, .f32⟩
  | 1 => ⟨S1024x8x64, .f32⟩
  | 2 => ⟨S1024x8x17, .f32⟩
  | 3 => ⟨S100000x64, .f32⟩
  | 4 => ⟨S100000, .f32⟩
  | 5 => ⟨S32x60, .f32⟩
  | 6 => ⟨S32, .f32⟩
  | 7 => ⟨S60x32, .f32⟩
  | 8 => ⟨S60, .f32⟩
  | 9 => ⟨S32x60, .f32⟩
  | 10 => ⟨S32, .f32⟩
  | 11 => ⟨S1x32, .f32⟩
  | 12 => ⟨S1, .f32⟩
  | 13 => ⟨S32x70, .f32⟩
  | 14 => ⟨S32, .f32⟩
  | 15 => ⟨S1x32, .f32⟩
  | 16 => ⟨S1, .f32⟩
  | 17 => ⟨S_, .f32⟩
  | 18 => ⟨S1024x64, .f32⟩
  | 19 => ⟨S_, .f32⟩
  | 20 => ⟨S1024x64, .f32⟩
  | 21 => ⟨S1024x64, .f32⟩
  | 22 => ⟨S1024x64, .f32⟩
  | 23 => ⟨S_, .f32⟩
  | 24 => ⟨S1024, .f32⟩
  | 25 => ⟨S1024x1, .f32⟩
  | 26 => ⟨S100000x64, .f32⟩
  | 27 => ⟨S_, .f32⟩
  | 28 => ⟨S100000, .f32⟩
  | 29 => ⟨S1x100000, .f32⟩
  | 30 => ⟨S64x100000, .f32⟩
  | 31 => ⟨S1024x100000, .f32⟩
  | 32 => ⟨S_, .f32⟩
  | 33 => ⟨S1024x100000, .f32⟩
  | 34 => ⟨S1024x100000, .f32⟩
  | 35 => ⟨S1024x100000, .f32⟩
  | 36 => ⟨S1024x100000, .f32⟩
  | 37 => ⟨S1024x100000, .f32⟩
  | 38 => ⟨S1024x100000, .f32⟩
  | 39 => ⟨S1024x100000, .f32⟩
  | 40 => ⟨S1024x60, .f32⟩
  | 41 => ⟨S1024x60, .i32⟩
  | 42 => ⟨S1024x60, .f32⟩
  | 43 => ⟨S_, .i32⟩
  | 44 => ⟨S1024x60, .i32⟩
  | 45 => ⟨S1024x60, .i1⟩
  | 46 => ⟨S_, .i32⟩
  | 47 => ⟨S1024x60, .i32⟩
  | 48 => ⟨S1024x60, .i32⟩
  | 49 => ⟨S1024x60, .i32⟩
  | 50 => ⟨S1024x60x1, .i32⟩
  | 51 => ⟨S1, .i32⟩
  | 52 => ⟨S_, .i32⟩
  | 53 => ⟨S1024x60x1, .i32⟩
  | 54 => ⟨S1024x60x1, .i1⟩
  | 55 => ⟨S1x1x1, .i32⟩
  | 56 => ⟨S1024x60x1, .i32⟩
  | 57 => ⟨S1024x60x1, .i1⟩
  | 58 => ⟨S1024x60x1, .i1⟩
  | 59 => ⟨S_, .i1⟩
  | 60 => ⟨S1024x60, .i1⟩
  | 61 => ⟨S1024x60, .f32⟩
  | 62 => ⟨S_, .f32⟩
  | 63 => ⟨S1024x60, .f32⟩
  | 64 => ⟨S1024x60, .f32⟩
  | 65 => ⟨S60x32, .f32⟩
  | 66 => ⟨S1024x32, .f32⟩
  | 67 => ⟨S1x32, .f32⟩
  | 68 => ⟨S1024x32, .f32⟩
  | 69 => ⟨S1024x32, .f32⟩
  | 70 => ⟨S1024x32, .f32⟩
  | 71 => ⟨S32x60, .f32⟩
  | 72 => ⟨S1024x60, .f32⟩
  | 73 => ⟨S1x60, .f32⟩
  | 74 => ⟨S1024x60, .f32⟩
  | 75 => ⟨S1024x60, .f32⟩
  | 76 => ⟨S_, .f32⟩
  | 77 => ⟨S1024, .f32⟩
  | 78 => ⟨S_, .f32⟩
  | 79 => ⟨S1024, .f32⟩
  | 80 => ⟨S1024, .f32⟩
  | 81 => ⟨S1024x1, .f32⟩
  | 82 => ⟨S1024x60, .f32⟩
  | 83 => ⟨S1024x60, .f32⟩
  | 84 => ⟨S1024x60, .f32⟩
  | 85 => ⟨S_, .f32⟩
  | 86 => ⟨S1024, .f32⟩
  | 87 => ⟨S1024x1, .f32⟩
  | 88 => ⟨S1024x60, .f32⟩
  | 89 => ⟨S1024x60, .f32⟩
  | 90 => ⟨S1024x60, .f32⟩
  | 91 => ⟨S_, .f32⟩
  | 92 => ⟨S1024, .f32⟩
  | 93 => ⟨S60x32, .f32⟩
  | 94 => ⟨S1024x32, .f32⟩
  | 95 => ⟨S1x32, .f32⟩
  | 96 => ⟨S1024x32, .f32⟩
  | 97 => ⟨S1024x32, .f32⟩
  | 98 => ⟨S1024x32, .f32⟩
  | 99 => ⟨S32x1, .f32⟩
  | 100 => ⟨S1024x1, .f32⟩
  | 101 => ⟨S1x1, .f32⟩
  | 102 => ⟨S1024x1, .f32⟩
  | 103 => ⟨S1024x1, .f32⟩
  | 104 => ⟨S_, .f32⟩
  | 105 => ⟨S1024x17, .f32⟩
  | 106 => ⟨S_, .f32⟩
  | 107 => ⟨S1024x17, .f32⟩
  | 108 => ⟨S1024x17, .f32⟩
  | 109 => ⟨S_, .f32⟩
  | 110 => ⟨S1024, .f32⟩
  | 111 => ⟨S1024, .f32⟩
  | 112 => ⟨S_, .f32⟩
  | 113 => ⟨S1024, .f32⟩
  | 114 => ⟨S1024, .f32⟩
  | 115 => ⟨S_, .f32⟩
  | 116 => ⟨S_, .f32⟩
  | 117 => ⟨S_, .f32⟩
  | 118 => ⟨S1024, .f32⟩
  | 119 => ⟨S1024, .f32⟩
  | 120 => ⟨S_, .f32⟩
  | 121 => ⟨S1024, .f32⟩
  | 122 => ⟨S1024, .f32⟩
  | 123 => ⟨S1024, .i32⟩
  | 124 => ⟨S_, .f32⟩
  | 125 => ⟨S1024, .f32⟩
  | 126 => ⟨S1024, .f32⟩
  | 127 => ⟨S_, .f32⟩
  | _ => ⟨S1024, .f32⟩

abbrev hbmTy0_1 (i : Nat) : BufTy := match i % 128 with
  | 0 => ⟨S1024, .f32⟩
  | 1 => ⟨S1024, .f32⟩
  | 2 => ⟨S_, .f32⟩
  | 3 => ⟨S_, .f32⟩
  | 4 => ⟨S_, .f32⟩
  | 5 => ⟨S1024, .f32⟩
  | 6 => ⟨S1024, .f32⟩
  | 7 => ⟨S_, .f32⟩
  | 8 => ⟨S1024, .f32⟩
  | 9 => ⟨S1024, .f32⟩
  | 10 => ⟨S1024, .i32⟩
  | 11 => ⟨S1024x1, .i32⟩
  | 12 => ⟨S1024x1, .i32⟩
  | 13 => ⟨S1024x2, .i32⟩
  | 14 => ⟨S_, .i32⟩
  | 15 => ⟨S1024x2, .i32⟩
  | 16 => ⟨S1024x2, .i1⟩
  | 17 => ⟨S_, .i32⟩
  | 18 => ⟨S1024x2, .i32⟩
  | 19 => ⟨S1024x2, .i32⟩
  | 20 => ⟨S1024x2, .i32⟩
  | 21 => ⟨S1024x2x1, .i32⟩
  | 22 => ⟨S1, .i32⟩
  | 23 => ⟨S_, .i32⟩
  | 24 => ⟨S1024x2x1, .i32⟩
  | 25 => ⟨S1024x2x1, .i1⟩
  | 26 => ⟨S1x1x1, .i32⟩
  | 27 => ⟨S1024x2x1, .i32⟩
  | 28 => ⟨S1024x2x1, .i1⟩
  | 29 => ⟨S1024x2x1, .i1⟩
  | 30 => ⟨S_, .i1⟩
  | 31 => ⟨S1024x2, .i1⟩
  | 32 => ⟨S1024x2, .f32⟩
  | 33 => ⟨S_, .f32⟩
  | 34 => ⟨S1024x2, .f32⟩
  | 35 => ⟨S1024x2, .f32⟩
  | 36 => ⟨S1024x8, .f32⟩
  | 37 => ⟨S1024x8, .i32⟩
  | 38 => ⟨S1024x10, .f32⟩
  | 39 => ⟨S1024x70, .f32⟩
  | 40 => ⟨S70x32, .f32⟩
  | 41 => ⟨S1024x32, .f32⟩
  | 42 => ⟨S1x32, .f32⟩
  | 43 => ⟨S1024x32, .f32⟩
  | 44 => ⟨S1024x32, .f32⟩
  | 45 => ⟨S1024x32, .f32⟩
  | 46 => ⟨S32x1, .f32⟩
  | 47 => ⟨S1024x1, .f32⟩
  | 48 => ⟨S1x1, .f32⟩
  | 49 => ⟨S1024x1, .f32⟩
  | 50 => ⟨S1024x1, .f32⟩
  | 51 => ⟨S1024x2, .f32⟩
  | 52 => ⟨S_, .f32⟩
  | 53 => ⟨S1024, .f32⟩
  | 54 => ⟨S_, .f32⟩
  | 55 => ⟨S1024, .f32⟩
  | 56 => ⟨S1024, .f32⟩
  | 57 => ⟨S1024x1, .f32⟩
  | 58 => ⟨S1024x2, .f32⟩
  | 59 => ⟨S1024x2, .f32⟩
  | 60 => ⟨S1024x2, .f32⟩
  | 61 => ⟨S_, .f32⟩
  | 62 => ⟨S1024, .f32⟩
  | 63 => ⟨S1024x1, .f32⟩
  | 64 => ⟨S1024x2, .f32⟩
  | 65 => ⟨S1024x2, .f32⟩
  | 66 => ⟨S1024x1, .f32⟩
  | 67 => ⟨S1024, .f32⟩
  | 68 => ⟨S1024, .f32⟩
  | 69 => ⟨S1024x1, .f32⟩
  | 70 => ⟨S1024, .f32⟩
  | 71 => ⟨S1024, .f32⟩
  | 72 => ⟨S1024, .f32⟩
  | 73 => ⟨S1024x1, .f32⟩
  | 74 => ⟨S1024x1, .f32⟩
  | 75 => ⟨S1024, .f32⟩
  | 76 => ⟨S1024x1, .f32⟩
  | 77 => ⟨S1024, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_values : Ref sig .tc := ⟨.hbm, 40, rfl⟩
abbrev main_indices : Ref sig .tc := ⟨.hbm, 41, rfl⟩
abbrev main_v18 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_cst : Ref sig .tc := ⟨.hbm, 62, rfl⟩
abbrev main_call0_v14 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_4 : Ref sig .tc := ⟨.hbm, 76, rfl⟩
abbrev main_v31 : Ref sig .tc := ⟨.hbm, 77, rfl⟩
abbrev main_cst_5 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_6 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_7 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_8 : Ref sig .tc := ⟨.hbm, 104, rfl⟩
abbrev main_v55 : Ref sig .tc := ⟨.hbm, 105, rfl⟩
abbrev main_cst_9 : Ref sig .tc := ⟨.hbm, 106, rfl⟩
abbrev main_v56 : Ref sig .tc := ⟨.hbm, 107, rfl⟩
abbrev main_v57 : Ref sig .tc := ⟨.hbm, 108, rfl⟩
abbrev main_cst_10 : Ref sig .tc := ⟨.hbm, 109, rfl⟩
abbrev main_v58 : Ref sig .tc := ⟨.hbm, 110, rfl⟩
abbrev main_v59 : Ref sig .tc := ⟨.hbm, 111, rfl⟩
abbrev main_cst_11 : Ref sig .tc := ⟨.hbm, 112, rfl⟩
abbrev main_v60 : Ref sig .tc := ⟨.hbm, 113, rfl⟩
abbrev main_v61 : Ref sig .tc := ⟨.hbm, 114, rfl⟩
abbrev main_cst_12 : Ref sig .tc := ⟨.hbm, 115, rfl⟩
abbrev main_cst_13 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_v62 : Ref sig .tc := ⟨.hbm, 122, rfl⟩
abbrev main_v63 : Ref sig .tc := ⟨.hbm, 123, rfl⟩
abbrev main_cst_14 : Ref sig .tc := ⟨.hbm, 124, rfl⟩
abbrev main_v64 : Ref sig .tc := ⟨.hbm, 125, rfl⟩
abbrev main_v65 : Ref sig .tc := ⟨.hbm, 126, rfl⟩
abbrev main_cst_15 : Ref sig .tc := ⟨.hbm, 127, rfl⟩
abbrev main_v66 : Ref sig .tc := ⟨.hbm, 128, rfl⟩
abbrev main_v67 : Ref sig .tc := ⟨.hbm, 129, rfl⟩
abbrev main_cst_16 : Ref sig .tc := ⟨.hbm, 130, rfl⟩
abbrev main_cst_17 : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_call3_c : Ref sig .tc := ⟨.hbm, 142, rfl⟩
abbrev main_call3_v0 : Ref sig .tc := ⟨.hbm, 143, rfl⟩
abbrev main_call3_v1 : Ref sig .tc := ⟨.hbm, 144, rfl⟩
abbrev main_call3_c_0 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_v5 : Ref sig .tc := ⟨.hbm, 149, rfl⟩
abbrev main_call3_c_1 : Ref sig .tc := ⟨.hbm, 150, rfl⟩
abbrev main_call3_c_2 : Ref sig .tc := ⟨.hbm, 151, rfl⟩
abbrev main_call3_v6 : Ref sig .tc := ⟨.hbm, 152, rfl⟩
abbrev main_call3_v7 : Ref sig .tc := ⟨.hbm, 153, rfl⟩
abbrev main_call3_v8 : Ref sig .tc := ⟨.hbm, 154, rfl⟩
abbrev main_call3_v9 : Ref sig .tc := ⟨.hbm, 155, rfl⟩
abbrev main_call3_v10 : Ref sig .tc := ⟨.hbm, 156, rfl⟩
abbrev main_call3_v11 : Ref sig .tc := ⟨.hbm, 157, rfl⟩
abbrev main_call3_c_3 : Ref sig .tc := ⟨.hbm, 158, rfl⟩
abbrev main_call3_v12 : Ref sig .tc := ⟨.hbm, 159, rfl⟩
abbrev main_call3_v13 : Ref sig .tc := ⟨.hbm, 160, rfl⟩
abbrev main_call3_cst : Ref sig .tc := ⟨.hbm, 161, rfl⟩
abbrev main_call3_v14 : Ref sig .tc := ⟨.hbm, 162, rfl⟩
abbrev main_v73 : Ref sig .tc := ⟨.hbm, 163, rfl⟩
abbrev main_values_18 : Ref sig .tc := ⟨.hbm, 164, rfl⟩
abbrev main_indices_19 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_cst_20 : Ref sig .tc := ⟨.hbm, 180, rfl⟩
abbrev main_v88 : Ref sig .tc := ⟨.hbm, 181, rfl⟩
abbrev main_cst_21 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_cst_22 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩

abbrev nD : Nat := 1
abbrev τ : Topo := Topo.v7x

variable {F : FTy → Type} [FloatOps F]
-- ==== Proof.Group.lean ====
/- One group of 128 columns of the merge loop, written once for all 32 groups. -/
module

public import proofs.«01_k».proof.Proof.Gen.KernelIdeal.Skeleton

@[expose] public section

set_option maxRecDepth 16384

noncomputable section

namespace Cert.KernelIdeal.Knn

open Idealize.ShloMosaic Idealize.ShloMosaic.TcCoe
open Idealize.SL Idealize.SL.Sem
open Cert.KernelIdeal Cert.KernelIdeal.Gen

variable {F : FTy → Type} [FloatOps F] [Named F]

/-- Column index (as a float) of a position `p` inside the group whose offset has the bits `w`. -/
def idxAt (w : BitVec 32) (v34 : F .f32) (p : FVec F S1024x1 .f32) : FVec F S1024x1 .f32 :=
  addf (broadcast S1024x1 (Scalar.addf v34 (Scalar.ofBits .f32 w))) p

/-- The test of a group: does some row hold a distance below its current 64th best? -/
def fires (v50 : Vec F S1024x128 .f32) (v51 : Vec F S1024x1 .f32) : BitVec 1 :=
  Scalar.cmpi .ne (Scalar.extui (Scalar.cmpf .ogt (k0_pay527 v50 v51) (Scalar.ofBits .f32 0x00000000#32)) : BitVec 32) 0#32

/-- The new list of distances of a group step. -/
def newDist (v30 : FVec F S1x64 .f32) (v32 : FVec F S1x128 .f32) (v50 : Vec F S1024x128 .f32)
    (v510 : Vec F S1024x64 .f32) : FVec F S1024x64 .f32 :=
  k0_pay528 (k0_pay26 v30 v510 (k0_pay15 v50) (k0_pay18 v32 v50) (k0_pay23 v50 v510))

/-- The new list of indices of a group step. -/
def newIdx (w : BitVec 32) (v30 : FVec F S1x64 .f32) (v32 : FVec F S1x128 .f32) (v34 : F .f32)
    (v50 : Vec F S1024x128 .f32) (v510 v511 : Vec F S1024x64 .f32) : FVec F S1024x64 .f32 :=
  k0_pay529 v511 (k0_pay27 v30 (k0_pay23 v50 v510)) (k0_pay28 v30 (k0_pay23 v50 v510))
    (k0_pay29 v30 v510 v511 (k0_pay18 v32 v50) (idxAt w v34 (k0_pay19 v32 v50)))
    (k0_pay30 (idxAt w v34 (k0_pay16 v32 v50)))

/-- The bits of the 32 group offsets `128 g` as floats. -/
def word : Fin 32 → BitVec 32 :=
  ![0x00000000#32, 0x43000000#32, 0x43800000#32, 0x43C00000#32, 0x44000000#32, 0x44200000#32, 0x44400000#32, 0x44600000#32, 0x44800000#32, 0x44900000#32, 0x44A00000#32, 0x44B00000#32, 0x44C00000#32, 0x44D00000#32, 0x44E00000#32, 0x44F00000#32, 0x45000000#32, 0x45080000#32, 0x45100000#32, 0x45180000#32, 0x45200000#32, 0x45280000#32, 0x45300000#32, 0x45380000#32, 0x45400000#32, 0x45480000#32, 0x45500000#32, 0x45580000#32, 0x45600000#32, 0x45680000#32, 0x45700000#32, 0x45780000#32]

theorem grp_inb (g : Fin 32) : ∀ a, (![0, 128 * g.val] : Fin 2 → Nat) a + S1024x128.size a ≤ S1024x4096.size a := by
  have := g.isLt
  intro a; fin_cases a <;> simp [S1024x128, S1024x4096] <;> omega

/-- The columns of group `g`. -/
abbrev rectG (g : Fin 32) := Rect.unit (s := S1024x4096) ![0, 128 * g.val] S1024x128.size (grp_inb g)
/-- The whole list. -/
abbrev rectA := Rect.unit (s := S1024x64) ![0, 0] S1024x64.size inb_S1024x64_S1024x64_0_0
/-- The list's last column. -/
abbrev rectL := Rect.unit (s := S1024x64) ![0, 63] S1024x1.size inb_S1024x64_S1024x1_0_63

section
variable (arg9 : Memref sig .tc .vmem S1024x4096 .f32) (arg7 : Memref sig .tc .vmem S1024x64 .f32)
    (arg8 : Memref sig .tc .vmem S1024x64 .f32) (v32 : FVec F S1x128 .f32) (v34 : F .f32) (v30 : FVec F S1x64 .f32)

/-- Load of a group's columns. -/
abbrev loadG (g : Fin 32) : Prog (TpuEff nD τ sig (Elt F) (Λ₀ F) .tc) (Vec F S1024x128 .f32) :=
  Prog.lift (.load arg9 (rectG g).toLoadRect (View.loadsAt_vmem h_S1024x128))
/-- Load of a list. -/
abbrev loadA (r : Memref sig .tc .vmem S1024x64 .f32) : Prog (TpuEff nD τ sig (Elt F) (Λ₀ F) .tc) (Vec F S1024x64 .f32) :=
  Prog.lift (.load r rectA.toLoadRect (View.loadsAt_vmem h_S1024x64))
/-- Load of the last column of a list. -/
abbrev loadL (r : Memref sig .tc .vmem S1024x64 .f32) : Prog (TpuEff nD τ sig (Elt F) (Λ₀ F) .tc) (Vec F S1024x1 .f32) :=
  Prog.lift (.load r rectL.toLoadRect (View.loadsAt_vmem h_S1024x1))
/-- Store of a list. -/
abbrev storeA (r : Memref sig .tc .vmem S1024x64 .f32) (v : FVec F S1024x64 .f32) : Prog (TpuEff nD τ sig (Elt F) (Λ₀ F) .tc) PUnit :=
  Prog.lift (.store r rectA v Finset.univ (View.stores_vmem_bits_univ h_S1024x64 rfl) (.inl rfl))

/-- What a group does once its columns and the lists' last column are read, followed by the rest `k` of a program. -/
def grpTail {α : Type} (g : Fin 32) (k : Prog (TpuEff nD τ sig (Elt F) (Λ₀ F) .tc) α)
    (v50 : Vec F S1024x128 .f32) (v51 : Vec F S1024x1 .f32) : Prog (TpuEff nD τ sig (Elt F) (Λ₀ F) .tc) α := do
  if fires v50 v51 = 1#1 then do
    let v510 ← loadA arg7
    let v511 ← loadA arg8
    let _v542 ← loadG arg9 g
    Prog.lift (.store arg9 (rectG g) (k0_pay20 v32 v50) Finset.univ (View.stores_vmem_bits_univ h_S1024x128 rfl) (.inl rfl))
    let _v609 ← loadA arg7
    storeA arg7 (newDist v30 v32 v50 v510)
    let _v612 ← loadA arg8
    storeA arg8 (newIdx (word g) v30 v32 v34 v50 v510 v511)
    k
  else k

/-- The step of group `g` followed by the rest `k` of a program. -/
def grpK {α : Type} (g : Fin 32) (k : Prog (TpuEff nD τ sig (Elt F) (Λ₀ F) .tc) α) :
    Prog (TpuEff nD τ sig (Elt F) (Λ₀ F) .tc) α := do
  let v50 ← loadG arg9 g
  let v51 ← loadL arg7
  grpTail arg9 arg7 arg8 v32 v34 v30 g k v50 v51

/-- The steps of the groups of a list, in order. -/
def grps : List (Fin 32) → Prog (TpuEff nD τ sig (Elt F) (Λ₀ F) .tc) PUnit
  | [] => pure ⟨⟩
  | g :: l => grpK arg9 arg7 arg8 v32 v34 v30 g (grps l)

theorem grpTail_bind {α β : Type} (g : Fin 32) (k : Prog (TpuEff nD τ sig (Elt F) (Λ₀ F) .tc) α)
    (K : α → Prog (TpuEff nD τ sig (Elt F) (Λ₀ F) .tc) β) (v50 : Vec F S1024x128 .f32) (v51 : Vec F S1024x1 .f32) :
    grpTail arg9 arg7 arg8 v32 v34 v30 g k v50 v51 >>= K = grpTail arg9 arg7 arg8 v32 v34 v30 g (k >>= K) v50 v51 := by
  unfold grpTail
  split <;> simp only [bind_assoc]

theorem grpK_bind {α β : Type} (g : Fin 32) (k : Prog (TpuEff nD τ sig (Elt F) (Λ₀ F) .tc) α)
    (K : α → Prog (TpuEff nD τ sig (Elt F) (Λ₀ F) .tc) β) :
    grpK arg9 arg7 arg8 v32 v34 v30 g k >>= K = grpK arg9 arg7 arg8 v32 v34 v30 g (k >>= K) := by
  unfold grpK
  simp only [bind_assoc, grpTail_bind]

/-- A pair of generated pieces whose cut lies in the middle of a group, read as whole groups. -/
theorem grps_cut {α β : Type} (g : Fin 32) (l₀ l : List (Fin 32))
    (pa : Prog (TpuEff nD τ sig (Elt F) (Λ₀ F) .tc) α)
    (x : Vec F S1024x128 .f32 → Vec F S1024x1 .f32 → α) (pb : α → Prog (TpuEff nD τ sig (Elt F) (Λ₀ F) .tc) PUnit)
    (K : PUnit → Prog (TpuEff nD τ sig (Elt F) (Λ₀ F) .tc) β)
    (ha : pa = l₀.foldr (fun g k => grpK arg9 arg7 arg8 v32 v34 v30 g k) (loadG arg9 g >>= fun v50 => loadL arg7 >>= fun v51 => pure (x v50 v51)))
    (hb : ∀ v50 v51, pb (x v50 v51) = grpTail arg9 arg7 arg8 v32 v34 v30 g (grps arg9 arg7 arg8 v32 v34 v30 l) v50 v51) :
    (pa >>= fun a => pb a >>= K) = grps arg9 arg7 arg8 v32 v34 v30 (l₀ ++ g :: l) >>= K := by
  subst ha
  induction l₀ with
  | nil => simp only [List.foldr_nil, bind_assoc, pure_bind, hb, grps, List.nil_append, grpK]
  | cons g' l₀ ih => simp only [List.foldr_cons, grps, List.cons_append, grpK_bind, ih]

theorem grps_append {β : Type} (l₀ l : List (Fin 32)) (K : PUnit → Prog (TpuEff nD τ sig (Elt F) (Λ₀ F) .tc) β) :
    (grps arg9 arg7 arg8 v32 v34 v30 l₀ >>= fun _ => grps arg9 arg7 arg8 v32 v34 v30 l >>= K) = grps arg9 arg7 arg8 v32 v34 v30 (l₀ ++ l) >>= K := by
  induction l₀ with
  | nil => simp only [grps, pure_bind, List.nil_append]
  | cons g l₀ ih => simp only [List.cons_append, grps, grpK_bind, ih]
end

section
variable (i : grid0.Coords) (arg9 : Memref sig .tc .vmem S1024x4096 .f32) (harg9 : arg9.IsWhole)
  (arg7 : Memref sig .tc .vmem S1024x64 .f32) (harg7 : arg7.IsWhole)
  (arg8 : Memref sig .tc .vmem S1024x64 .f32) (harg8 : arg8.IsWhole)
  (v32 : FVec F S1x128 .f32) (v34 : F .f32) (v30 : FVec F S1x64 .f32) (arg10 : BitVec 1)

/-- One round: all 32 groups, then the test whether a distance is left that belongs into a list. -/
def more (v498 : Vec F S1024x1 .f32) (v499 : Vec F S1024x4096 .f32) : BitVec 1 :=
  Scalar.cmpf .ogt (k0_pay3 (F := F) (k0_pay641 v498 v499) k0_pay642 k0_pay643) (Scalar.ofBits .f32 0x00000000#32)

/-- What a cut inside a group hands on. -/
def cutAt (v50 : Vec F S1024x128 .f32) (v51 : Vec F S1024x1 .f32) :
    Σ' (v78 : Vec F S1024x128 .f32) (v81 : IVec S1024x128 1) (v82 : FVec F S1024x128 .f32), FVec F S1024x128 .f32 :=
  ⟨v50, k0_pay533 v50 v51, k0_pay534 (F := F), k0_pay535 (F := F)⟩

theorem pair_0 {β : Type} (K : PUnit → Prog (TpuEff nD τ sig (Elt F) (Λ₀ F) .tc) β) :
    (k0_part67 i arg9 harg9 arg7 harg7 arg8 harg8 v32 v34 v30 arg10 >>= fun x =>
      k0_part68 i arg9 harg9 arg7 harg7 arg8 harg8 v32 v34 v30 arg10 x.1 x.2.1 x.2.2.1 x.2.2.2 >>= K)
    = grps arg9 arg7 arg8 v32 v34 v30 ([0, 1] ++ 2 :: [3, 4]) >>= K :=
  grps_cut arg9 arg7 arg8 v32 v34 v30 2 [0, 1] [3, 4] _ cutAt
    (fun x => k0_part68 i arg9 harg9 arg7 harg7 arg8 harg8 v32 v34 v30 arg10 x.1 x.2.1 x.2.2.1 x.2.2.2) K
    (by rfl) (fun _ _ => by rfl)

theorem pair_1 {β : Type} (K : PUnit → Prog (TpuEff nD τ sig (Elt F) (Λ₀ F) .tc) β) :
    (k0_part69 i arg9 harg9 arg7 harg7 arg8 harg8 v32 v34 v30 arg10 >>= fun x =>
      k0_part70 i arg9 harg9 arg7 harg7 arg8 harg8 v32 v34 v30 arg10 x.1 x.2.1 x.2.2.1 x.2.2.2 >>= K)
    = grps arg9 arg7 arg8 v32 v34 v30 ([5, 6] ++ 7 :: [8, 9]) >>= K :=
  grps_cut arg9 arg7 arg8 v32 v34 v30 7 [5, 6] [8, 9] _ cutAt
    (fun x => k0_part70 i arg9 harg9 arg7 harg7 arg8 harg8 v32 v34 v30 arg10 x.1 x.2.1 x.2.2.1 x.2.2.2) K
    (by rfl) (fun _ _ => by rfl)

theorem pair_2 {β : Type} (K : PUnit → Prog (TpuEff nD τ sig (Elt F) (Λ₀ F) .tc) β) :
    (k0_part71 i arg9 harg9 arg7 harg7 arg8 harg8 v32 v34 v30 arg10 >>= fun x =>
      k0_part72 i arg9 harg9 arg7 harg7 arg8 harg8 v32 v34 v30 arg10 x.1 x.2.1 x.2.2.1 x.2.2.2 >>= K)
    = grps arg9 arg7 arg8 v32 v34 v30 ([10, 11] ++ 12 :: [13, 14]) >>= K :=
  grps_cut arg9 arg7 arg8 v32 v34 v30 12 [10, 11] [13, 14] _ cutAt
    (fun x => k0_part72 i arg9 harg9 arg7 harg7 arg8 harg8 v32 v34 v30 arg10 x.1 x.2.1 x.2.2.1 x.2.2.2) K
    (by rfl) (fun _ _ => by rfl)

theorem pair_3 {β : Type} (K : PUnit → Prog (TpuEff nD τ sig (Elt F) (Λ₀ F) .tc) β) :
    (k0_part73 i arg9 harg9 arg7 harg7 arg8 harg8 v32 v34 v30 arg10 >>= fun x =>
      k0_part74 i arg9 harg9 arg7 harg7 arg8 harg8 v32 v34 v30 arg10 x.1 x.2.1 x.2.2.1 x.2.2.2 >>= K)
    = grps arg9 arg7 arg8 v32 v34 v30 ([15, 16] ++ 17 :: [18, 19]) >>= K :=
  grps_cut arg9 arg7 arg8 v32 v34 v30 17 [15, 16] [18, 19] _ cutAt
    (fun x => k0_part74 i arg9 harg9 arg7 harg7 arg8 harg8 v32 v34 v30 arg10 x.1 x.2.1 x.2.2.1 x.2.2.2) K
    (by rfl) (fun _ _ => by rfl)

theorem pair_4 {β : Type} (K : PUnit → Prog (TpuEff nD τ sig (Elt F) (Λ₀ F) .tc) β) :
    (k0_part75 i arg9 harg9 arg7 harg7 arg8 harg8 v32 v34 v30 arg10 >>= fun x =>
      k0_part76 i arg9 harg9 arg7 harg7 arg8 harg8 v32 v34 v30 arg10 x.1 x.2.1 x.2.2.1 x.2.2.2 >>= K)
    = grps arg9 arg7 arg8 v32 v34 v30 ([20, 21] ++ 22 :: [23, 24]) >>= K :=
  grps_cut arg9 arg7 arg8 v32 v34 v30 22 [20, 21] [23, 24] _ cutAt
    (fun x => k0_part76 i arg9 harg9 arg7 harg7 arg8 harg8 v32 v34 v30 arg10 x.1 x.2.1 x.2.2.1 x.2.2.2) K
    (by rfl) (fun _ _ => by rfl)

theorem pair_5 {β : Type} (K : PUnit → Prog (TpuEff nD τ sig (Elt F) (Λ₀ F) .tc) β) :
    (k0_part77 i arg9 harg9 arg7 harg7 arg8 harg8 v32 v34 v30 arg10 >>= fun x =>
      k0_part78 i arg9 harg9 arg7 harg7 arg8 harg8 v32 v34 v30 arg10 x.1 x.2.1 x.2.2.1 x.2.2.2 >>= K)
    = grps arg9 arg7 arg8 v32 v34 v30 ([25, 26] ++ 27 :: [28, 29]) >>= K :=
  grps_cut arg9 arg7 arg8 v32 v34 v30 27 [25, 26] [28, 29] _ cutAt
    (fun x => k0_part78 i arg9 harg9 arg7 harg7 arg8 harg8 v32 v34 v30 arg10 x.1 x.2.1 x.2.2.1 x.2.2.2) K
    (by rfl) (fun _ _ => by rfl)

theorem while_eq :
    cc0_while1 i arg9 harg9 arg7 harg7 arg8 harg8 v32 v34 v30 arg10
    = if arg10 = 1#1 then
        grps arg9 arg7 arg8 v32 v34 v30 (List.finRange 32) >>= fun _ => loadL arg7 >>= fun v498 =>
        (Prog.lift (.load arg9 (Rect.unit (s := S1024x4096) ![0, 0] S1024x4096.size inb_S1024x4096_S1024x4096_0_0).toLoadRect (View.loadsAt_vmem h_S1024x4096)) : Prog (TpuEff nD τ sig (Elt F) (Λ₀ F) .tc) (Vec F S1024x4096 .f32)) >>= fun v499 =>
        Prog.lift (.call (2 : (Λ₀ F).Label) ⟨i, arg9, harg9, arg7, harg7, arg8, harg8, v32, v34, v30, more v498 v499⟩)
      else pure arg10 := by
  rw [cc0_while1_eq_skeleton]; unfold cc0_while1_skel
  refine ite_congr rfl (fun _ => ?_) (fun _ => rfl)
  have hl : List.finRange 32 = [0,1] ++ (2 : Fin 32) :: [3,4] ++ ([5,6] ++ (7 : Fin 32) :: [8,9] ++ ([10,11] ++ (12 : Fin 32) :: [13,14] ++ ([15,16] ++ (17 : Fin 32) :: [18,19] ++ ([20,21] ++ (22 : Fin 32) :: [23,24] ++ ([25,26] ++ (27 : Fin 32) :: [28,29] ++ [30,31]))))) := by decide
  rw [hl]
  rw [← grps_append (l₀ := [0, 1] ++ 2 :: [3, 4])]
  rw [← grps_append (l₀ := [5, 6] ++ 7 :: [8, 9])]
  rw [← grps_append (l₀ := [10, 11] ++ 12 :: [13, 14])]
  rw [← grps_append (l₀ := [15, 16] ++ 17 :: [18, 19])]
  rw [← grps_append (l₀ := [20, 21] ++ 22 :: [23, 24])]
  rw [← grps_append (l₀ := [25, 26] ++ 27 :: [28, 29])]
  refine Eq.trans ?_ (pair_0 i arg9 harg9 arg7 harg7 arg8 harg8 v32 v34 v30 arg10 _)
  refine bind_congr fun ⟨_, _, _, _⟩ => bind_congr (m := Prog (TpuEff nD τ sig (Elt F) (Λ₀ F) .tc)) fun _ => ?_
  refine Eq.trans ?_ (pair_1 i arg9 harg9 arg7 harg7 arg8 harg8 v32 v34 v30 arg10 _)
  refine bind_congr fun ⟨_, _, _, _⟩ => bind_congr (m := Prog (TpuEff nD τ sig (Elt F) (Λ₀ F) .tc)) fun _ => ?_
  refine Eq.trans ?_ (pair_2 i arg9 harg9 arg7 harg7 arg8 harg8 v32 v34 v30 arg10 _)
  refine bind_congr fun ⟨_, _, _, _⟩ => bind_congr (m := Prog (TpuEff nD τ sig (Elt F) (Λ₀ F) .tc)) fun _ => ?_
  refine Eq.trans ?_ (pair_3 i arg9 harg9 arg7 harg7 arg8 harg8 v32 v34 v30 arg10 _)
  refine bind_congr fun ⟨_, _, _, _⟩ => bind_congr (m := Prog (TpuEff nD τ sig (Elt F) (Λ₀ F) .tc)) fun _ => ?_
  refine Eq.trans ?_ (pair_4 i arg9 harg9 arg7 harg7 arg8 harg8 v32 v34 v30 arg10 _)
  refine bind_congr fun ⟨_, _, _, _⟩ => bind_congr (m := Prog (TpuEff nD τ sig (Elt F) (Λ₀ F) .tc)) fun _ => ?_
  refine Eq.trans ?_ (pair_5 i arg9 harg9 arg7 harg7 arg8 harg8 v32 v34 v30 arg10 _)
  refine bind_congr fun ⟨_, _, _, _⟩ => bind_congr (m := Prog (TpuEff nD τ sig (Elt F) (Λ₀ F) .tc)) fun _ => ?_
  have h79 : k0_part79 i arg9 harg9 arg7 harg7 arg8 harg8 v32 v34 v30 arg10
      = grpK arg9 arg7 arg8 v32 v34 v30 30 (grpK arg9 arg7 arg8 v32 v34 v30 31
        (loadL arg7 >>= fun v498 =>
        (Prog.lift (.load arg9 (Rect.unit (s := S1024x4096) ![0, 0] S1024x4096.size inb_S1024x4096_S1024x4096_0_0).toLoadRect (View.loadsAt_vmem h_S1024x4096)) : Prog (TpuEff nD τ sig (Elt F) (Λ₀ F) .tc) (Vec F S1024x4096 .f32)) >>= fun v499 =>
        pure ⟨k0_pay641 v498 v499, k0_pay642 (F := F), k0_pay643 (F := F)⟩)) := rfl
  rw [h79]
  simp only [grpK_bind, grps, pure_bind]
  rfl
end

end Cert.KernelIdeal.Knn
-- ==== Proof.Loop.lean ====
/- What one round of the merge loop does to the distances and the two lists, and the loop's specification. -/
module

public import proofs.«01_k».proof.Proof.Group
public import proofs.«01_k».proof.Proof.Gen.KernelIdeal.Launch
public import Idealize.ShloMosaic.Lib.Pipeline.RegionArrays
public import Idealize.ShloMosaic.Lib.Tactic

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-- The ghost algebra: the rounds library's over the machine's cells, duties named by `Unit`. -/
abbrev UU : Type := URounds (GSem nD τ sig) Unit

local notation "𝕄" => MT nD τ sig Unit (Elt F) ℕ UU ℕ

/-- The kernel's variants: the naturals, the rounds of the merge loop still to run. -/
abbrev 𝒱₀ : Variants := Variants.nat

abbrev mD : Memref sig .tc .vmem S1024x4096 .f32 := Memref.whole cc0_scratch4
abbrev mR : Memref sig .tc .vmem S1024x64 .f32 := Memref.whole cc0_scratch2
abbrev mI : Memref sig .tc .vmem S1024x64 .f32 := Memref.whole cc0_scratch3

/-- The state of the merge: a chunk's distances, and per row the best distances so far and their indices. -/
structure St (F : FTy → Type) where
  dm : Vec F S1024x4096 .f32
  rd : Vec F S1024x64 .f32
  ri : Vec F S1024x64 .f32

/-- The columns of group `g`. -/
def sliceG (g : Fin 32) (dm : Vec F S1024x4096 .f32) : Vec F S1024x128 .f32 :=
  ((mD.access (rectG g)).read (Elt F) dm : _)
/-- The distances with the columns of group `g` replaced. -/
def putG (g : Fin 32) (dm : Vec F S1024x4096 .f32) (v : Vec F S1024x128 .f32) : Vec F S1024x4096 .f32 :=
  ((mD.access (rectG g)).write (Elt F) dm v Finset.univ : _)
/-- The last column of a list. -/
def lastCol (rd : Vec F S1024x64 .f32) : Vec F S1024x1 .f32 := ((mR.access rectL).read (Elt F) rd : _)

section
variable (v32 : FVec F S1x128 .f32) (v34 : F .f32) (v30 : FVec F S1x64 .f32)

/-- One group's step when it fires. -/
def fireG (g : Fin 32) (s : St F) : St F :=
  ⟨putG g s.dm (k0_pay20 v32 (sliceG g s.dm)), newDist v30 v32 (sliceG g s.dm) s.rd,
    newIdx (word g) v30 v32 v34 (sliceG g s.dm) s.rd s.ri⟩

/-- One group's step. -/
def stepG (s : St F) (g : Fin 32) : St F :=
  if fires (sliceG g s.dm) (lastCol s.rd) = 1#1 then fireG v32 v34 v30 g s else s

/-- One round: the 32 groups in order. -/
def roundS (s : St F) : St F := (List.finRange 32).foldl (stepG v32 v34 v30) s

/-- The loop's test after a round. -/
def moreS (s : St F) : BitVec 1 := more (lastCol s.rd) s.dm

/-- The state after at most `n` rounds, entered with the test's value `b`. -/
def loopS : ℕ → BitVec 1 → St F → St F
  | 0, _, s => s
  | n + 1, b, s => if b = 1#1 then loopS n (moreS (roundS v32 v34 v30 s)) (roundS v32 v34 v30 s) else s

/-- The loop ends within `n` rounds. -/
def Halts : ℕ → BitVec 1 → St F → Prop
  | 0, b, _ => b ≠ 1#1
  | n + 1, b, s => b = 1#1 → Halts n (moreS (roundS v32 v34 v30 s)) (roundS v32 v34 v30 s)
end

/-- The three buffers of the merge hold the state `s`. -/
def ownS (c : Dev nD) (s : St F) : sProp 𝕄 :=
  iprop((((c : Thread nD τ).loc cc0_scratch4) ↦{fullShare} s.dm)
    ∗ (((c : Thread nD τ).loc cc0_scratch2) ↦{fullShare} s.rd)
    ∗ (((c : Thread nD τ).loc cc0_scratch3) ↦{fullShare} s.ri))

theorem offA : (![0, 0] : Fin 2 → Nat) = fun _ => 0 := by decide

theorem readA_R (f : Vec F S1024x64 .f32) : (mR.access rectA).read (Elt F) f = f :=
  Memref.read_access_unit_zero (Elt F) cc0_scratch2 offA inb_S1024x64_S1024x64_0_0 f
theorem readA_I (f : Vec F S1024x64 .f32) : (mI.access rectA).read (Elt F) f = f :=
  Memref.read_access_unit_zero (Elt F) cc0_scratch3 offA inb_S1024x64_S1024x64_0_0 f
theorem writeA_R (f w : Vec F S1024x64 .f32) : (mR.access rectA).write (Elt F) f w Finset.univ = w :=
  Memref.write_access_unit_zero_univ (Elt F) cc0_scratch2 offA inb_S1024x64_S1024x64_0_0 f w
theorem writeA_I (f w : Vec F S1024x64 .f32) : (mI.access rectA).write (Elt F) f w Finset.univ = w :=
  Memref.write_access_unit_zero_univ (Elt F) cc0_scratch3 offA inb_S1024x64_S1024x64_0_0 f w
theorem readD (f : Vec F S1024x4096 .f32) :
    (mD.access (Rect.unit (s := S1024x4096) ![0, 0] S1024x4096.size inb_S1024x4096_S1024x4096_0_0)).read (Elt F) f = f :=
  Memref.read_access_unit_zero (Elt F) cc0_scratch4 offA inb_S1024x4096_S1024x4096_0_0 f

section
variable (v32 : FVec F S1x128 .f32) (v34 : F .f32) (v30 : FVec F S1x64 .f32)

theorem wp_grpK {α : Type} (c : Dev nD) (bd : Option 𝒱₀.V) (E : Set ℕ) (g : Fin 32)
    (k : Prog (TpuEff nD τ sig (Elt F) (Λ₀ F) .tc) α) (s : St F) (Q : α → sProp 𝕄) :
    iprop(ownS c s ∗ (ownS c (stepG v32 v34 v30 s g) -∗ wp frame (wpE (defs₀ (F := F)) 𝒱₀ (c : Thread nD τ) bd) E k Q))
      ⊢ wp frame (wpE (defs₀ (F := F)) 𝒱₀ (c : Thread nD τ) bd) E (grpK mD mR mI v32 v34 v30 g k) Q := by
  unfold grpK loadG loadL
  simp only [Prog.lift, Prog.bind_op, Prog.bind_ret, Prog.pure_eq_ret]
  unfold ownS
  iintro ⟨⟨Hd, Hr, Hi⟩, Hk⟩
  iapply (wp_load_rect 𝒱₀ (c : Thread nD τ) bd E (m := mD) (r := rectG g) (Finset.subset_univ _)) $$ Hd; iintro Hd
  iapply (wp_load_rect 𝒱₀ (c : Thread nD τ) bd E (m := mR) (r := rectL) (Finset.subset_univ _)) $$ Hr; iintro Hr
  rw [show (mD.access (rectG g)).read (Elt F) s.dm = sliceG g s.dm from rfl,
    show (mR.access rectL).read (Elt F) s.rd = lastCol s.rd from rfl]
  unfold grpTail stepG
  by_cases h : fires (sliceG g s.dm) (lastCol s.rd) = 1#1
  · rw [if_pos h, if_pos h]
    unfold loadG loadA storeA fireG
    simp only [Prog.lift, Prog.bind_op, Prog.bind_ret, Prog.pure_eq_ret]
    iapply (wp_load_rect 𝒱₀ (c : Thread nD τ) bd E (m := mR) (r := rectA) (Finset.subset_univ _)) $$ Hr; iintro Hr
    iapply (wp_load_rect 𝒱₀ (c : Thread nD τ) bd E (m := mI) (r := rectA) (Finset.subset_univ _)) $$ Hi; iintro Hi
    iapply (wp_load_rect 𝒱₀ (c : Thread nD τ) bd E (m := mD) (r := rectG g) (Finset.subset_univ _)) $$ Hd; iintro Hd
    iapply (wp_store 𝒱₀ (c : Thread nD τ) bd E (m := mD) (r := rectG g) (Mk := Finset.univ) (Finset.subset_univ _)) $$ Hd; iintro Hd
    iapply (wp_load_rect 𝒱₀ (c : Thread nD τ) bd E (m := mR) (r := rectA) (Finset.subset_univ _)) $$ Hr; iintro Hr
    iapply (wp_store 𝒱₀ (c : Thread nD τ) bd E (m := mR) (r := rectA) (Mk := Finset.univ) (Finset.subset_univ _)) $$ Hr; iintro Hr
    iapply (wp_load_rect 𝒱₀ (c : Thread nD τ) bd E (m := mI) (r := rectA) (Finset.subset_univ _)) $$ Hi; iintro Hi
    iapply (wp_store 𝒱₀ (c : Thread nD τ) bd E (m := mI) (r := rectA) (Mk := Finset.univ) (Finset.subset_univ _)) $$ Hi; iintro Hi
    rw [writeA_R, writeA_I, readA_R, readA_I]
    iapply Hk
    isplitl [Hd]; · iexact Hd
    isplitl [Hr]; · iexact Hr
    iexact Hi
  · rw [if_neg h, if_neg h]
    iapply Hk
    isplitl [Hd]; · iexact Hd
    isplitl [Hr]; · iexact Hr
    iexact Hi

theorem wp_grps {α : Type} (c : Dev nD) (bd : Option 𝒱₀.V) (E : Set ℕ) (l : List (Fin 32))
    (k : PUnit → Prog (TpuEff nD τ sig (Elt F) (Λ₀ F) .tc) α) (s : St F) (Q : α → sProp 𝕄) :
    iprop(ownS c s ∗ (ownS c (l.foldl (stepG v32 v34 v30) s) -∗ wp frame (wpE (defs₀ (F := F)) 𝒱₀ (c : Thread nD τ) bd) E (k ⟨⟩) Q))
      ⊢ wp frame (wpE (defs₀ (F := F)) 𝒱₀ (c : Thread nD τ) bd) E (grps mD mR mI v32 v34 v30 l >>= k) Q := by
  induction l generalizing s with
  | nil =>
    simp only [grps, pure_bind, List.foldl_nil]
    iintro ⟨Hs, Hk⟩
    iapply Hk; iexact Hs
  | cons g l ih =>
    simp only [grps, grpK_bind, List.foldl_cons]
    refine BIBase.Entails.trans ?_ (wp_grpK v32 v34 v30 c bd E g _ s Q)
    iintro ⟨Hs, Hk⟩
    isplitl [Hs]; · iexact Hs
    iintro Hs
    iapply (ih (stepG v32 v34 v30 s g))
    isplitl [Hs]; · iexact Hs
    iexact Hk

/-- The loop's specification: from the state `s` it reaches the state after the rounds that are due. -/
def spec (c : Dev nD) (n : ℕ) (b : BitVec 1) (s : St F) : sWPT 𝕄 (BitVec 1) := do
  sWPT.consume (ownS c s)
  let b' ← sWPT.arbitrary
  sWPT.produce (ownS c (loopS v32 v34 v30 n b s))
  pure b'

theorem spec_apply (c : Dev nD) (n : ℕ) (b : BitVec 1) (s : St F) (K : BitVec 1 → sProp 𝕄) :
    spec v32 v34 v30 c n b s K = iprop(ownS c s ∗ (∀ b', ownS c (loopS v32 v34 v30 n b s) -∗ K b')) := rfl

theorem spec_le (i : grid0.Coords) (c : Dev nD) (E : Set ℕ) (n : ℕ) :
    ∀ (b : BitVec 1) (s : St F), Halts v32 v34 v30 n b s → ∀ K, spec v32 v34 v30 c n b s K
      ⊢ wp frame (wpE (defs₀ (F := F)) 𝒱₀ (c : Thread nD τ) (some n)) E
          (defs₀ (F := F) .tc 2 ⟨i, mD, Memref.isWhole_whole _, mR, Memref.isWhole_whole _, mI, Memref.isWhole_whole _, v32, v34, v30, b⟩) K := by
  induction n with
  | zero =>
    intro b s hb K
    show _ ⊢ wp frame (wpE (defs₀ (F := F)) 𝒱₀ (c : Thread nD τ) (some 0)) E (cc0_while1 i mD _ mR _ mI _ v32 v34 v30 b) K
    rw [while_eq, if_neg (show ¬ b = 1#1 from hb)]
    rw [spec_apply]; unfold loopS
    simp only [Prog.pure_eq_ret]
    iintro ⟨Hs, Hk⟩
    rw [wp_ret]; imodintro
    iapply Hk; iexact Hs
  | succ n ih =>
    intro b s hb K
    show _ ⊢ wp frame (wpE (defs₀ (F := F)) 𝒱₀ (c : Thread nD τ) (some (n + 1))) E (cc0_while1 i mD _ mR _ mI _ v32 v34 v30 b) K
    rw [while_eq]
    rw [spec_apply]; unfold loopS
    by_cases h : b = 1#1
    · rw [if_pos h, if_pos h]
      refine BIBase.Entails.trans ?_ (wp_grps v32 v34 v30 c (some (n + 1)) E _ _ s K)
      iintro ⟨Hs, Hk⟩
      isplitl [Hs]; · iexact Hs
      iintro Hs
      simp only [loadL, Prog.lift, Prog.bind_op, Prog.bind_ret, Prog.pure_eq_ret]
      unfold ownS
      icases Hs with ⟨Hd, Hr, Hi⟩
      iapply (wp_load_rect 𝒱₀ (c : Thread nD τ) (some (n + 1)) E (m := mR) (r := rectL) (Finset.subset_univ _)) $$ Hr; iintro Hr
      iapply (wp_load_rect 𝒱₀ (c : Thread nD τ) (some (n + 1)) E (m := mD) (r := Rect.unit (s := S1024x4096) ![0, 0] S1024x4096.size inb_S1024x4096_S1024x4096_0_0) (Finset.subset_univ _)) $$ Hd; iintro Hd
      rw [readD]
      iapply (wp_call_spec 𝒱₀ (c : Thread nD τ) (some (n + 1)) E
        (spec v32 v34 v30 c n (moreS (roundS v32 v34 v30 s)) (roundS v32 v34 v30 s)) n
        (fun u hu => by cases hu; exact Nat.lt_succ_self n) (ih _ _ (hb h)))
      rw [spec_apply]; unfold ownS
      isplitl [Hd Hr Hi]
      · isplitl [Hd]; · iexact Hd
        isplitl [Hr]; · iexact Hr
        iexact Hi
      iintro %b' Hs
      rw [wp_ret]; imodintro
      iapply Hk
      iexact Hs
    · rw [if_neg h, if_neg h]
      simp only [Prog.pure_eq_ret]
      iintro ⟨Hs, Hk⟩
      rw [wp_ret]; imodintro
      iapply Hk; iexact Hs
end

end Cert.KernelIdeal.Knn
-- ==== Proof.Row.lean ====
/- One row of the merge, without the machine: a value taken from the chunk and put into the sorted list. -/
module

public import Idealize.ShloMosaic.Lib.Pointwise

@[expose] public section

noncomputable section

namespace Cert.KernelIdeal.Row

/-- A natural number as an extended real. -/
def e (n : ℕ) : EReal := ((n : ℝ) : EReal)

theorem e_lt {a b : ℕ} : e a < e b ↔ a < b := by unfold e; rw [EReal.coe_lt_coe_iff, Nat.cast_lt]
theorem e_inj {a b : ℕ} : e a = e b ↔ a = b := by unfold e; rw [EReal.coe_eq_coe_iff, Nat.cast_inj]
theorem e_le {a b : ℕ} : e a ≤ e b ↔ a ≤ b := by unfold e; rw [EReal.coe_le_coe_iff, Nat.cast_le]
theorem e_add (a b : ℕ) : e a + e b = e (a + b) := by unfold e; rw [← EReal.coe_add, Nat.cast_add]
theorem e_lt_top (a : ℕ) : e a < ⊤ := EReal.coe_lt_top _

/-- The smallest value of a row. -/
def lowest {n : ℕ} (v : Fin n → EReal) : EReal := Finset.univ.inf v
/-- The first position of a value. -/
def first {n : ℕ} (v : Fin n → EReal) (m : EReal) : EReal := Finset.univ.inf fun k => if v k = m then e k.val else e 10000

theorem lowest_le {n : ℕ} (v : Fin n → EReal) (k : Fin n) : lowest v ≤ v k := Finset.inf_le (Finset.mem_univ k)
theorem lowest_mem {n : ℕ} (hn : 0 < n) (v : Fin n → EReal) : ∃ k, v k = lowest v := by
  obtain ⟨k, -, h⟩ := Finset.exists_mem_eq_inf (Finset.univ : Finset (Fin n)) ⟨⟨0, hn⟩, Finset.mem_univ _⟩ v
  exact ⟨k, h.symm⟩

theorem first_spec {n : ℕ} (hn : n ≤ 10000) (v : Fin n → EReal) (m : EReal) (h : ∃ k, v k = m) :
    ∃ k, v k = m ∧ first v m = e k.val := by
  obtain ⟨k₀, h₀⟩ := h
  obtain ⟨k, -, hk⟩ := Finset.exists_mem_eq_inf (Finset.univ : Finset (Fin n)) ⟨k₀, Finset.mem_univ _⟩ fun k => if v k = m then e k.val else e 10000
  by_cases hv : v k = m
  · exact ⟨k, hv, by unfold first; rw [hk, if_pos hv]⟩
  · have := Finset.inf_le (f := fun k => if v k = m then e k.val else e 10000) (Finset.mem_univ k₀)
    rw [hk, if_neg hv, if_pos h₀, e_le] at this
    have := k₀.isLt; omega

/-- A value put at position `p`, what stands from there on moved by one. -/
def insAt (p : ℕ) (x : EReal) (f : Fin 64 → EReal) : Fin 64 → EReal := fun l =>
  if l.val < p then f l else if l.val = p then x else f ⟨l.val - 1, by omega⟩

/-- How many entries are at most `x`. -/
def rank (f : Fin 64 → EReal) (x : EReal) : ℕ := (Finset.univ.filter fun l => f l ≤ x).card

theorem card_lt (p : ℕ) (hp : p ≤ 64) : (Finset.univ.filter fun l : Fin 64 => l.val < p).card = p := by
  rw [show (Finset.univ.filter fun l : Fin 64 => l.val < p) = (Finset.univ : Finset (Fin p)).map ⟨Fin.castLE hp, Fin.castLE_injective hp⟩ from by
    ext l; simp only [Finset.mem_filter, Finset.mem_univ, true_and, Finset.mem_map, Function.Embedding.coeFn_mk]
    exact ⟨fun h => ⟨⟨l.val, h⟩, rfl⟩, fun ⟨k, hk⟩ => by subst hk; exact k.isLt⟩, Finset.card_map, Finset.card_univ, Fintype.card_fin]

theorem rank_le (f : Fin 64 → EReal) (x : EReal) : rank f x ≤ 64 := (Finset.card_le_univ _).trans (by simp)

theorem lt_rank {f : Fin 64 → EReal} (hf : Monotone f) (x : EReal) (l : Fin 64) : l.val < rank f x ↔ f l ≤ x := by
  constructor
  · intro h
    by_contra hl
    have : rank f x ≤ l.val := by
      rw [← card_lt l.val l.isLt.le]
      refine Finset.card_le_card fun k hk => ?_
      simp only [Finset.mem_filter, Finset.mem_univ, true_and] at hk ⊢
      by_contra hkl
      exact hl ((hf (by rw [Fin.le_def]; omega : l ≤ k)).trans hk)
    omega
  · intro h
    have : l.val + 1 ≤ rank f x := by
      rw [← card_lt (l.val + 1) l.isLt]
      refine Finset.card_le_card fun k hk => ?_
      simp only [Finset.mem_filter, Finset.mem_univ, true_and] at hk ⊢
      exact (hf (by rw [Fin.le_def]; omega : k ≤ l)).trans h
    omega

/-- What holds of one row: the list is sorted and made of distinct points seen so far, the chunk holds the points not yet
    taken, and every point seen that is nearer than the list's last is in the list or still in the chunk. -/
structure Inv (D : ℕ → EReal) (base seen : ℕ) (dm : Fin 4096 → EReal) (rd ri : Fin 64 → EReal) : Prop where
  sorted : Monotone rd
  made : ∀ l, rd l < ⊤ → ∃ n < seen, ri l = e n ∧ D n = rd l
  inj : ∀ l l', rd l < ⊤ → rd l' < ⊤ → ri l = ri l' → l = l'
  left : ∀ j, dm j < ⊤ → base + j.val < seen ∧ dm j = D (base + j.val) ∧ ∀ l, rd l < ⊤ → ri l ≠ e (base + j.val)
  all : ∀ n < seen, D n < rd 63 → (∃ l, rd l < ⊤ ∧ ri l = e n) ∨ ∃ j : Fin 4096, n = base + j.val ∧ dm j = D n

variable {D : ℕ → EReal} {base seen : ℕ} {dm : Fin 4096 → EReal} {rd ri : Fin 64 → EReal}

theorem insAt_64 {p : ℕ} (hp : 64 ≤ p) (x : EReal) (f : Fin 64 → EReal) : insAt p x f = f := by
  funext l; unfold insAt; rw [if_pos (by omega)]

/-- Every entry of a list after the insertion is the new one or an old one. -/
theorem insAt_cases (p : ℕ) (l : Fin 64) : (l.val = p ∧ ∀ x f, insAt p x f l = x) ∨ ∃ k : Fin 64,
    ((l.val < p ∧ k = l) ∨ (p < l.val ∧ k.val + 1 = l.val)) ∧ ∀ x f, insAt p x f l = f k := by
  by_cases h : l.val < p
  · exact .inr ⟨l, .inl ⟨h, rfl⟩, fun x f => by unfold insAt; rw [if_pos h]⟩
  · by_cases h' : l.val = p
    · exact .inl ⟨h', fun x f => by unfold insAt; rw [if_neg h, if_pos h']⟩
    · exact .inr ⟨⟨l.val - 1, by omega⟩, .inr ⟨by omega, show l.val - 1 + 1 = l.val by omega⟩, fun x f => by unfold insAt; rw [if_neg h, if_neg h']⟩

/-- Every old entry but the last is still there. -/
theorem insAt_old (p : ℕ) (k : Fin 64) (hk : k.val < 63 ∨ k.val < p) : ∃ l : Fin 64, ∀ x f, insAt p x f l = f k := by
  by_cases h : k.val < p
  · exact ⟨k, fun x f => by unfold insAt; rw [if_pos h]⟩
  · refine ⟨⟨k.val + 1, by omega⟩, fun x f => ?_⟩
    unfold insAt
    rw [if_neg (show ¬ k.val + 1 < p by omega), if_neg (show ¬ k.val + 1 = p by omega)]
    rfl

theorem insAt_mono {f : Fin 64 → EReal} (hf : Monotone f) (x : EReal) : Monotone (insAt (rank f x) x f) := by
  intro a b hab
  have hlt := lt_rank hf x
  rcases insAt_cases (rank f x) a with ⟨ha, ea⟩ | ⟨ka, ha, ea⟩ <;> rcases insAt_cases (rank f x) b with ⟨hb, eb⟩ | ⟨kb, hb, eb⟩ <;> rw [ea, eb] <;> rw [Fin.le_def] at hab
  · rcases hb with ⟨h, -⟩ | ⟨h, h'⟩
    · omega
    · exact (not_le.mp fun h' => absurd ((hlt kb).mpr h') (by omega)).le
  · rcases ha with ⟨h, rfl⟩ | ⟨h, h'⟩
    · exact (hlt ka).mp h
    · omega
  · refine hf ?_
    rw [Fin.le_def]
    rcases ha with ⟨h, rfl⟩ | ⟨h, h'⟩ <;> rcases hb with ⟨g, rfl⟩ | ⟨g, g'⟩ <;> omega

/-- The invariant survives a value's move from the chunk to the list. -/
theorem Inv.move (h : Inv D base seen dm rd ri) (j : Fin 4096) :
    Inv D base seen (Function.update dm j ⊤) (insAt (rank rd (dm j)) (dm j) rd) (insAt (rank rd (dm j)) (e (base + j.val)) ri) := by
  by_cases hx : rd 63 ≤ dm j
  · have hp : 64 ≤ rank rd (dm j) := by have := (lt_rank h.sorted (dm j) 63).mpr hx; exact this
    rw [insAt_64 hp, insAt_64 hp]
    refine ⟨h.sorted, h.made, h.inj, fun k hk => ?_, fun n hn hd => ?_⟩
    · have hkj : k ≠ j := fun hkj => by subst hkj; rw [Function.update_self] at hk; exact lt_irrefl _ hk
      rw [Function.update_of_ne hkj] at hk ⊢
      exact h.left k hk
    · rcases h.all n hn hd with hl | ⟨k, hk, hd'⟩
      · exact .inl hl
      · refine .inr ⟨k, hk, ?_⟩
        rw [Function.update_of_ne]; exact hd'
        rintro rfl; rw [hd'] at hx; exact absurd hd (not_lt.mpr hx)
  · rw [not_le] at hx
    have hxt : dm j < ⊤ := lt_of_lt_of_le hx le_top
    obtain ⟨hj1, hj2, hj3⟩ := h.left j hxt
    have hlt := lt_rank h.sorted (dm j)
    have hp : rank rd (dm j) ≤ 63 := by
      by_contra hp
      exact absurd ((hlt 63).mp (by show 63 < _; omega)) (not_le.mpr hx)
    have hmono := insAt_mono h.sorted (dm j)
    refine ⟨hmono, fun l hl => ?_, fun l l' hl hl' he => ?_, fun k hk => ?_, fun n hn hd => ?_⟩
    · rcases insAt_cases (rank rd (dm j)) l with ⟨-, ea⟩ | ⟨k, -, ea⟩
      · exact ⟨_, hj1, ea _ _, by rw [ea]; exact hj2.symm⟩
      · rw [ea] at hl
        obtain ⟨n, hn, h1, h2⟩ := h.made k hl
        exact ⟨n, hn, by rw [ea]; exact h1, by rw [ea]; exact h2⟩
    · rcases insAt_cases (rank rd (dm j)) l with ⟨ha, ea⟩ | ⟨k, ha, ea⟩ <;> rcases insAt_cases (rank rd (dm j)) l' with ⟨hb, eb⟩ | ⟨k', hb, eb⟩ <;>
        rw [ea, eb] at he <;> rw [ea] at hl <;> rw [eb] at hl'
      · exact Fin.ext (ha.trans hb.symm)
      · exact absurd he.symm (hj3 _ hl')
      · exact absurd he (hj3 _ hl)
      · have := h.inj k k' hl hl' he
        subst this
        apply Fin.ext
        rcases ha with ⟨h, rfl⟩ | ⟨h, h'⟩ <;> rcases hb with ⟨g, g'⟩ | ⟨g, g'⟩
        · rw [g']
        · omega
        · subst g'; omega
        · omega
    · have hkj : k ≠ j := fun hkj => by subst hkj; rw [Function.update_self] at hk; exact lt_irrefl _ hk
      rw [Function.update_of_ne hkj] at hk ⊢
      obtain ⟨h1, h2, h3⟩ := h.left k hk
      refine ⟨h1, h2, fun l hl => ?_⟩
      rcases insAt_cases (rank rd (dm j)) l with ⟨-, ea⟩ | ⟨k', -, ea⟩
      · rw [ea, Ne, e_inj]; intro hh; exact hkj (Fin.ext (by omega))
      · rw [ea] at hl ⊢; exact h3 k' hl
    · have hd0 : D n < rd 63 := by
        refine lt_of_lt_of_le hd ?_
        rcases insAt_cases (rank rd (dm j)) 63 with ⟨-, ea⟩ | ⟨k', -, ea⟩
        · rw [ea]; exact hx.le
        · rw [ea]; exact h.sorted (by rw [Fin.le_def]; show k'.val ≤ 63; omega)
      rcases h.all n hn hd0 with ⟨k, hk, hi⟩ | ⟨k, hk, hi⟩
      · by_cases hk63 : k.val < 63 ∨ k.val < rank rd (dm j)
        · obtain ⟨l, hl⟩ := insAt_old _ k hk63
          exact .inl ⟨l, by rw [hl]; exact hk, by rw [hl]; exact hi⟩
        · exfalso
          have hk' : k = 63 := Fin.ext (show k.val = 63 by omega)
          subst hk'
          obtain ⟨n', -, h1, h2⟩ := h.made 63 hk
          rw [hi, e_inj] at h1; subst h1
          rw [h2] at hd0; exact lt_irrefl _ hd0
      · by_cases hkj : k = j
        · subst hkj
          obtain ⟨l, hl⟩ : ∃ l : Fin 64, l.val = rank rd (dm k) := ⟨⟨rank rd (dm k), by omega⟩, rfl⟩
          refine .inl ⟨l, ?_, ?_⟩
          · unfold insAt; rw [if_neg (by omega), if_pos hl]; exact hxt
          · unfold insAt; rw [if_neg (by omega), if_pos hl, hk]
        · exact .inr ⟨k, hk, by rw [Function.update_of_ne hkj]; exact hi⟩

/-- The form in which two insertions are computed at once. -/
def two (p₁ p₂ : ℕ) (y₁ y₂ : EReal) (g : Fin 64 → EReal) : Fin 64 → EReal := fun l =>
  if l.val < p₁ then g l else if l.val = p₁ then y₁ else if l.val < p₂ then g ⟨(l.val + 64 - 1) % 64, Nat.mod_lt _ (by decide)⟩
  else if l.val = p₂ then y₂ else g ⟨(l.val + 64 - 2) % 64, Nat.mod_lt _ (by decide)⟩

theorem two_eq {f : Fin 64 → EReal} (hf : Monotone f) {x₁ x₂ : EReal} (hx : x₁ ≤ x₂) (y₁ y₂ : EReal) (g : Fin 64 → EReal) :
    two (rank f x₁) (rank f x₂ + 1) y₁ y₂ g
      = insAt (rank (insAt (rank f x₁) x₁ f) x₂) y₂ (insAt (rank f x₁) y₁ g) := by
  have hm := insAt_mono hf x₁
  have h12 : rank f x₁ ≤ rank f x₂ := Finset.card_le_card fun k hk => by
    simp only [Finset.mem_filter, Finset.mem_univ, true_and] at hk ⊢; exact hk.trans hx
  have hq : ∀ l : Fin 64, l.val < rank (insAt (rank f x₁) x₁ f) x₂ ↔ l.val < rank f x₂ + 1 := fun l => by
    rw [lt_rank hm]
    rcases insAt_cases (rank f x₁) l with ⟨ha, ea⟩ | ⟨k, ⟨ha, rfl⟩ | ⟨ha, hk⟩, ea⟩ <;> rw [ea]
    · exact ⟨fun _ => by omega, fun _ => hx⟩
    · exact ⟨fun _ => by omega, fun _ => ((lt_rank hf x₁ k).mp ha).trans hx⟩
    · rw [← lt_rank hf x₂ k]; omega
  have h13 : rank f x₁ < rank f x₂ + 1 := by omega
  generalize rank (insAt (rank f x₁) x₁ f) x₂ = q at hq
  generalize rank f x₂ + 1 = p₂ at hq h13
  have hqe : ∀ l : Fin 64, l.val = q ↔ l.val = p₂ := fun l => by
    have := hq l
    constructor
    · intro h
      by_contra hne
      have hp : p₂ < l.val := by omega
      have := hq ⟨p₂, by omega⟩
      simp only at this; omega
    · intro h
      by_contra hne
      have hp : q < l.val := by omega
      have := hq ⟨q, by omega⟩
      simp only at this; omega
  funext l
  have h1 := hq l
  have h2 := hqe l
  unfold two insAt
  by_cases a : l.val < rank f x₁
  · rw [if_pos a, if_pos (h1.mpr (by omega)), if_pos a]
  rw [if_neg a]
  by_cases b : l.val = rank f x₁
  · rw [if_pos b, if_pos (h1.mpr (by omega)), if_neg a, if_pos b]
  rw [if_neg b]
  by_cases c : l.val < p₂
  · rw [if_pos c, if_pos (h1.mpr c), if_neg a, if_neg b]
    exact congrArg g (Fin.ext (show (l.val + 64 - 1) % 64 = l.val - 1 by omega))
  rw [if_neg c, if_neg (fun h => c (h1.mp h))]
  by_cases d : l.val = p₂
  · rw [if_pos d, if_pos (h2.mpr d)]
  rw [if_neg d, if_neg (fun h => d (h2.mp h))]
  rw [if_neg (show ¬ l.val - 1 < rank f x₁ by omega), if_neg (show ¬ l.val - 1 = rank f x₁ by omega)]
  exact congrArg g (Fin.ext (show (l.val + 64 - 2) % 64 = l.val - 1 - 1 by omega))

end Cert.KernelIdeal.Row
-- ==== Proof.Rows.lean ====
/- The merge's vector operations read along one row. -/
module

public import proofs.«01_k».proof.Proof.Loop
public import proofs.«01_k».proof.Proof.Row

@[expose] public section

set_option maxRecDepth 16384

noncomputable section

namespace Cert.KernelIdeal.Knn

open Idealize.ShloMosaic Idealize.ShloMosaic.TcCoe Idealize.ShloMosaic.Pointwise
open Cert.KernelIdeal Cert.KernelIdeal.Gen Cert.KernelIdeal.Row

theorem bits_top : Ideal.ofBits .f32 0x7F800000#32 = ⊤ := by simp [Ideal.ofBits, Ideal.ieee]
theorem bits_bot : Ideal.ofBits .f32 0xFF800000#32 = ⊥ := by simp [Ideal.ofBits, Ideal.ieee]
theorem bits_big : Ideal.ofBits .f32 0x461C4000#32 = e 10000 := by
  simp [Ideal.ofBits, Ideal.ieee, e, -EReal.coe_mul]; norm_num
theorem named_inf : Named.named (F := Ideal) (φ := .f32) κ "inf" 0x7F61B1E6#32 = (⊤ : EReal) := by
  simp [Named.named, κ]

/-- Words below two to the 31st read as integers. -/
theorem toInt_small (n : ℕ) (h : n < 2147483648) : (BitVec.ofNat 32 n).toInt = n := by
  rw [BitVec.toInt_eq_toNat_of_lt (by rw [BitVec.toNat_ofNat]; omega), BitVec.toNat_ofNat, Nat.mod_eq_of_lt (by omega)]

theorem lane11 (l : Fin 64) : (k0_pay11 (F := Ideal)) (ix2 0 l) = e l.val := by
  pointwise [k0_pay11]
  show ((((BitVec.ofNat 32 l.val).toInt : ℤ) : ℝ) : EReal) = e l.val
  rw [toInt_small _ (by omega)]; rfl
theorem lane12 (k : Fin 128) : (k0_pay12 (F := Ideal)) (ix2 0 k) = e k.val := by
  pointwise [k0_pay12]
  show ((((BitVec.ofNat 32 k.val).toInt : ℤ) : ℝ) : EReal) = e k.val
  rw [toInt_small _ (by omega)]; rfl
theorem base13 (i : grid0.Coords) : (k0_pay13 (F := Ideal) i) = e (4096 * (i 0).val) := by
  pointwise [k0_pay13]
  have h : (i 0).val < 25 := (i 0).isLt
  rw [show Scalar.muli (BitVec.ofNat 32 (i 0).val) 4096#32 = BitVec.ofNat 32 (4096 * (i 0).val) from by
    apply BitVec.eq_of_toNat_eq; simp [Scalar.muli, IntOp.muli]; omega, toInt_small _ (by omega)]; rfl

variable (v : Vec Ideal S1024x128 .f32) (r : Fin 1024)

theorem p15 : k0_pay15 v (ix2 r 0) = lowest fun k => v (ix2 r k) := by
  pointwise [k0_pay15]; rw [bits_top]; rfl
theorem p16 : k0_pay16 k0_pay12 v (ix2 r 0) = first (fun k => v (ix2 r k)) (lowest fun k => v (ix2 r k)) := by
  pointwise [k0_pay16]; rw [bits_top, bits_big, p15]; simp only [lane12]; rfl
theorem p17 (k : Fin 128) : k0_pay17 k0_pay12 v (ix2 r k) = if e k.val = k0_pay16 k0_pay12 v (ix2 r 0) then ⊤ else v (ix2 r k) := by
  pointwise [k0_pay17]; rw [lane12, named_inf]
theorem p18 : k0_pay18 k0_pay12 v (ix2 r 0) = lowest fun k => k0_pay17 k0_pay12 v (ix2 r k) := by
  pointwise [k0_pay18]; rw [bits_top]; rfl
theorem p19 : k0_pay19 k0_pay12 v (ix2 r 0) = first (fun k => k0_pay17 k0_pay12 v (ix2 r k)) (lowest fun k => k0_pay17 k0_pay12 v (ix2 r k)) := by
  pointwise [k0_pay19]; rw [bits_top, bits_big, p18]; simp only [lane12]; rfl
theorem p20 (k : Fin 128) : k0_pay20 k0_pay12 v (ix2 r k) = if e k.val = k0_pay19 k0_pay12 v (ix2 r 0) then ⊤ else k0_pay17 k0_pay12 v (ix2 r k) := by
  pointwise [k0_pay20]; rw [lane12, named_inf]

theorem mask_update {n : ℕ} (w w' : Fin n → EReal) (k₁ : Fin n) (h : ∀ k, w' k = if e k.val = e k₁.val then ⊤ else w k) :
    w' = Function.update w k₁ ⊤ := by
  funext k; rw [h]
  by_cases hk : k = k₁
  · subst hk; rw [if_pos rfl, Function.update_self]
  · rw [if_neg (fun he => hk (Fin.ext (e_inj.mp he))), Function.update_of_ne hk]

/-- What a group's step takes from a row: its smallest value, then the smallest of what is left. -/
theorem taken : ∃ k₁ k₂ : Fin 128, k0_pay15 v (ix2 r 0) = v (ix2 r k₁) ∧ k0_pay16 k0_pay12 v (ix2 r 0) = e k₁.val
    ∧ (∀ k, v (ix2 r k₁) ≤ v (ix2 r k))
    ∧ k0_pay18 k0_pay12 v (ix2 r 0) = Function.update (fun k => v (ix2 r k)) k₁ ⊤ k₂ ∧ k0_pay19 k0_pay12 v (ix2 r 0) = e k₂.val
    ∧ (fun k => k0_pay20 k0_pay12 v (ix2 r k)) = Function.update (Function.update (fun k => v (ix2 r k)) k₁ ⊤) k₂ ⊤ := by
  obtain ⟨k₁, h1, h1'⟩ := first_spec (by decide) (fun k => v (ix2 r k)) _ (lowest_mem (by decide) fun k => v (ix2 r k))
  obtain ⟨k₂, h2, h2'⟩ := first_spec (by decide) (fun k => k0_pay17 k0_pay12 v (ix2 r k)) _ (lowest_mem (by decide) fun k => k0_pay17 k0_pay12 v (ix2 r k))
  have hw : (fun k => k0_pay17 k0_pay12 v (ix2 r k)) = Function.update (fun k => v (ix2 r k)) k₁ ⊤ :=
    mask_update _ _ k₁ fun k => by rw [p17, p16, h1']
  refine ⟨k₁, k₂, by rw [p15, ← h1], by rw [p16, h1'], fun k => ?_, by rw [p18, ← h2, ← hw], by rw [p19, h2'], ?_⟩
  · rw [show v (ix2 r k₁) = _ from h1]; exact lowest_le (fun k => v (ix2 r k)) k
  · rw [← hw]; exact mask_update _ _ k₂ fun k => by rw [p20, p19, h2']

theorem ind_cast (p : Prop) [Decidable p] : (FloatOps.sitofp (F := Ideal) .f32 (BitVec.setWidth 32 (BitVec.ofBool (decide p)) : BitVec 32)) = (if p then 1 else 0 : EReal) := by
  by_cases h : p
  · rw [if_pos h, decide_eq_true h]; show ((((1 : ℤ)) : ℝ) : EReal) = 1; norm_num
  · rw [if_neg h, decide_eq_false h]; show ((((0 : ℤ)) : ℝ) : EReal) = 0; norm_num

theorem count_cast {n : ℕ} (p : Fin n → Prop) [DecidablePred p] : (∑ x, if p x then (1 : EReal) else 0) = e (Finset.univ.filter p).card := by
  rw [Finset.sum_boole]; rfl

theorem p24 (rd : Vec Ideal S1024x64 .f32) : k0_pay24 (F := Ideal) (k0_pay23 v rd) (ix2 r 0) = e (rank (fun l => rd (ix2 r l)) (k0_pay15 v (ix2 r 0))) := by
  pointwise [k0_pay24, k0_pay23]
  simp only [ind_cast]
  exact count_cast _
theorem p25 (rd : Vec Ideal S1024x64 .f32) (u : FVec Ideal S1024x1 .f32) : k0_pay25 rd u (ix2 r 0) = e (rank (fun l => rd (ix2 r l)) (u (ix2 r 0)) + 1) := by
  pointwise [k0_pay25]
  simp only [ind_cast]
  rw [count_cast, ← e_add, show e 1 = 1 from by unfold e; norm_num]; rfl

theorem newDist_row (rd : Vec Ideal S1024x64 .f32) :
    (fun l => newDist k0_pay11 k0_pay12 v rd (ix2 r l)) = two (rank (fun l => rd (ix2 r l)) (k0_pay15 v (ix2 r 0))) (rank (fun l => rd (ix2 r l)) (k0_pay18 k0_pay12 v (ix2 r 0)) + 1)
      (k0_pay15 v (ix2 r 0)) (k0_pay18 k0_pay12 v (ix2 r 0)) fun l => rd (ix2 r l) := by
  funext l
  unfold newDist
  pointwise [k0_pay528, k0_pay26]
  simp only [lane11, p24, p25, e_lt, e_inj]
  rfl

theorem newIdx_row (w : BitVec 32) (v34 : EReal) (rd ri : Vec Ideal S1024x64 .f32) :
    (fun l => newIdx w k0_pay11 k0_pay12 v34 v rd ri (ix2 r l)) = two (rank (fun l => rd (ix2 r l)) (k0_pay15 v (ix2 r 0))) (rank (fun l => rd (ix2 r l)) (k0_pay18 k0_pay12 v (ix2 r 0)) + 1)
      (v34 + Ideal.ofBits .f32 w + k0_pay16 k0_pay12 v (ix2 r 0)) (v34 + Ideal.ofBits .f32 w + k0_pay19 k0_pay12 v (ix2 r 0)) fun l => ri (ix2 r l) := by
  funext l
  unfold newIdx idxAt
  pointwise [k0_pay529, k0_pay27, k0_pay28, k0_pay29, k0_pay30]
  simp only [lane11, p24, p25, e_lt, e_inj]
  rfl

theorem word_val (g : Fin 32) : Ideal.ofBits .f32 (word g) = e (128 * g.val) := by
  fin_cases g <;> simp [word, Ideal.ofBits, Ideal.ieee, e, -EReal.coe_mul] <;> norm_num

/-- Column `k` of group `g`. -/
def col (g : Fin 32) (k : Fin 128) : Fin 4096 := ⟨128 * g.val + k.val, by omega⟩
theorem col_surj (j : Fin 4096) : ∃ g k, j = col g k := ⟨⟨j.val / 128, by omega⟩, ⟨j.val % 128, by omega⟩, Fin.ext (by show _ = 128 * (j.val / 128) + j.val % 128; omega)⟩
theorem col_inj {g g' : Fin 32} {k k' : Fin 128} (h : col g k = col g' k') : g = g' ∧ k = k' := by
  have : 128 * g.val + k.val = 128 * g'.val + k'.val := congrArg Fin.val h
  exact ⟨Fin.ext (by omega), Fin.ext (by omega)⟩

theorem emb_col (g : Fin 32) (k : Fin 128) : (mD.access (rectG g)).emb (ix2 r k) = (ix2 r (col g k) : S1024x4096.Idx) := by
  funext a; fin_cases a
  · exact Fin.ext (by show 0 + 1 * r.val = r.val; omega)
  · exact Fin.ext (by show 128 * g.val + 1 * k.val = 128 * g.val + k.val; omega)

theorem sliceG_col (g : Fin 32) (k : Fin 128) (dm : Vec Ideal S1024x4096 .f32) : sliceG g dm (ix2 r k) = dm (ix2 r (col g k)) := by
  rw [← emb_col]; rfl
theorem putG_col (g : Fin 32) (k : Fin 128) (dm : Vec Ideal S1024x4096 .f32) : putG g dm v (ix2 r (col g k)) = v (ix2 r k) := by
  rw [← emb_col]; exact View.write_emb_of_mem _ _ (Finset.mem_univ _)
theorem putG_ne (g g' : Fin 32) (hg : g' ≠ g) (k : Fin 128) (dm : Vec Ideal S1024x4096 .f32) : putG g dm v (ix2 r (col g' k)) = dm (ix2 r (col g' k)) := by
  refine View.write_of_not_mem _ _ _ fun hm => ?_
  obtain ⟨x, -, hx⟩ := Finset.mem_map.mp hm
  have hx' : (ix2 (x 0) (col g (x 1)) : S1024x4096.Idx) = ix2 r (col g' k) := by rw [← emb_col (x 0) g (x 1), ← hx]; exact congrArg _ (eq_ix2 x).symm
  exact hg (col_inj (congrFun hx' 1)).1.symm

theorem lastCol_row (rd : Vec Ideal S1024x64 .f32) : lastCol rd (ix2 r 0) = rd (ix2 r 63) := by
  refine congrArg rd ?_
  funext a; fin_cases a
  · exact Fin.ext (by show 0 + 1 * r.val = r.val; omega)
  · rfl

end Cert.KernelIdeal.Knn
-- ==== Proof.KnnBody.lean ====
/- The body of the nearest-neighbour kernel at one chunk of keys. -/
module

public import proofs.«01_k».proof.Proof.Loop

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- A load through a rectangle of a memref owned at `X` reads `X` there. -/
theorem wp_load_owns {α : Type} (c : Dev nD) (bd : Option 𝒱₀.V) (E : Set ℕ) {s : Shape} {e : EltTy} {M : Memref sig .tc .vmem s e}
    {r : Rect s} {hl : M.view.LoadsAt r.toLoadRect} {k : (r.shape.Idx → Elt F e) → Prog (TpuEff nD τ sig (Elt F) (Λ₀ F) .tc) α}
    {X : s.Idx → Elt F e} {Q : α → sProp 𝕄} :
    (owns (c : Thread nD τ) M fullShare X : sProp 𝕄)
      ⊢ iprop((owns (c : Thread nD τ) M fullShare X -∗ wp frame (wpE (defs₀ (F := F)) 𝒱₀ (c : Thread nD τ) bd) E (k fun i => X (r.emb i)) Q)
        -∗ wp frame (wpE (defs₀ (F := F)) 𝒱₀ (c : Thread nD τ) bd) E (.op (.load M r.toLoadRect hl) k) Q) := by
  unfold owns
  iintro ⟨%f, %hf, H⟩ Hk
  iapply (wp_load_rect 𝒱₀ (c : Thread nD τ) bd E (m := M) (r := r) (S := M.view.set) (View.set_slice_subset _ _)) $$ H; iintro H
  subst hf
  iapply Hk
  iexists f
  isplitr; · ipureintro; rfl
  iexact H

/-- The 64 columns from column `o` of the states' block. -/
def colBlk (o : Nat) (ho : ∀ a, (![0, o] : Fin 2 → Nat) a + S1024x64.size a ≤ S1024x512.size a) (X : Vec F S1024x512 .f32) :
    Vec F S1024x64 .f32 := fun i => X ((Rect.unit (s := S1024x512) ![0, o] S1024x64.size ho).emb i)

/-- The mean query, as the kernel computes it from the states' block. -/
def q0 (X : Vec F S1024x512 .f32) : FVec F S1024x64 .f32 :=
  k0_pay5 (colBlk 0 inb_S1024x512_S1024x64_0_0 X) (colBlk 64 inb_S1024x512_S1024x64_0_64 X)
    (colBlk 128 inb_S1024x512_S1024x64_0_128 X) (colBlk 192 inb_S1024x512_S1024x64_0_192 X)
    (colBlk 256 inb_S1024x512_S1024x64_0_256 X) (colBlk 320 inb_S1024x512_S1024x64_0_320 X)
    (colBlk 384 inb_S1024x512_S1024x64_0_384 X) (colBlk 448 inb_S1024x512_S1024x64_0_448 X)

/-- Its squared norms. -/
def qn0 (X : Vec F S1024x512 .f32) : FVec F S1024x1 .f32 :=
  k0_pay6 (colBlk 0 inb_S1024x512_S1024x64_0_0 X) (colBlk 64 inb_S1024x512_S1024x64_0_64 X)
    (colBlk 128 inb_S1024x512_S1024x64_0_128 X) (colBlk 192 inb_S1024x512_S1024x64_0_192 X)
    (colBlk 256 inb_S1024x512_S1024x64_0_256 X) (colBlk 320 inb_S1024x512_S1024x64_0_320 X)
    (colBlk 384 inb_S1024x512_S1024x64_0_384 X) (colBlk 448 inb_S1024x512_S1024x64_0_448 X)

/-- The test for the first chunk. -/
def isFirst (i : grid0.Coords) : BitVec 1 :=
  Scalar.cmpi .ne (Scalar.extui (Scalar.cmpi .eq (BitVec.ofNat 32 (i 0).val) 0#32) : BitVec 32) 0#32

/-- What the kernel keeps from chunk to chunk: the query, its norms, the merge state. -/
structure Keep (F : FTy → Type) where
  q : Vec F S1024x64 .f32
  n : Vec F S1024x1 .f32
  s : St F

/-- The first chunk's set-up. -/
def setup (X : Vec F S1024x512 .f32) (k : Keep F) : Keep F := ⟨q0 X, qn0 X, ⟨k.s.dm, k0_pay7, k0_pay8⟩⟩

/-- What is kept once the chunk's distances are computed. -/
def enter (i : grid0.Coords) (K : Vec F S64x4096 .f32) (k : Keep F) : Keep F :=
  ⟨k.q, k.n, ⟨k0_pay10 i k.q K k.n, k.s.rd, k.s.ri⟩⟩

/-- The loop's test before its first round. -/
def startB (i : grid0.Coords) (K : Vec F S64x4096 .f32) (k : Keep F) : BitVec 1 :=
  Scalar.cmpf .ogt (k0_pay1 (F := F) (k0_pay14 i k.q K k.n (lastCol k.s.rd))) (Scalar.ofBits .f32 0x00000000#32)

/-- The buffers hold `k`. -/
def ownK (c : Dev nD) (k : Keep F) : sProp 𝕄 :=
  iprop((((c : Thread nD τ).loc cc0_scratch0) ↦{fullShare} k.q) ∗ (((c : Thread nD τ).loc cc0_scratch1) ↦{fullShare} k.n) ∗ ownS c k.s)

abbrev mQ : Memref sig .tc .vmem S1024x64 .f32 := Memref.whole cc0_scratch0
abbrev mN : Memref sig .tc .vmem S1024x1 .f32 := Memref.whole cc0_scratch1

theorem readA_Q (f : Vec F S1024x64 .f32) : (mQ.access rectA).read (Elt F) f = f :=
  Memref.read_access_unit_zero (Elt F) cc0_scratch0 offA inb_S1024x64_S1024x64_0_0 f
theorem writeA_Q (f w : Vec F S1024x64 .f32) : (mQ.access rectA).write (Elt F) f w Finset.univ = w :=
  Memref.write_access_unit_zero_univ (Elt F) cc0_scratch0 offA inb_S1024x64_S1024x64_0_0 f w

abbrev rectN := Rect.unit (s := S1024x1) ![0, 0] S1024x1.size inb_S1024x1_S1024x1_0_0
abbrev rectD := Rect.unit (s := S1024x4096) ![0, 0] S1024x4096.size inb_S1024x4096_S1024x4096_0_0
abbrev rectK := Rect.unit (s := S64x4096) ![0, 0] S64x4096.size inb_S64x4096_S64x4096_0_0

theorem readA_N (f : Vec F S1024x1 .f32) : (mN.access rectN).read (Elt F) f = f :=
  Memref.read_access_unit_zero (Elt F) cc0_scratch1 offA inb_S1024x1_S1024x1_0_0 f
theorem writeA_N (f w : Vec F S1024x1 .f32) : (mN.access rectN).write (Elt F) f w Finset.univ = w :=
  Memref.write_access_unit_zero_univ (Elt F) cc0_scratch1 offA inb_S1024x1_S1024x1_0_0 f w
theorem writeA_D (f w : Vec F S1024x4096 .f32) : (mD.access rectD).write (Elt F) f w Finset.univ = w :=
  Memref.write_access_unit_zero_univ (Elt F) cc0_scratch4 offA inb_S1024x4096_S1024x4096_0_0 f w

theorem embK (X : Vec F S64x4096 .f32) : (fun i => X (rectK.emb i)) = X := by
  have h (i : S64x4096.Idx) (a : Fin 2) : ((rectK.emb i) a).val = (i a).val := by
    fin_cases a <;> exact (Nat.zero_add _).trans (Nat.one_mul _)
  funext i; exact congrArg X (funext fun a => Fin.ext (h i a))

theorem pay5_q0 (X : Vec F S1024x512 .f32) : k0_pay5 (colBlk 0 inb_S1024x512_S1024x64_0_0 X) (colBlk 64 inb_S1024x512_S1024x64_0_64 X) (colBlk 128 inb_S1024x512_S1024x64_0_128 X) (colBlk 192 inb_S1024x512_S1024x64_0_192 X) (colBlk 256 inb_S1024x512_S1024x64_0_256 X) (colBlk 320 inb_S1024x512_S1024x64_0_320 X) (colBlk 384 inb_S1024x512_S1024x64_0_384 X) (colBlk 448 inb_S1024x512_S1024x64_0_448 X) = q0 X := rfl
theorem pay6_qn0 (X : Vec F S1024x512 .f32) : k0_pay6 (colBlk 0 inb_S1024x512_S1024x64_0_0 X) (colBlk 64 inb_S1024x512_S1024x64_0_64 X) (colBlk 128 inb_S1024x512_S1024x64_0_128 X) (colBlk 192 inb_S1024x512_S1024x64_0_192 X) (colBlk 256 inb_S1024x512_S1024x64_0_256 X) (colBlk 320 inb_S1024x512_S1024x64_0_320 X) (colBlk 384 inb_S1024x512_S1024x64_0_384 X) (colBlk 448 inb_S1024x512_S1024x64_0_448 X) = qn0 X := rfl

/-- A load of 64 columns of the states' block. -/
theorem wp_load_col {α : Type} (c : Dev nD) (bd : Option 𝒱₀.V) (E : Set ℕ) {M : Memref sig .tc .vmem S1024x512 .f32} {o : Nat}
    {ho : ∀ a, (![0, o] : Fin 2 → Nat) a + S1024x64.size a ≤ S1024x512.size a}
    {hl : M.view.LoadsAt (Rect.unit (s := S1024x512) ![0, o] S1024x64.size ho).toLoadRect}
    {k : Vec F S1024x64 .f32 → Prog (TpuEff nD τ sig (Elt F) (Λ₀ F) .tc) α} {X : Vec F S1024x512 .f32} {Q : α → sProp 𝕄} :
    (owns (c : Thread nD τ) M fullShare X : sProp 𝕄)
      ⊢ iprop((owns (c : Thread nD τ) M fullShare X -∗ wp frame (wpE (defs₀ (F := F)) 𝒱₀ (c : Thread nD τ) bd) E (k (colBlk o ho X)) Q)
        -∗ wp frame (wpE (defs₀ (F := F)) 𝒱₀ (c : Thread nD τ) bd) E
          (.op (.load M (Rect.unit (s := S1024x512) ![0, o] S1024x64.size ho).toLoadRect hl) k) Q) :=
  wp_load_owns c bd E (M := M) (r := Rect.unit (s := S1024x512) ![0, o] S1024x64.size ho) (hl := hl) (k := k) (X := X) (Q := Q)

/-- The load of the whole chunk of keys. -/
theorem wp_load_keys {α : Type} (c : Dev nD) (bd : Option 𝒱₀.V) (E : Set ℕ) {M : Memref sig .tc .vmem S64x4096 .f32}
    {hl : M.view.LoadsAt rectK.toLoadRect}
    {k : Vec F S64x4096 .f32 → Prog (TpuEff nD τ sig (Elt F) (Λ₀ F) .tc) α} {X : Vec F S64x4096 .f32} {Q : α → sProp 𝕄} :
    (owns (c : Thread nD τ) M fullShare X : sProp 𝕄)
      ⊢ iprop((owns (c : Thread nD τ) M fullShare X -∗ wp frame (wpE (defs₀ (F := F)) 𝒱₀ (c : Thread nD τ) bd) E (k X) Q)
        -∗ wp frame (wpE (defs₀ (F := F)) 𝒱₀ (c : Thread nD τ) bd) E (.op (.load M rectK.toLoadRect hl) k) Q) := by
  have h := wp_load_owns (F := F) c bd E (M := M) (r := rectK) (hl := hl) (k := k) (X := X) (Q := Q)
  rwa [embK] at h

section
variable (i : grid0.Coords) (arg1 : Memref sig .tc .vmem S1024x512 .f32) (harg1 : arg1.IsWhole)
  (arg2 : Memref sig .tc .vmem S64x4096 .f32) (harg2 : arg2.IsWhole)

abbrev mO : Memref sig .tc .vmem S1024x64 .f32 := Memref.whole cc0_stg2_0
abbrev mJ : Memref sig .tc .vmem S1024x64 .i32 := Memref.whole cc0_stg3_0

/-- The kernel's first part: the set-up at the first chunk, then the chun(setup X k)s distances. -/
theorem wp_part2_first {α : Type} (c : Dev nD) (X : Vec F S1024x512 .f32) (Kc : Vec F S64x4096 .f32) (k : Keep F)
    (K : _ → Prog (TpuEff nD τ sig (Elt F) (Λ₀ F) .tc) α) (Q : α → sProp 𝕄)
    (h : isFirst i = 1#1) :
    iprop(owns (c : Thread nD τ) arg1 fullShare X ∗ owns (c : Thread nD τ) arg2 fullShare Kc ∗ ownK c k
        ∗ (owns (c : Thread nD τ) arg1 fullShare X -∗ owns (c : Thread nD τ) arg2 fullShare Kc -∗ ownK c (enter i Kc (setup X k)) -∗
          wp frame (wpE (defs₀ (F := F)) 𝒱₀ (c : Thread nD τ) none) Set.univ
            (K ⟨BitVec.ofNat 32 (i 0).val, k0_pay11 (F := F), k0_pay12 (F := F), k0_pay13 (F := F) i, k0_pay14 i (setup X k).q Kc (setup X k).n (lastCol (setup X k).s.rd)⟩) Q))
      ⊢ wp frame (wpE (defs₀ (F := F)) 𝒱₀ (c : Thread nD τ) none) Set.univ
          (k0_part2 i arg1 harg1 arg2 harg2 mO (Memref.isWhole_whole _) mJ (Memref.isWhole_whole _) mQ (Memref.isWhole_whole _)
            mN (Memref.isWhole_whole _) mR (Memref.isWhole_whole _) mI (Memref.isWhole_whole _) mD (Memref.isWhole_whole _) >>= K) Q := by
  rw [k0_part2_eq_skeleton]; unfold k0_part2_skel
  have h' := h
  unfold isFirst at h'
  rw [dif_pos h', k0_part1_eq_skeleton]; unfold k0_part1_skel
  simp only [Prog.lift, Prog.bind_op, Prog.bind_ret, Prog.pure_eq_ret]
  unfold ownK ownS
  iintro ⟨H1, H2, ⟨Hq, Hn, Hd, Hr, Hi⟩, Hk⟩
  iapply (wp_load_col c none Set.univ) $$ H1; iintro H1
  iapply (wp_load_col c none Set.univ) $$ H1; iintro H1
  iapply (wp_load_col c none Set.univ) $$ H1; iintro H1
  iapply (wp_load_col c none Set.univ) $$ H1; iintro H1
  iapply (wp_load_col c none Set.univ) $$ H1; iintro H1
  iapply (wp_load_col c none Set.univ) $$ H1; iintro H1
  iapply (wp_load_col c none Set.univ) $$ H1; iintro H1
  iapply (wp_load_col c none Set.univ) $$ H1; iintro H1
  iapply (wp_load_rect 𝒱₀ (c : Thread nD τ) none Set.univ (m := mQ) (r := rectA) (Finset.subset_univ _)) $$ Hq; iintro Hq
  iapply (wp_store 𝒱₀ (c : Thread nD τ) none Set.univ (m := mQ) (r := rectA) (Mk := Finset.univ) (Finset.subset_univ _)) $$ Hq; iintro Hq
  iapply (wp_load_rect 𝒱₀ (c : Thread nD τ) none Set.univ (m := mN) (r := rectN) (Finset.subset_univ _)) $$ Hn; iintro Hn
  iapply (wp_store 𝒱₀ (c : Thread nD τ) none Set.univ (m := mN) (r := rectN) (Mk := Finset.univ) (Finset.subset_univ _)) $$ Hn; iintro Hn
  iapply (wp_load_rect 𝒱₀ (c : Thread nD τ) none Set.univ (m := mR) (r := rectA) (Finset.subset_univ _)) $$ Hr; iintro Hr
  iapply (wp_store 𝒱₀ (c : Thread nD τ) none Set.univ (m := mR) (r := rectA) (Mk := Finset.univ) (Finset.subset_univ _)) $$ Hr; iintro Hr
  iapply (wp_load_rect 𝒱₀ (c : Thread nD τ) none Set.univ (m := mI) (r := rectA) (Finset.subset_univ _)) $$ Hi; iintro Hi
  iapply (wp_store 𝒱₀ (c : Thread nD τ) none Set.univ (m := mI) (r := rectA) (Mk := Finset.univ) (Finset.subset_univ _)) $$ Hi; iintro Hi
  rw [writeA_Q, writeA_N, writeA_R, writeA_I]
  iapply (wp_load_rect 𝒱₀ (c : Thread nD τ) none Set.univ (m := mQ) (r := rectA) (Finset.subset_univ _)) $$ Hq; iintro Hq
  iapply (wp_load_keys c none Set.univ) $$ H2; iintro H2
  iapply (wp_load_rect 𝒱₀ (c : Thread nD τ) none Set.univ (m := mN) (r := rectN) (Finset.subset_univ _)) $$ Hn; iintro Hn
  iapply (wp_load_rect 𝒱₀ (c : Thread nD τ) none Set.univ (m := mD) (r := rectD) (Finset.subset_univ _)) $$ Hd; iintro Hd
  iapply (wp_store 𝒱₀ (c : Thread nD τ) none Set.univ (m := mD) (r := rectD) (Mk := Finset.univ) (Finset.subset_univ _)) $$ Hd; iintro Hd
  iapply (wp_load_rect 𝒱₀ (c : Thread nD τ) none Set.univ (m := mR) (r := rectL) (Finset.subset_univ _)) $$ Hr; iintro Hr
  rw [writeA_D, readA_Q, readA_N, pay5_q0, pay6_qn0]
  iapply Hk $$ H1 H2
  unfold enter setup
  isplitl [Hq]; · iexact Hq
  isplitl [Hn]; · iexact Hn
  isplitl [Hd]; · iexact Hd
  isplitl [Hr]; · iexact Hr
  iexact Hi

/-- The kernel's first part: the set-up at the first chunk, then the chunks distances. -/
theorem wp_part2_later {α : Type} (c : Dev nD) (X : Vec F S1024x512 .f32) (Kc : Vec F S64x4096 .f32) (k : Keep F)
    (K : _ → Prog (TpuEff nD τ sig (Elt F) (Λ₀ F) .tc) α) (Q : α → sProp 𝕄)
    (h : ¬isFirst i = 1#1) :
    iprop(owns (c : Thread nD τ) arg1 fullShare X ∗ owns (c : Thread nD τ) arg2 fullShare Kc ∗ ownK c k
        ∗ (owns (c : Thread nD τ) arg1 fullShare X -∗ owns (c : Thread nD τ) arg2 fullShare Kc -∗ ownK c (enter i Kc k) -∗
          wp frame (wpE (defs₀ (F := F)) 𝒱₀ (c : Thread nD τ) none) Set.univ
            (K ⟨BitVec.ofNat 32 (i 0).val, k0_pay11 (F := F), k0_pay12 (F := F), k0_pay13 (F := F) i, k0_pay14 i k.q Kc k.n (lastCol k.s.rd)⟩) Q))
      ⊢ wp frame (wpE (defs₀ (F := F)) 𝒱₀ (c : Thread nD τ) none) Set.univ
          (k0_part2 i arg1 harg1 arg2 harg2 mO (Memref.isWhole_whole _) mJ (Memref.isWhole_whole _) mQ (Memref.isWhole_whole _)
            mN (Memref.isWhole_whole _) mR (Memref.isWhole_whole _) mI (Memref.isWhole_whole _) mD (Memref.isWhole_whole _) >>= K) Q := by
  rw [k0_part2_eq_skeleton]; unfold k0_part2_skel
  have h' := h
  unfold isFirst at h'
  rw [dif_neg h']
  simp only [Prog.lift, Prog.bind_op, Prog.bind_ret, Prog.pure_eq_ret]
  unfold ownK ownS
  iintro ⟨H1, H2, ⟨Hq, Hn, Hd, Hr, Hi⟩, Hk⟩
  iapply (wp_load_rect 𝒱₀ (c : Thread nD τ) none Set.univ (m := mQ) (r := rectA) (Finset.subset_univ _)) $$ Hq; iintro Hq
  iapply (wp_load_keys c none Set.univ) $$ H2; iintro H2
  iapply (wp_load_rect 𝒱₀ (c : Thread nD τ) none Set.univ (m := mN) (r := rectN) (Finset.subset_univ _)) $$ Hn; iintro Hn
  iapply (wp_load_rect 𝒱₀ (c : Thread nD τ) none Set.univ (m := mD) (r := rectD) (Finset.subset_univ _)) $$ Hd; iintro Hd
  iapply (wp_store 𝒱₀ (c : Thread nD τ) none Set.univ (m := mD) (r := rectD) (Mk := Finset.univ) (Finset.subset_univ _)) $$ Hd; iintro Hd
  iapply (wp_load_rect 𝒱₀ (c : Thread nD τ) none Set.univ (m := mR) (r := rectL) (Finset.subset_univ _)) $$ Hr; iintro Hr
  rw [writeA_D, readA_Q, readA_N]
  iapply Hk $$ H1 H2
  unfold enter
  isplitl [Hq]; · iexact Hq
  isplitl [Hn]; · iexact Hn
  isplitl [Hd]; · iexact Hd
  isplitl [Hr]; · iexact Hr
  iexact Hi

/-- The kernel's first part: the set-up at the first chunk, then the chunk's distances. -/
theorem wp_part2 {α : Type} (c : Dev nD) (X : Vec F S1024x512 .f32) (Kc : Vec F S64x4096 .f32) (k : Keep F)
    (K : _ → Prog (TpuEff nD τ sig (Elt F) (Λ₀ F) .tc) α) (Q : α → sProp 𝕄) (k' : Keep F)
    (hk' : k' = if isFirst i = 1#1 then setup X k else k) :
    iprop(owns (c : Thread nD τ) arg1 fullShare X ∗ owns (c : Thread nD τ) arg2 fullShare Kc ∗ ownK c k
        ∗ (owns (c : Thread nD τ) arg1 fullShare X -∗ owns (c : Thread nD τ) arg2 fullShare Kc -∗ ownK c (enter i Kc k') -∗
          wp frame (wpE (defs₀ (F := F)) 𝒱₀ (c : Thread nD τ) none) Set.univ
            (K ⟨BitVec.ofNat 32 (i 0).val, k0_pay11 (F := F), k0_pay12 (F := F), k0_pay13 (F := F) i, k0_pay14 i k'.q Kc k'.n (lastCol k'.s.rd)⟩) Q))
      ⊢ wp frame (wpE (defs₀ (F := F)) 𝒱₀ (c : Thread nD τ) none) Set.univ
          (k0_part2 i arg1 harg1 arg2 harg2 mO (Memref.isWhole_whole _) mJ (Memref.isWhole_whole _) mQ (Memref.isWhole_whole _)
            mN (Memref.isWhole_whole _) mR (Memref.isWhole_whole _) mI (Memref.isWhole_whole _) mD (Memref.isWhole_whole _) >>= K) Q := by
  subst hk'
  by_cases h : isFirst i = 1#1
  · rw [if_pos h]; exact wp_part2_first i arg1 harg1 arg2 harg2 c X Kc k K Q h
  · rw [if_neg h]; exact wp_part2_later i arg1 harg1 arg2 harg2 c X Kc k K Q h

/-- The number of rounds the loop makes. -/
def turns (v32 : FVec F S1x128 .f32) (v34 : F .f32) (v30 : FVec F S1x64 .f32) (b : BitVec 1) (s : St F) : ℕ :=
  open Classical in if h : ∃ n, Halts v32 v34 v30 n b s then h.choose else 0

theorem turns_halts {v32 : FVec F S1x128 .f32} {v34 : F .f32} {v30 : FVec F S1x64 .f32} {b : BitVec 1} {s : St F}
    (h : ∃ n, Halts v32 v34 v30 n b s) : Halts v32 v34 v30 (turns v32 v34 v30 b s) b s := by
  unfold turns; rw [dif_pos h]; exact h.choose_spec

/-- What is kept after the chunk, from what was kept at its set-up. -/
def settle (i : grid0.Coords) (Kc : Vec F S64x4096 .f32) (k : Keep F) : Keep F :=
  ⟨k.q, k.n, loopS k0_pay12 (k0_pay13 i) k0_pay11
    (turns k0_pay12 (k0_pay13 i) k0_pay11 (startB i Kc k) (enter i Kc k).s) (startB i Kc k) (enter i Kc k).s⟩

/-- What is kept after the chunk. -/
def chunk (i : grid0.Coords) (X : Vec F S1024x512 .f32) (Kc : Vec F S64x4096 .f32) (k : Keep F) : Keep F :=
  settle i Kc (if isFirst i = 1#1 then setup X k else k)

theorem writeA_O (f w : Vec F S1024x64 .f32) : (mO.access rectA).write (Elt F) f w Finset.univ = w :=
  Memref.write_access_unit_zero_univ (Elt F) cc0_stg2_0 offA inb_S1024x64_S1024x64_0_0 f w
theorem writeA_J (f w : Vec F S1024x64 .i32) : (mJ.access rectA).write (Elt F) f w Finset.univ = w :=
  Memref.write_access_unit_zero_univ (Elt F) cc0_stg3_0 offA inb_S1024x64_S1024x64_0_0 f w

/-- The kernel's body at one chunk. -/
theorem wp_body (c : Dev nD) (X : Vec F S1024x512 .f32) (Kc : Vec F S64x4096 .f32) (k : Keep F)
    (o2 : Vec F S1024x64 .f32) (o3 : Vec F S1024x64 .i32) (Q : PUnit → sProp 𝕄)
    (hH : ∀ (b : BitVec 1) (s : St F), ∃ n, Halts k0_pay12 (k0_pay13 i) k0_pay11 n b s) :
    iprop(owns (c : Thread nD τ) arg1 fullShare X ∗ owns (c : Thread nD τ) arg2 fullShare Kc ∗ ownK c k
        ∗ (((c : Thread nD τ).loc cc0_stg2_0) ↦{fullShare} o2) ∗ (((c : Thread nD τ).loc cc0_stg3_0) ↦{fullShare} o3)
        ∗ (owns (c : Thread nD τ) arg1 fullShare X -∗ owns (c : Thread nD τ) arg2 fullShare Kc -∗ ownK c (chunk i X Kc k) -∗
          (((c : Thread nD τ).loc cc0_stg2_0) ↦{fullShare} (if k0_cond34 i = 1#1 then (chunk i X Kc k).s.rd else o2)) -∗
          (((c : Thread nD τ).loc cc0_stg3_0) ↦{fullShare} (if k0_cond34 i = 1#1 then k0_pay2 (chunk i X Kc k).s.ri else o3)) -∗ Q ⟨⟩))
      ⊢ wp frame (wpE (defs₀ (F := F)) 𝒱₀ (c : Thread nD τ) none) Set.univ
          (cc0__knn_kernel i arg1 harg1 arg2 harg2 mO (Memref.isWhole_whole _) mJ (Memref.isWhole_whole _) mQ (Memref.isWhole_whole _)
            mN (Memref.isWhole_whole _) mR (Memref.isWhole_whole _) mI (Memref.isWhole_whole _) mD (Memref.isWhole_whole _)) Q := by
  rw [cc0__knn_kernel_eq_skeleton]; unfold cc0__knn_kernel_skel
  unfold chunk
  generalize hk' : (if isFirst i = 1#1 then setup X k else k) = k'
  iintro ⟨H1, H2, Hk, HO, HJ, HQ⟩
  iapply (wp_part2 i arg1 harg1 arg2 harg2 c X Kc k _ Q k' hk'.symm)
  isplitl [H1]; · iexact H1
  isplitl [H2]; · iexact H2
  isplitl [Hk]; · iexact Hk
  iintro H1 H2 Hk
  unfold ownK
  icases Hk with ⟨Hq, Hn, Hs⟩
  simp only [Prog.lift, Prog.bind_op, Prog.bind_ret, Prog.pure_eq_ret]
  iapply (wp_call_spec 𝒱₀ (c : Thread nD τ) none Set.univ
    (spec k0_pay12 (k0_pay13 i) k0_pay11 c (turns k0_pay12 (k0_pay13 i) k0_pay11 (startB i Kc k') (enter i Kc k').s) (startB i Kc k') (enter i Kc k').s)
    (turns k0_pay12 (k0_pay13 i) k0_pay11 (startB i Kc k') (enter i Kc k').s) (fun u hu => nomatch hu)
    (spec_le _ _ _ i c Set.univ _ _ _ (turns_halts (hH _ _))))
  rw [spec_apply, show loopS k0_pay12 (k0_pay13 i) k0_pay11 (turns k0_pay12 (k0_pay13 i) k0_pay11 (startB i Kc k') (enter i Kc k').s)
    (startB i Kc k') (enter i Kc k').s = (settle i Kc k').s from rfl, show (enter i Kc k').q = (settle i Kc k').q from rfl,
    show (enter i Kc k').n = (settle i Kc k').n from rfl]
  generalize settle i Kc k' = k''
  isplitl [Hs]; · iexact Hs
  iintro %b' Hs
  by_cases h : k0_cond34 i = 1#1
  · rw [dif_pos h, if_pos h, if_pos h]
    simp only [Prog.bind_op, Prog.bind_ret]
    unfold ownS
    icases Hs with ⟨Hd, Hr, Hi⟩
    iapply (wp_load_rect 𝒱₀ (c : Thread nD τ) none Set.univ (m := mR) (r := rectA) (Finset.subset_univ _)) $$ Hr; iintro Hr
    iapply (wp_load_rect 𝒱₀ (c : Thread nD τ) none Set.univ (m := mO) (r := rectA) (Finset.subset_univ _)) $$ HO; iintro HO
    iapply (wp_store 𝒱₀ (c : Thread nD τ) none Set.univ (m := mO) (r := rectA) (Mk := Finset.univ) (Finset.subset_univ _)) $$ HO; iintro HO
    iapply (wp_load_rect 𝒱₀ (c : Thread nD τ) none Set.univ (m := mI) (r := rectA) (Finset.subset_univ _)) $$ Hi; iintro Hi
    iapply (wp_load_rect 𝒱₀ (c : Thread nD τ) none Set.univ (m := mJ) (r := rectA) (Finset.subset_univ _)) $$ HJ; iintro HJ
    iapply (wp_store 𝒱₀ (c : Thread nD τ) none Set.univ (m := mJ) (r := rectA) (Mk := Finset.univ) (Finset.subset_univ _)) $$ HJ; iintro HJ
    rw [writeA_O, writeA_J, readA_R, readA_I]
    rw [wp_ret]
    imodintro
    iapply HQ $$ H1 H2 [Hq Hn Hd Hr Hi] HO HJ
    isplitl [Hq]; · iexact Hq
    isplitl [Hn]; · iexact Hn
    isplitl [Hd]; · iexact Hd
    isplitl [Hr]; · iexact Hr
    iexact Hi
  · rw [dif_neg h, if_neg h, if_neg h]
    simp only [Prog.bind_op, Prog.bind_ret]
    rw [wp_ret]
    imodintro
    iapply HQ $$ H1 H2 [Hq Hn Hs] HO HJ
    isplitl [Hq]; · iexact Hq
    isplitl [Hn]; · iexact Hn
    iexact Hs
end

end Cert.KernelIdeal.Knn
-- ==== Proof.Knn.lean ====
/- The nearest-neighbour kernel over its 25 chunks of keys: what its two results hold when it is done. -/
module

public import proofs.«01_k».proof.Proof.KnnBody
public import proofs.«01_k».proof.Proof.Gen.KernelIdeal.Points
public import proofs.«01_k».proof.Proof.Gen.KernelIdeal.Regions
public import Idealize.ShloMosaic.Lib.Pipeline.RegionsLoop
public import Idealize.ShloMosaic.Lib.Pipeline.FrameBody

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ UU ℕ

variable (V : (c : Dev nD) → (b : Ref sig .tc) → Buf (Elt F) ((c : Thread nD τ).loc b))

/-- The states' block at a chunk. -/
abbrev stgX (c : Dev nD) (t : Fin grid0.N) : Vec F S1024x512 .f32 := (((cfg0 (F := F)).win 0).blk t).view.read (Elt F) (V c main_v0)
/-- The keys at a chunk. -/
abbrev stgK (c : Dev nD) (t : Fin grid0.N) : Vec F S64x4096 .f32 := (((cfg0 (F := F)).win 1).blk t).view.read (Elt F) (V c main_v2)

/-- Before the first chunk: anything. -/
def keep0 : Keep F := ⟨fun _ => Scalar.ofBits .f32 0x00000000#32, fun _ => Scalar.ofBits .f32 0x00000000#32,
  ⟨fun _ => Scalar.ofBits .f32 0x00000000#32, fun _ => Scalar.ofBits .f32 0x00000000#32, fun _ => Scalar.ofBits .f32 0x00000000#32⟩⟩

/-- What is kept after `n` chunks. -/
def keepAt (c : Dev nD) : ℕ → Keep F
  | 0 => keep0
  | n + 1 => if h : n < grid0.N then chunk (grid0.coords ⟨n, h⟩) (stgX V c ⟨n, h⟩) (stgK V c ⟨n, h⟩) (keepAt c n) else keepAt c n

theorem keepAt_succ (c : Dev nD) (t : Fin grid0.N) :
    keepAt V c (t.val + 1) = chunk (grid0.coords t) (stgX V c t) (stgK V c t) (keepAt V c t.val) := by
  conv_lhs => unfold keepAt
  exact dif_pos t.isLt

/-- At the first chunk nothing kept before matters. -/
theorem chunk_first {i : grid0.Coords} (h : isFirst i = 1#1) (X : Vec F S1024x512 .f32) (Kc : Vec F S64x4096 .f32) (k k' : Keep F) :
    chunk i X Kc k = chunk i X Kc k' := by
  unfold chunk
  rw [if_pos h, if_pos h]
  rfl

theorem isFirst_iff : ∀ t : Fin grid0.N, isFirst (grid0.coords t) = 1#1 ↔ t.val = 0 := by decide
theorem cond34_iff : ∀ t : Fin grid0.N, k0_cond34 (grid0.coords t) = 1#1 ↔ t.val = 24 := by decide

/-- The buffers the pipeline does not stage, but the kernel's own scratch. -/
abbrev restBut (c : Dev nD) : sProp 𝕄 := Pipeline.scopedRestBut (Ix := Unit) (Name := ℕ) (U := UU) (Lvl := ℕ) (Val := Elt F) spec0 c
  [cc0_scratch0, cc0_scratch1, cc0_scratch2, cc0_scratch3, cc0_scratch4]

/-- The invariant between chunks: before the first the scratch holds anything, later what is kept. -/
def inv (c : Dev nD) (n : ℕ) : sProp 𝕄 :=
  if n = 0 then Pipeline.scopedRest (Ix := Unit) (Name := ℕ) (U := UU) (Lvl := ℕ) (Val := Elt F) spec0 c
  else iprop(ownK c (keepAt V c n) ∗ restBut c)

/-- The invariant opened: some `k` is held, the one kept unless the chunk is the first. -/
theorem inv_open (c : Dev nD) (n : ℕ) :
    (inv V c n : sProp 𝕄) ⊢ iprop(∃ k, ⌜n ≠ 0 → k = keepAt V c n⌝ ∗ ownK c k ∗ restBut c) := by
  unfold inv
  by_cases h : n = 0
  · rw [if_pos h, scopedRest0_split]
    iintro ⟨⟨⟨%f0, H0⟩, ⟨%f1, H1⟩, ⟨%f2, H2⟩, ⟨%f3, H3⟩, ⟨%f4, H4⟩⟩, Hr⟩
    iexists (⟨f0, f1, ⟨f4, f2, f3⟩⟩ : Keep F)
    isplitr; · ipureintro; exact fun h' => absurd h h'
    isplitr [Hr]
    · unfold ownK ownS
      isplitl [H0]; · iexact H0
      isplitl [H1]; · iexact H1
      isplitl [H4]; · iexact H4
      isplitl [H2]; · iexact H2
      iexact H3
    iexact Hr
  · rw [if_neg h]
    iintro ⟨H, Hr⟩
    iexists keepAt V c n
    isplitr; · ipureintro; exact fun _ => rfl
    isplitl [H]; · iexact H
    iexact Hr

theorem inv_succ (c : Dev nD) (n : ℕ) : (inv V c (n + 1) : sProp 𝕄) = iprop(ownK c (keepAt V c (n + 1)) ∗ restBut c) := by
  unfold inv; rw [if_neg (Nat.succ_ne_zero n)]

/-- Kept or not, the invariant's end gives the unstaged buffers back. -/
theorem inv_close (c : Dev nD) (n : ℕ) :
    (inv V c (n + 1) : sProp 𝕄) ⊢ Pipeline.scopedRest (Ix := Unit) (Name := ℕ) (U := UU) (Lvl := ℕ) (Val := Elt F) spec0 c := by
  rw [inv_succ, scopedRest0_split]
  unfold ownK ownS
  iintro ⟨⟨H0, H1, H4, H2, H3⟩, Hr⟩
  isplitr [Hr]
  · isplitl [H0]; · iexists _; iexact H0
    isplitl [H1]; · iexists _; iexact H1
    isplitl [H2]; · iexists _; iexact H2
    isplitl [H3]; · iexists _; iexact H3
    iexists _; iexact H4
  iexact Hr

/-- The region's proof data from a valuation. -/
def dat (c : Dev nD) : Dat τ (Elt F) Unit ℕ UU ℕ (cfg0 (F := F)) c where
  A w := V c (Pipeline.arrRef spec0 w)
  after w t := match w with
    | ⟨0, _⟩ => stgX V c t
    | ⟨1, _⟩ => stgK V c t
    | ⟨2, _⟩ => (keepAt V c (t.val + 1)).s.rd
    | ⟨3, _⟩ => k0_pay2 (keepAt V c (t.val + 1)).s.ri
  Φ t := inv V c t.val
  q _ := fullShare
  owed _ := 0

theorem before_X (c : Dev nD) (t : Fin grid0.N) (d) : (dat V c).before 0 t d = stgX V c t :=
  (dat V c).before_in_eq_fetched 0 rfl (fun _ => rfl) (fun _ _ _ => rfl) (fun _ => rfl) t d
theorem before_K (c : Dev nD) (t : Fin grid0.N) (d) : (dat V c).before 1 t d = stgK V c t :=
  (dat V c).before_in_eq_fetched 1 rfl (fun _ => rfl) (fun _ _ _ => rfl) (fun _ => rfl) t d

theorem idle_t (w : Fin 4) (hw : w = 2 ∨ w = 3) {t : Fin grid0.N} (h : ¬k0_cond34 (grid0.coords t) = 1#1) :
    (cfg0 (F := F)).idle w ((cfg0 (F := F)).grid.coords t) = true := by
  have e : (!(k0_cond34 (grid0.coords t) == 1#1)) = true := by
    rw [Bool.not_eq_true', beq_eq_false_iff_ne]; exact h
  rcases hw with rfl | rfl <;> exact e
theorem idle_f (w : Fin 4) (hw : w = 2 ∨ w = 3) {t : Fin grid0.N} (h : k0_cond34 (grid0.coords t) = 1#1) :
    (cfg0 (F := F)).idle w ((cfg0 (F := F)).grid.coords t) = false := by
  have e : (!(k0_cond34 (grid0.coords t) == 1#1)) = false := by rw [h]; rfl
  rcases hw with rfl | rfl <;> exact e
theorem flush_f (w : Fin 4) (hw : w = 2 ∨ w = 3) {t : Fin grid0.N} (h : ¬k0_cond34 (grid0.coords t) = 1#1) :
    ((cfg0 (F := F)).win w).flush t = false := by
  rw [cond34_iff] at h
  have hlt : t.val < 25 := t.isLt
  rw [← Bool.not_eq_true]
  rcases hw with rfl | rfl
  · exact fun e => h (by have := (flush0_2 (F := F) t).mp e; omega)
  · exact fun e => h (by have := (flush0_3 (F := F) t).mp e; omega)

/-- The body at a chunk, over the staging buffers the outputs' the first of each. -/
theorem wp_staged0 (i : grid0.Coords) (c : Dev nD) (s0 : Fin 1) (s1 : Fin 2)
    (X : Vec F S1024x512 .f32) (Kc : Vec F S64x4096 .f32) (k : Keep F)
    (o2 : Vec F S1024x64 .f32) (o3 : Vec F S1024x64 .i32) (Q : PUnit → sProp 𝕄)
    (hH : ∀ (b : BitVec 1) (s : St F), ∃ n, Halts k0_pay12 (k0_pay13 i) k0_pay11 n b s) :
    iprop(owns (c : Thread nD τ) (stage0_0 s0) fullShare X ∗ owns (c : Thread nD τ) (stage0_1 s1) fullShare Kc ∗ ownK c k
        ∗ owns (c : Thread nD τ) mO fullShare o2 ∗ owns (c : Thread nD τ) mJ fullShare o3
        ∗ (owns (c : Thread nD τ) (stage0_0 s0) fullShare X -∗ owns (c : Thread nD τ) (stage0_1 s1) fullShare Kc -∗ ownK c (chunk i X Kc k) -∗
          owns (c : Thread nD τ) mO fullShare (if k0_cond34 i = 1#1 then (chunk i X Kc k).s.rd else o2) -∗
          owns (c : Thread nD τ) mJ fullShare (if k0_cond34 i = 1#1 then k0_pay2 (chunk i X Kc k).s.ri else o3) -∗ Q ⟨⟩))
      ⊢ wp frame (wpE (defs₀ (F := F)) 𝒱₀ (c : Thread nD τ) none) Set.univ
          (cc0__knn_kernel i (stage0_0 s0) (hstage0_0 s0) (stage0_1 s1) (hstage0_1 s1) mO (Memref.isWhole_whole _) mJ (Memref.isWhole_whole _)
            mQ (Memref.isWhole_whole _) mN (Memref.isWhole_whole _) mR (Memref.isWhole_whole _) mI (Memref.isWhole_whole _)
            mD (Memref.isWhole_whole _)) Q := by
  rw [owns_whole_eq, owns_whole_eq, owns_whole_eq, owns_whole_eq]
  iintro ⟨H1, H2, Hk, ⟨%f2, %h2, HO⟩, ⟨%f3, %h3, HJ⟩, HQ⟩
  subst h2; subst h3
  iapply (wp_body i (stage0_0 s0) (hstage0_0 s0) (stage0_1 s1) (hstage0_1 s1) c X Kc k _ _ Q hH)
  isplitl [H1]; · iexact H1
  isplitl [H2]; · iexact H2
  isplitl [Hk]; · iexact Hk
  isplitl [HO]; · iexact HO
  isplitl [HJ]; · iexact HJ
  iintro H1 H2 Hk HO HJ
  iapply HQ $$ H1 H2 Hk [HO] [HJ]
  · iexists _; isplitr; swap; (· iexact HO); ipureintro; rfl
  · iexists _; isplitr; swap; (· iexact HJ); ipureintro; rfl

/-- The body at a chunk, over the staging buffers as the pipeline hands them. -/
theorem wp_staged (i : grid0.Coords) (c : Dev nD) (s0 : Fin 1) (s1 : Fin 2) (s2 s3 : Fin 1)
    (X : Vec F S1024x512 .f32) (Kc : Vec F S64x4096 .f32) (k : Keep F)
    (o2 : Vec F S1024x64 .f32) (o3 : Vec F S1024x64 .i32) (Q : PUnit → sProp 𝕄)
    (hH : ∀ (b : BitVec 1) (s : St F), ∃ n, Halts k0_pay12 (k0_pay13 i) k0_pay11 n b s) :
    iprop(owns (c : Thread nD τ) (stage0_0 s0) fullShare X ∗ owns (c : Thread nD τ) (stage0_1 s1) fullShare Kc ∗ ownK c k
        ∗ owns (c : Thread nD τ) (stage0_2 s2) fullShare o2 ∗ owns (c : Thread nD τ) (stage0_3 s3) fullShare o3
        ∗ (owns (c : Thread nD τ) (stage0_0 s0) fullShare X -∗ owns (c : Thread nD τ) (stage0_1 s1) fullShare Kc -∗ ownK c (chunk i X Kc k) -∗
          owns (c : Thread nD τ) (stage0_2 s2) fullShare (if k0_cond34 i = 1#1 then (chunk i X Kc k).s.rd else o2) -∗
          owns (c : Thread nD τ) (stage0_3 s3) fullShare (if k0_cond34 i = 1#1 then k0_pay2 (chunk i X Kc k).s.ri else o3) -∗ Q ⟨⟩))
      ⊢ wp frame (wpE (defs₀ (F := F)) 𝒱₀ (c : Thread nD τ) none) Set.univ
          (cc0__knn_kernel i (stage0_0 s0) (hstage0_0 s0) (stage0_1 s1) (hstage0_1 s1) (stage0_2 s2) (hstage0_2 s2) (stage0_3 s3) (hstage0_3 s3)
            mQ (Memref.isWhole_whole _) mN (Memref.isWhole_whole _) mR (Memref.isWhole_whole _) mI (Memref.isWhole_whole _)
            mD (Memref.isWhole_whole _)) Q := by
  obtain rfl : s2 = 0 := Subsingleton.elim _ _
  obtain rfl : s3 = 0 := Subsingleton.elim _ _
  exact wp_staged0 i c s0 s1 X Kc k o2 o3 Q hH

/-- Every loop ends. -/
def AllHalt : Prop := ∀ (i : grid0.Coords) (b : BitVec 1) (s : St F), ∃ n, Halts (F := F) k0_pay12 (k0_pay13 i) k0_pay11 n b s

/-- The library's body obligation. -/
theorem body_obligation (hH : AllHalt (F := F)) (c : Dev nD) : BodyObligation (dat V c) (defs₀ (F := F)) 𝒱₀ () Set.univ := fun t => by
  rw [bigSep_W0, bigSep_W0]
  rw [show (dat V c).Φ t.castSucc = inv V c t.val from rfl, show (dat V c).Φ t.succ = inv V c (t.val + 1) from rfl,
    show (dat V c).owesAt () t.succ = (dat V c).owesAt () t.castSucc from rfl, inv_succ]
  iintro ⟨HΦ, Howes, ⟨%d0, H0⟩, ⟨%d1, H1⟩, ⟨%d2, H2⟩, ⟨%d3, H3⟩⟩
  rw [show (dat V c).before (0 : Fin 4) t d0 = stgX V c t from before_X V c t d0,
    show (dat V c).before (1 : Fin 4) t d1 = stgK V c t from before_K V c t d1]
  ihave HΦ := (inv_open V c t.val) $$ HΦ
  icases HΦ with ⟨%k, %hk, Hk, Hr⟩
  have hch : chunk (grid0.coords t) (stgX V c t) (stgK V c t) k = keepAt V c (t.val + 1) := by
    rw [keepAt_succ]
    by_cases h0 : t.val = 0
    · exact chunk_first ((isFirst_iff t).mpr h0) _ _ _ _
    · rw [hk h0]
  iapply (wp_staged (grid0.coords t) c ((cfg0 (F := F)).slots t 0) ((cfg0 (F := F)).slots t 1) ((cfg0 (F := F)).slots t 2) ((cfg0 (F := F)).slots t 3)
    (stgX V c t) (stgK V c t) k _ _ _ (hH _))
  isplitl [H0]; · iexact H0
  isplitl [H1]; · iexact H1
  isplitl [Hk]; · iexact Hk
  isplitl [H2]; · iexact H2
  isplitl [H3]; · iexact H3
  iintro H0 H1 Hk H2 H3
  rw [hch]
  isplitl [Hk Hr]; · isplitl [Hk] <;> iassumption
  isplitl [Howes]; · iexact Howes
  isplitl [H0]; · iexact H0
  isplitl [H1]; · iexact H1
  by_cases h : k0_cond34 (grid0.coords t) = 1#1
  · rw [if_pos h, if_pos h, idle_f (2 : Fin 4) (.inl rfl) h]
    isplitl [H2]; · iexact H2
    iexact H3
  · rw [if_neg h, if_neg h, idle_t (2 : Fin 4) (.inl rfl) h, flush_f (2 : Fin 4) (.inl rfl) h,
      flush_f (3 : Fin 4) (.inr rfl) h]
    isplitl [H2]; · iexists d2; iexact H2
    iexists d3; iexact H3

/-- The two results' arrays after the region. -/
def outD (c : Dev nD) : Buf (Elt F) ((c : Thread nD τ).loc main_v3_0) := (dat V c).arrAt 2 (cfg0 (F := F)).N
def outI (c : Dev nD) : Buf (Elt F) ((c : Thread nD τ).loc main_v3_1) := (dat V c).arrAt 3 (cfg0 (F := F)).N

/-- No core owes another anything: no level is assigned. -/
abbrev L : GSem nD τ sig → Finset Unit := fun _ => ∅
abbrev lv : GSem nD τ sig → Unit → ℕ := fun _ _ => 0

variable (Vp : (c : Dev nD) → (b : Ref sig .tc) → Buf (Elt F) ((c : Thread nD τ).loc b))
variable (pd : (p : Fin 2) → (c : Dev nD) → Dat τ (Elt F) Unit ℕ UU ℕ (Pipeline.pin (pcfgs (F := F)) adm p) c)

set_option backward.isDefEq.respectTransparency.types false in
/-- The region over the thread state. -/
def reg (hpd : ∀ c, pd 0 c = dat V c) (hH : AllHalt (F := F)) (h0 : ∀ c, Vp c main_v3_0 = outD V c) (h1 : ∀ c, Vp c main_v3_1 = outI V c)
    (hVp : ∀ c (b : Ref sig .tc), b ≠ main_v3_0 → b ≠ main_v3_1 → Vp c b = V c b) :
    Pipeline.RegionSeg (pcfgs (F := F)) adm pd () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := by rw [hpd]; exact (body_obligation V hH c).loose
  hwaits := Pipeline.hwaits_of_owed_zero _ _ _ _ L lv 0 fun c t => by rw [hpd]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm pd (launch0 (F := F)).win (launch0 (F := F)).arr_whole c
      ((pd 0 c).share_full fun _ => by rw [hpd]; rfl) (V c) fun _ => by rw [hpd]; rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hpd]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hpd, show (dat V c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, hpd]
    refine BIBase.Entails.trans (show (dat V c).Φ (Fin.last (cfg0 (F := F)).N) ⊢ inv V c (24 + 1) from BI.Entails.refl _) ?_
    iintro Hr
    isplitr; · iempintro
    isplitr; · iempintro
    iapply (inv_close V c 24) $$ Hr
  hexit c := by
    have hjoin := Pipeline.unscopedBufs_of_arrays (p := 0) (pcfgs (F := F)) adm (Ix := Unit) (Name := ℕ) (U := UU) (Lvl := ℕ) (launch0 (F := F)).win (launch0 (F := F)).arr_whole c
      pd ((pd 0 c).share_full fun _ => by rw [hpd]; rfl) (V c) (Vp c) ((pd 0 c).arrAt · (cfg0 (F := F)).N)
      (fun w => by
        rw [hpd]
        fin_cases w
        · exact ((dat V c).arrAt_in 0 rfl _).trans (hVp c main_v0 (by decide) (by decide)).symm
        · exact ((dat V c).arrAt_in 1 rfl _).trans (hVp c main_v2 (by decide) (by decide)).symm
        · exact (h0 c).symm
        · exact (h1 c).symm)
      (fun b hb => hVp c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    rw [hpd]
    unfold Pipeline.Dat.owesAt Pipeline.owesWithin
    icases HO with ⟨%W, -, HO⟩; iexists W; iexact HO

end Cert.KernelIdeal.Knn
-- ==== Proof.Steps.lean ====
/- The merge loop over the extended reals: it ends, and what holds of each row is kept. -/
module

public import proofs.«01_k».proof.Proof.Rows
public import proofs.«01_k».proof.Proof.Knn

@[expose] public section

set_option maxRecDepth 16384

noncomputable section

namespace Cert.KernelIdeal.Knn

open Idealize.ShloMosaic Idealize.ShloMosaic.TcCoe Idealize.ShloMosaic.Pointwise
open Cert.KernelIdeal Cert.KernelIdeal.Gen Cert.KernelIdeal.Row

theorem fold_pos {ι : Type} [Fintype ι] (p : ι → Prop) [DecidablePred p] :
    (0 : EReal) < Finset.univ.fold max (⊥ : EReal) (fun x => if p x then (1 : EReal) else 0) ↔ ∃ x, p x := by
  rw [show Finset.univ.fold max (⊥ : EReal) (fun x => if p x then (1 : EReal) else 0) = Finset.univ.sup (fun x => if p x then (1 : EReal) else 0) from rfl, Finset.lt_sup_iff]
  constructor
  · rintro ⟨x, -, h⟩
    by_contra hn
    rw [if_neg (fun hp => hn ⟨x, hp⟩)] at h
    exact lt_irrefl _ h
  · rintro ⟨x, h⟩
    exact ⟨x, Finset.mem_univ x, by rw [if_pos h]; exact zero_lt_one⟩

theorem ogt_iff (a b : EReal) : Scalar.cmpf (F := Ideal) (φ := .f32) .ogt a b = 1#1 ↔ b < a := by
  rw [show Scalar.cmpf (F := Ideal) (φ := .f32) .ogt a b = BitVec.ofBool (decide (b < a)) from rfl]
  by_cases h : b < a
  · simp [h]
  · simp [h]

theorem zero_bits : (Scalar.ofBits (F := Ideal) .f32 0x00000000#32 : EReal) = 0 := by
  show Ideal.ofBits .f32 0x00000000#32 = 0
  simp [Ideal.ofBits, Ideal.ieee]

theorem fires_iff (v : Vec Ideal S1024x128 .f32) (u : Vec Ideal S1024x1 .f32) :
    fires v u = 1#1 ↔ ∃ (r : Fin 1024) (k : Fin 128), v (ix2 r k) < u (ix2 r 0) := by
  have h : k0_pay527 v u = Finset.univ.fold max (⊥ : EReal) (fun x : Fin 1024 × Fin 128 => if v (ix2 x.1 x.2) < u (ix2 x.1 0) then (1 : EReal) else 0) := by
    pointwise [k0_pay527]; rw [bits_bot]
  unfold fires
  rw [zero_bits]
  have hb : ∀ b : BitVec 1, Scalar.cmpi .ne (Scalar.extui b : BitVec 32) 0#32 = 1#1 ↔ b = 1#1 := by decide
  rw [hb, ogt_iff, h, fold_pos]
  exact ⟨fun ⟨x, hx⟩ => ⟨x.1, x.2, hx⟩, fun ⟨r, k, hx⟩ => ⟨(r, k), hx⟩⟩

theorem more_iff (u : Vec Ideal S1024x1 .f32) (v : Vec Ideal S1024x4096 .f32) :
    more u v = 1#1 ↔ ∃ (r : Fin 1024) (k : Fin 4096), v (ix2 r k) < u (ix2 r 0) := by
  have h : k0_pay3 (F := Ideal) (k0_pay641 u v) k0_pay642 k0_pay643 = Finset.univ.fold max (⊥ : EReal) (fun x : Fin 1024 × Fin 4096 => if v (ix2 x.1 x.2) < u (ix2 x.1 0) then (1 : EReal) else 0) := by
    pointwise [k0_pay3, k0_pay641, k0_pay642, k0_pay643]; rw [bits_bot]
  unfold more
  rw [zero_bits, ogt_iff, h, fold_pos]
  exact ⟨fun ⟨x, hx⟩ => ⟨x.1, x.2, hx⟩, fun ⟨r, k, hx⟩ => ⟨(r, k), hx⟩⟩

variable (i : grid0.Coords)

/-- One group's step. -/
abbrev stp (s : St Ideal) (g : Fin 32) : St Ideal := stepG k0_pay12 (k0_pay13 i) k0_pay11 s g

/-- A row of the chunk, and of the two lists. -/
def rowD (s : St Ideal) (r : Fin 1024) : Fin 4096 → EReal := fun j => s.dm (ix2 r j)
def rowR (s : St Ideal) (r : Fin 1024) : Fin 64 → EReal := fun l => s.rd (ix2 r l)
def rowI (s : St Ideal) (r : Fin 1024) : Fin 64 → EReal := fun l => s.ri (ix2 r l)

theorem rowD_mk (a : Vec Ideal S1024x4096 .f32) (b c : Vec Ideal S1024x64 .f32) (r : Fin 1024) : rowD ⟨a, b, c⟩ r = fun j => a (ix2 r j) := rfl
theorem rowR_mk (a : Vec Ideal S1024x4096 .f32) (b c : Vec Ideal S1024x64 .f32) (r : Fin 1024) : rowR ⟨a, b, c⟩ r = fun l => b (ix2 r l) := rfl
theorem rowI_mk (a : Vec Ideal S1024x4096 .f32) (b c : Vec Ideal S1024x64 .f32) (r : Fin 1024) : rowI ⟨a, b, c⟩ r = fun l => c (ix2 r l) := rfl

/-- Does the group's step fire? -/
def Fires (s : St Ideal) (g : Fin 32) : Prop := ∃ (r : Fin 1024) (k : Fin 128), rowD s r (col g k) < rowR s r 63

theorem fires_rows (s : St Ideal) (g : Fin 32) : fires (sliceG g s.dm) (lastCol s.rd) = 1#1 ↔ Fires s g := by
  rw [fires_iff]; unfold Fires rowD rowR
  simp only [sliceG_col, lastCol_row]

theorem stp_idle {s : St Ideal} {g : Fin 32} (h : ¬ Fires s g) : stp i s g = s := by
  unfold stp stepG; rw [if_neg (fun h' => h ((fires_rows s g).mp h'))]

theorem stp_fire {s : St Ideal} {g : Fin 32} (h : Fires s g) : stp i s g = ⟨putG g s.dm (k0_pay20 k0_pay12 (sliceG g s.dm)), newDist (F := Ideal) k0_pay11 k0_pay12 (sliceG g s.dm) s.rd,
    newIdx (word g) k0_pay11 k0_pay12 (k0_pay13 i) (sliceG g s.dm) s.rd s.ri⟩ := by
  unfold stp stepG; rw [if_pos ((fires_rows s g).mpr h)]; rfl

/-- A row of the slice after two of its entries are gone, put back. -/
theorem put_row (dm : Vec Ideal S1024x4096 .f32) (v : Vec Ideal S1024x128 .f32) (g : Fin 32) (r : Fin 1024) (k₁ k₂ : Fin 128)
    (h20 : (fun k => v (ix2 r k)) = Function.update (Function.update (fun k => sliceG g dm (ix2 r k)) k₁ ⊤) k₂ ⊤) (j : Fin 4096) :
    putG g dm v (ix2 r j) = Function.update (Function.update (fun j => dm (ix2 r j)) (col g k₁) ⊤) (col g k₂) ⊤ j := by
  obtain ⟨g', k, rfl⟩ := col_surj j
  by_cases hg : g' = g
  · subst hg
    rw [putG_col, show v (ix2 r k) = _ from congrFun h20 k]
    by_cases hk2 : k = k₂
    · subst hk2; rw [Function.update_self, Function.update_self]
    · rw [Function.update_of_ne hk2, Function.update_of_ne (fun hc => hk2 (col_inj hc).2)]
      by_cases hk1 : k = k₁
      · subst hk1; rw [Function.update_self, Function.update_self]
      · rw [Function.update_of_ne hk1, Function.update_of_ne (fun hc => hk1 (col_inj hc).2)]
        exact sliceG_col r g' k dm
  · rw [putG_ne _ _ _ _ hg, Function.update_of_ne (fun hc => hg (col_inj hc).1), Function.update_of_ne (fun hc => hg (col_inj hc).1)]

theorem slice_second (dm : Vec Ideal S1024x4096 .f32) (g : Fin 32) (r : Fin 1024) (k₁ k₂ : Fin 128) :
    Function.update (fun j => dm (ix2 r j)) (col g k₁) ⊤ (col g k₂) = Function.update (fun k => sliceG g dm (ix2 r k)) k₁ ⊤ k₂ := by
  by_cases hk : k₂ = k₁
  · subst hk; rw [Function.update_self, Function.update_self]
  · rw [Function.update_of_ne hk, Function.update_of_ne (fun hc => hk (col_inj hc).2), sliceG_col]

theorem idx_col (g : Fin 32) (k : Fin 128) : k0_pay13 (F := Ideal) i + Ideal.ofBits .f32 (word g) + e k.val = e (4096 * (i 0).val + (col g k).val) := by
  rw [base13, word_val, e_add, e_add]
  exact congrArg e (by show _ = 4096 * (i 0).val + (128 * g.val + k.val); omega)

/-- A firing step on one row: two values leave the chunk and enter the list. -/
theorem stp_row {s : St Ideal} {g : Fin 32} (h : Fires s g) (r : Fin 1024) : ∃ k₁ k₂ : Fin 128,
    (∀ k, rowD s r (col g k₁) ≤ rowD s r (col g k))
    ∧ rowD (stp i s g) r = Function.update (Function.update (rowD s r) (col g k₁) ⊤) (col g k₂) ⊤
    ∧ rowR (stp i s g) r = two (rank (rowR s r) (rowD s r (col g k₁))) (rank (rowR s r) (Function.update (rowD s r) (col g k₁) ⊤ (col g k₂)) + 1)
        (rowD s r (col g k₁)) (Function.update (rowD s r) (col g k₁) ⊤ (col g k₂)) (rowR s r)
    ∧ rowI (stp i s g) r = two (rank (rowR s r) (rowD s r (col g k₁))) (rank (rowR s r) (Function.update (rowD s r) (col g k₁) ⊤ (col g k₂)) + 1)
        (e (4096 * (i 0).val + (col g k₁).val)) (e (4096 * (i 0).val + (col g k₂).val)) (rowI s r) := by
  obtain ⟨k₁, k₂, h15, h16, hle, h18, h19, h20⟩ := taken (sliceG g s.dm) r
  have hD := newDist_row (sliceG g s.dm) r s.rd
  have hI := newIdx_row (sliceG g s.dm) r (word g) (k0_pay13 (F := Ideal) i) s.rd s.ri
  rw [h16, h19, idx_col, idx_col] at hI
  rw [h18, ← slice_second s.dm g r k₁ k₂, h15, sliceG_col] at hD hI
  refine ⟨k₁, k₂, fun k => ?_, ?_, ?_, ?_⟩
  · have := hle k; rw [sliceG_col, sliceG_col] at this; exact this
  · rw [stp_fire i h, rowD_mk]; funext j; rw [put_row s.dm _ g r k₁ k₂ h20 j]; unfold rowD; rfl
  · rw [stp_fire i h, rowR_mk, hD]; unfold rowD rowR; rfl
  · rw [stp_fire i h, rowI_mk, hI]; unfold rowD rowR rowI; rfl

/-- How many entries of the chunk are still there. -/
def count (s : St Ideal) : ℕ := (Finset.univ.filter fun p : Fin 1024 × Fin 4096 => rowD s p.1 p.2 < ⊤).card

theorem count_lt {s : St Ideal} {g : Fin 32} (h : Fires s g) : count (stp i s g) < count s := by
  obtain ⟨r, k, hr⟩ := id h
  refine Finset.card_lt_card ⟨fun p hp => ?_, fun hsub => ?_⟩
  · simp only [Finset.mem_filter, Finset.mem_univ, true_and] at hp ⊢
    obtain ⟨k₁, k₂, -, hd, -⟩ := stp_row i h p.1
    rw [hd] at hp
    have h2 : p.2 ≠ col g k₂ := fun hc => by rw [hc, Function.update_self] at hp; exact lt_irrefl _ hp
    rw [Function.update_of_ne h2] at hp
    have h1 : p.2 ≠ col g k₁ := fun hc => by rw [hc, Function.update_self] at hp; exact lt_irrefl _ hp
    rwa [Function.update_of_ne h1] at hp
  · obtain ⟨k₁, k₂, hle, hd, -⟩ := stp_row i h r
    have hm : (r, col g k₁) ∈ Finset.univ.filter fun p : Fin 1024 × Fin 4096 => rowD s p.1 p.2 < ⊤ := by
      simp only [Finset.mem_filter, Finset.mem_univ, true_and]
      exact lt_of_le_of_lt (hle k) (lt_of_lt_of_le hr le_top)
    have := hsub hm
    simp only [Finset.mem_filter, Finset.mem_univ, true_and] at this
    rw [hd] at this
    by_cases hk : col g k₁ = col g k₂
    · rw [hk, Function.update_self] at this; exact lt_irrefl _ this
    · rw [Function.update_of_ne hk, Function.update_self] at this; exact lt_irrefl _ this

/-- Steps in a row either shrink the chunk or change nothing. -/
theorem steps_cases (l : List (Fin 32)) (s : St Ideal) : count (l.foldl (stp i) s) < count s ∨ (l.foldl (stp i) s = s ∧ ∀ g ∈ l, ¬ Fires s g) := by
  induction l generalizing s with
  | nil => exact .inr ⟨rfl, by simp⟩
  | cons g l ih =>
    rw [List.foldl_cons]
    by_cases h : Fires s g
    · left
      have h1 := count_lt i h
      rcases ih (stp i s g) with h2 | ⟨h2, -⟩
      · omega
      · rw [h2]; exact h1
    · rw [stp_idle i h]
      rcases ih s with h2 | ⟨h2, h3⟩
      · exact .inl h2
      · exact .inr ⟨h2, List.forall_mem_cons.mpr ⟨h, h3⟩⟩

/-- One round. -/
abbrev rnd (s : St Ideal) : St Ideal := roundS k0_pay12 (k0_pay13 i) k0_pay11 s

theorem moreS_iff (s : St Ideal) : moreS s = 1#1 ↔ ∃ (r : Fin 1024) (j : Fin 4096), rowD s r j < rowR s r 63 := by
  unfold moreS; rw [more_iff]; unfold rowD rowR
  simp only [lastCol_row]

/-- The merge loop ends. -/
theorem halts (i : grid0.Coords) (b : BitVec 1) (s : St Ideal) : ∃ n, Halts (F := Ideal) k0_pay12 (k0_pay13 i) k0_pay11 n b s := by
  induction hN : count s using Nat.strong_induction_on generalizing b s with
  | _ N ih =>
    rcases steps_cases i (List.finRange 32) s with h | ⟨h, hn⟩
    · obtain ⟨n, hn⟩ := ih (count (rnd i s)) (by rw [← hN]; exact h) (moreS (rnd i s)) (rnd i s) rfl
      exact ⟨n + 1, fun _ => hn⟩
    · refine ⟨1, fun _ => ?_⟩
      show moreS (rnd i s) ≠ 1#1
      rw [show rnd i s = s from h, Ne, moreS_iff]
      rintro ⟨r, j, hj⟩
      obtain ⟨g, k, rfl⟩ := col_surj j
      exact hn g (List.mem_finRange g) ⟨r, k, hj⟩

theorem allHalt : AllHalt (F := Ideal) := fun i b s => halts i b s

end Cert.KernelIdeal.Knn
-- ==== Proof.HeadBody.lean ====
/- The second kernel: the two classifiers' heads, on the neighbours found. -/
module

public import proofs.«01_k».proof.Proof.Knn

@[expose] public section

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Knn (UU 𝒱₀ L lv wp_load_owns offA)

variable {F : FTy → Type} [FloatOps F] [Named F]

local notation "𝕄" => MT nD τ sig Unit (Elt F) ℕ UU ℕ

/-- The part of a block a rectangle names. -/
def cut {s : Shape} {e : EltTy} (r : Rect s) (X : s.Idx → Elt F e) : r.shape.Idx → Elt F e := fun i => X (r.emb i)

theorem wp_load_cut {α : Type} (c : Dev nD) {s : Shape} {e : EltTy} {M : Memref sig .tc .vmem s e}
    (r : Rect s) {hl : M.view.LoadsAt r.toLoadRect} {k : (r.shape.Idx → Elt F e) → Prog (TpuEff nD τ sig (Elt F) (Λ₀ F) .tc) α}
    {X : s.Idx → Elt F e} {Q : α → sProp 𝕄} :
    (owns (c : Thread nD τ) M fullShare X : sProp 𝕄)
      ⊢ iprop((owns (c : Thread nD τ) M fullShare X -∗ wp frame (wpE (defs₀ (F := F)) 𝒱₀ (c : Thread nD τ) none) Set.univ (k (cut r X)) Q)
        -∗ wp frame (wpE (defs₀ (F := F)) 𝒱₀ (c : Thread nD τ) none) Set.univ (.op (.load M r.toLoadRect hl) k) Q) :=
  wp_load_owns c none Set.univ

/-- The kernel's 19 operands. -/
structure In (F : FTy → Type) where
  x0 : Vec F S1024x64 .f32
  x1 : Vec F S1024x64 .f32
  x2 : Vec F S1024x1 .f32
  x3 : Vec F S1024x136 .f32
  x4 : Vec F S64x32 .f32
  x5 : Vec F S8x32 .f32
  x6 : Vec F S32x64 .f32
  x7 : Vec F S8x64 .f32
  x8 : Vec F S64x32 .f32
  x9 : Vec F S8x32 .f32
  x10 : Vec F S8x32 .f32
  x11 : Vec F S8x1 .f32
  x12 : Vec F S64x32 .f32
  x13 : Vec F S8x32 .f32
  x14 : Vec F S8x32 .f32
  x15 : Vec F S8x32 .f32
  x16 : Vec F S8x32 .f32
  x17 : Vec F S8x32 .f32
  x18 : Vec F S8x1 .f32

variable (I : In F)

/-! The kernel's values, in the order it computes them. -/

def h1 : FVec F S1024x64 .f32 := k1_pay9 (cut (Rect.unit (s := S1024x64) ![0, 0] S1024x64.size inb_S1024x64_S1024x64_0_0) I.x0)
def h5 : FVec F S1024x1 .f32 := k1_pay10 (cut (Rect.unit (s := S1024x1) ![0, 0] S1024x1.size inb_S1024x1_S1024x1_0_0) I.x2)
def h38 : FVec F S1024 .f32 := k1_pay11 (cut (Rect.unit (s := S1024x64) ![0, 0] S1024x64.size inb_S1024x64_S1024x64_0_0) I.x0) (cut (Rect.unit (s := S1024x64) ![0, 0] S1024x64.size inb_S1024x64_S1024x64_0_0) I.x1) (cut (Rect.unit (s := S64x32) ![0, 0] S64x32.size inb_S64x32_S64x32_0_0) I.x4) (cut (Rect.unit (s := S8x32) ![0, 0] S1x32.size inb_S8x32_S1x32_0_0) I.x5) (cut (Rect.unit (s := S32x64) ![0, 0] S32x64.size inb_S32x64_S32x64_0_0) I.x6) (cut (Rect.unit (s := S8x64) ![0, 0] S1x64.size inb_S8x64_S1x64_0_0) I.x7)
def h39 : FVec F S1024x1 .f32 := k1_pay12 (h38 I)
def h56 : FVec F S1024x1 .f32 := k1_pay13 (h1 I) (cut (Rect.unit (s := S64x32) ![0, 0] S64x32.size inb_S64x32_S64x32_0_0) I.x8) (cut (Rect.unit (s := S8x32) ![0, 0] S1x32.size inb_S8x32_S1x32_0_0) I.x9) (cut (Rect.unit (s := S8x32) ![0, 0] S1x32.size inb_S8x32_S1x32_0_0) I.x10) (cut (Rect.unit (s := S8x1) ![0, 0] S1x1.size inb_S8x1_S1x1_0_0) I.x11)
def h75 : FVec F S1024x17 .f32 := k1_pay14 (cut (Rect.unit (s := S1024x136) ![0, 0] S1024x17.size inb_S1024x136_S1024x17_0_0) I.x3) (cut (Rect.unit (s := S1024x136) ![0, 17] S1024x17.size inb_S1024x136_S1024x17_0_17) I.x3) (cut (Rect.unit (s := S1024x136) ![0, 34] S1024x17.size inb_S1024x136_S1024x17_0_34) I.x3) (cut (Rect.unit (s := S1024x136) ![0, 51] S1024x17.size inb_S1024x136_S1024x17_0_51) I.x3) (cut (Rect.unit (s := S1024x136) ![0, 68] S1024x17.size inb_S1024x136_S1024x17_0_68) I.x3) (cut (Rect.unit (s := S1024x136) ![0, 85] S1024x17.size inb_S1024x136_S1024x17_0_85) I.x3)
def h83 : FVec F S1024x17 .f32 := k1_pay15 (h75 I) (cut (Rect.unit (s := S1024x136) ![0, 102] S1024x17.size inb_S1024x136_S1024x17_0_102) I.x3) (cut (Rect.unit (s := S1024x136) ![0, 119] S1024x17.size inb_S1024x136_S1024x17_0_119) I.x3)
def h84 : IVec S1x17 32 := iota .tc S1x17 32 [1] iota_S1x17_d1_w32
def h109 : FVec F S1024x1 .f32 := k1_pay16 (h5 I) (h75 I) (cut (Rect.unit (s := S1024x136) ![0, 102] S1024x17.size inb_S1024x136_S1024x17_0_102) I.x3) (cut (Rect.unit (s := S1024x136) ![0, 119] S1024x17.size inb_S1024x136_S1024x17_0_119) I.x3)
def h116 : FVec F S1024x1 .f32 := k1_pay17 (h39 I) (h75 I) (cut (Rect.unit (s := S1024x136) ![0, 102] S1024x17.size inb_S1024x136_S1024x17_0_102) I.x3) (cut (Rect.unit (s := S1024x136) ![0, 119] S1024x17.size inb_S1024x136_S1024x17_0_119) I.x3)
def h151 : FVec F S1024x32 .f32 := k1_pay19 (h1 I) (h83 I) (h109 I) (h116 I) (cut (Rect.unit (s := S64x32) ![0, 0] S64x32.size inb_S64x32_S64x32_0_0) I.x12) (cut (Rect.unit (s := S8x32) ![0, 0] S1x32.size inb_S8x32_S1x32_0_0) I.x13) (cut (Rect.unit (s := S8x32) ![0, 0] S1x32.size inb_S8x32_S1x32_0_0) I.x14) (cut (Rect.unit (s := S8x32) ![0, 0] S1x32.size inb_S8x32_S1x32_0_0) I.x16) (cut (Rect.unit (s := S8x32) ![0, 0] S1x32.size inb_S8x32_S1x32_0_0) I.x15)
def h156 : FVec F S1024x17 .f32 := k1_pay20 (h83 I) h84
def h158 : FVec F S1024x1 .f32 := k1_pay21 (h83 I) h84
def h160 : IVec S1024x17 1 := k1_pay22 (h83 I) h84
def h161 : IVec S1x17 32 := k1_pay23 h84
def h193 : FVec F S1024x32 .f32 := k1_pay26 h84 (h151 I) (h156 I) (h158 I) (h160 I) 99#32 h161 (cut (Rect.unit (s := S8x32) ![1, 0] S1x32.size inb_S8x32_S1x32_1_0) I.x15) (cut (Rect.unit (s := S8x32) ![2, 0] S1x32.size inb_S8x32_S1x32_2_0) I.x15)
def h198 : FVec F S1024x17 .f32 := k1_pay27 h84 (h156 I) (h160 I) 99#32 h161
def h200 : FVec F S1024x1 .f32 := k1_pay28 h84 (h156 I) (h160 I) 99#32 h161
def h208 : IVec S1024x1 32 := k1_pay29 h84 (h156 I) (h160 I) 99#32 h161
def h235 : FVec F S1024x32 .f32 := k1_pay32 h84 (h193 I) (h198 I) (h200 I) (h208 I) (cut (Rect.unit (s := S8x32) ![3, 0] S1x32.size inb_S8x32_S1x32_3_0) I.x15) (cut (Rect.unit (s := S8x32) ![4, 0] S1x32.size inb_S8x32_S1x32_4_0) I.x15)
def h240 : FVec F S1024x17 .f32 := k1_pay33 h84 (h198 I) (h208 I)
def h250 : IVec S1024x1 32 := k1_pay35 h84 (h198 I) (h208 I)
def h253 : FVec F S1024x32 .f32 := k1_pay36 h84 (h198 I) (h208 I)
def h254 : FVec F S1024x32 .f32 := k1_pay37 (cut (Rect.unit (s := S8x32) ![5, 0] S1x32.size inb_S8x32_S1x32_5_0) I.x15)
def h296 : FVec F S1024x1 .f32 := k1_pay38 h84 (h235 I) (h240 I) (h250 I) (h253 I) (h254 I) (cut (Rect.unit (s := S8x32) ![6, 0] S1x32.size inb_S8x32_S1x32_6_0) I.x15) (cut (Rect.unit (s := S8x32) ![7, 0] S1x32.size inb_S8x32_S1x32_7_0) I.x15) (cut (Rect.unit (s := S8x32) ![0, 0] S1x32.size inb_S8x32_S1x32_0_0) I.x17)
def h299 : FVec F S1024x1 .f32 := k1_pay39 (cut (Rect.unit (s := S8x1) ![0, 0] S1x1.size inb_S8x1_S1x1_0_0) I.x18)

/-- What the kernel leaves in its four results. -/
def o19 : Vec F S1024x1 .f32 := k1_pay8 (h5 I) (h39 I) (h56 I) (h296 I) (h299 I)
abbrev o20 : Vec F S1024x1 .f32 := h39 I
def o21 : Vec F S1024x1 .f32 := k1_pay6 (h56 I) (h296 I) (h299 I)
def o22 : Vec F S1024x1 .f32 := k1_pay7 (h56 I) (h296 I) (h299 I)

section
variable (arg0 : Memref sig .tc .vmem S1024x64 .f32) (harg0 : arg0.IsWhole)
variable (arg1 : Memref sig .tc .vmem S1024x64 .f32) (harg1 : arg1.IsWhole)
variable (arg2 : Memref sig .tc .vmem S1024x1 .f32) (harg2 : arg2.IsWhole)
variable (arg3 : Memref sig .tc .vmem S1024x136 .f32) (harg3 : arg3.IsWhole)
variable (arg4 : Memref sig .tc .vmem S64x32 .f32) (harg4 : arg4.IsWhole)
variable (arg5 : Memref sig .tc .vmem S8x32 .f32) (harg5 : arg5.IsWhole)
variable (arg6 : Memref sig .tc .vmem S32x64 .f32) (harg6 : arg6.IsWhole)
variable (arg7 : Memref sig .tc .vmem S8x64 .f32) (harg7 : arg7.IsWhole)
variable (arg8 : Memref sig .tc .vmem S64x32 .f32) (harg8 : arg8.IsWhole)
variable (arg9 : Memref sig .tc .vmem S8x32 .f32) (harg9 : arg9.IsWhole)
variable (arg10 : Memref sig .tc .vmem S8x32 .f32) (harg10 : arg10.IsWhole)
variable (arg11 : Memref sig .tc .vmem S8x1 .f32) (harg11 : arg11.IsWhole)
variable (arg12 : Memref sig .tc .vmem S64x32 .f32) (harg12 : arg12.IsWhole)
variable (arg13 : Memref sig .tc .vmem S8x32 .f32) (harg13 : arg13.IsWhole)
variable (arg14 : Memref sig .tc .vmem S8x32 .f32) (harg14 : arg14.IsWhole)
variable (arg15 : Memref sig .tc .vmem S8x32 .f32) (harg15 : arg15.IsWhole)
variable (arg16 : Memref sig .tc .vmem S8x32 .f32) (harg16 : arg16.IsWhole)
variable (arg17 : Memref sig .tc .vmem S8x32 .f32) (harg17 : arg17.IsWhole)
variable (arg18 : Memref sig .tc .vmem S8x1 .f32) (harg18 : arg18.IsWhole)
variable (arg19 : Memref sig .tc .vmem S1024x1 .f32) (harg19 : arg19.IsWhole)
variable (arg20 : Memref sig .tc .vmem S1024x1 .f32) (harg20 : arg20.IsWhole)
variable (arg21 : Memref sig .tc .vmem S1024x1 .f32) (harg21 : arg21.IsWhole)
variable (arg22 : Memref sig .tc .vmem S1024x1 .f32) (harg22 : arg22.IsWhole)

theorem wp_part1 {α : Type} (c : Dev nD) (K : _ → Prog (TpuEff nD τ sig (Elt F) (Λ₀ F) .tc) α) (Q : α → sProp 𝕄) :
    iprop(owns (c : Thread nD τ) arg0 fullShare I.x0 ∗ owns (c : Thread nD τ) arg1 fullShare I.x1 ∗ owns (c : Thread nD τ) arg2 fullShare I.x2 ∗ owns (c : Thread nD τ) arg4 fullShare I.x4 ∗ owns (c : Thread nD τ) arg5 fullShare I.x5 ∗ owns (c : Thread nD τ) arg6 fullShare I.x6 ∗ owns (c : Thread nD τ) arg7 fullShare I.x7 ∗ (owns (c : Thread nD τ) arg0 fullShare I.x0 -∗ owns (c : Thread nD τ) arg1 fullShare I.x1 -∗ owns (c : Thread nD τ) arg2 fullShare I.x2 -∗ owns (c : Thread nD τ) arg4 fullShare I.x4 -∗ owns (c : Thread nD τ) arg5 fullShare I.x5 -∗ owns (c : Thread nD τ) arg6 fullShare I.x6 -∗ owns (c : Thread nD τ) arg7 fullShare I.x7 -∗
        wp frame (wpE (defs₀ (F := F)) 𝒱₀ (c : Thread nD τ) none) Set.univ (K ⟨h1 I, h5 I, h38 I⟩) Q))
      ⊢ wp frame (wpE (defs₀ (F := F)) 𝒱₀ (c : Thread nD τ) none) Set.univ (k1_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22  >>= K) Q := by
  rw [k1_part1_eq_skeleton]; unfold k1_part1_skel
  simp only [Prog.lift, Prog.bind_op, Prog.bind_ret, Prog.pure_eq_ret]
  iintro ⟨H0, H1, H2, H4, H5, H6, H7, Hk⟩
  iapply (wp_load_cut c (Rect.unit (s := S1024x64) ![0, 0] S1024x64.size inb_S1024x64_S1024x64_0_0)) $$ H0; iintro H0
  iapply (wp_load_cut c (Rect.unit (s := S1024x64) ![0, 0] S1024x64.size inb_S1024x64_S1024x64_0_0)) $$ H1; iintro H1
  iapply (wp_load_cut c (Rect.unit (s := S1024x1) ![0, 0] S1024x1.size inb_S1024x1_S1024x1_0_0)) $$ H2; iintro H2
  iapply (wp_load_cut c (Rect.unit (s := S64x32) ![0, 0] S64x32.size inb_S64x32_S64x32_0_0)) $$ H4; iintro H4
  iapply (wp_load_cut c (Rect.unit (s := S8x32) ![0, 0] S1x32.size inb_S8x32_S1x32_0_0)) $$ H5; iintro H5
  iapply (wp_load_cut c (Rect.unit (s := S32x64) ![0, 0] S32x64.size inb_S32x64_S32x64_0_0)) $$ H6; iintro H6
  iapply (wp_load_cut c (Rect.unit (s := S8x64) ![0, 0] S1x64.size inb_S8x64_S1x64_0_0)) $$ H7; iintro H7
  iapply Hk $$ H0 H1 H2 H4 H5 H6 H7

theorem wp_part2 {α : Type} (c : Dev nD) (K : _ → Prog (TpuEff nD τ sig (Elt F) (Λ₀ F) .tc) α) (Q : α → sProp 𝕄) :
    iprop(owns (c : Thread nD τ) arg3 fullShare I.x3 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ (owns (c : Thread nD τ) arg3 fullShare I.x3 -∗ owns (c : Thread nD τ) arg8 fullShare I.x8 -∗ owns (c : Thread nD τ) arg9 fullShare I.x9 -∗ owns (c : Thread nD τ) arg10 fullShare I.x10 -∗ owns (c : Thread nD τ) arg11 fullShare I.x11 -∗
        wp frame (wpE (defs₀ (F := F)) 𝒱₀ (c : Thread nD τ) none) Set.univ (K ⟨h39 I, h56 I, h75 I⟩) Q))
      ⊢ wp frame (wpE (defs₀ (F := F)) 𝒱₀ (c : Thread nD τ) none) Set.univ (k1_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (h1 I) (h38 I) >>= K) Q := by
  rw [k1_part2_eq_skeleton]; unfold k1_part2_skel
  simp only [Prog.lift, Prog.bind_op, Prog.bind_ret, Prog.pure_eq_ret]
  iintro ⟨H3, H8, H9, H10, H11, Hk⟩
  iapply (wp_load_cut c (Rect.unit (s := S64x32) ![0, 0] S64x32.size inb_S64x32_S64x32_0_0)) $$ H8; iintro H8
  iapply (wp_load_cut c (Rect.unit (s := S8x32) ![0, 0] S1x32.size inb_S8x32_S1x32_0_0)) $$ H9; iintro H9
  iapply (wp_load_cut c (Rect.unit (s := S8x32) ![0, 0] S1x32.size inb_S8x32_S1x32_0_0)) $$ H10; iintro H10
  iapply (wp_load_cut c (Rect.unit (s := S8x1) ![0, 0] S1x1.size inb_S8x1_S1x1_0_0)) $$ H11; iintro H11
  iapply (wp_load_cut c (Rect.unit (s := S1024x136) ![0, 0] S1024x17.size inb_S1024x136_S1024x17_0_0)) $$ H3; iintro H3
  iapply (wp_load_cut c (Rect.unit (s := S1024x136) ![0, 17] S1024x17.size inb_S1024x136_S1024x17_0_17)) $$ H3; iintro H3
  iapply (wp_load_cut c (Rect.unit (s := S1024x136) ![0, 34] S1024x17.size inb_S1024x136_S1024x17_0_34)) $$ H3; iintro H3
  iapply (wp_load_cut c (Rect.unit (s := S1024x136) ![0, 51] S1024x17.size inb_S1024x136_S1024x17_0_51)) $$ H3; iintro H3
  iapply (wp_load_cut c (Rect.unit (s := S1024x136) ![0, 68] S1024x17.size inb_S1024x136_S1024x17_0_68)) $$ H3; iintro H3
  iapply (wp_load_cut c (Rect.unit (s := S1024x136) ![0, 85] S1024x17.size inb_S1024x136_S1024x17_0_85)) $$ H3; iintro H3
  iapply Hk $$ H3 H8 H9 H10 H11

theorem wp_part3 {α : Type} (c : Dev nD) (K : _ → Prog (TpuEff nD τ sig (Elt F) (Λ₀ F) .tc) α) (Q : α → sProp 𝕄) :
    iprop(owns (c : Thread nD τ) arg3 fullShare I.x3 ∗ (owns (c : Thread nD τ) arg3 fullShare I.x3 -∗
        wp frame (wpE (defs₀ (F := F)) 𝒱₀ (c : Thread nD τ) none) Set.univ (K ⟨h83 I, h84, h109 I, h116 I⟩) Q))
      ⊢ wp frame (wpE (defs₀ (F := F)) 𝒱₀ (c : Thread nD τ) none) Set.univ (k1_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (h5 I) (h39 I) (h75 I) >>= K) Q := by
  rw [k1_part3_eq_skeleton]; unfold k1_part3_skel
  simp only [Prog.lift, Prog.bind_op, Prog.bind_ret, Prog.pure_eq_ret]
  iintro ⟨H3, Hk⟩
  iapply (wp_load_cut c (Rect.unit (s := S1024x136) ![0, 102] S1024x17.size inb_S1024x136_S1024x17_0_102)) $$ H3; iintro H3
  iapply (wp_load_cut c (Rect.unit (s := S1024x136) ![0, 119] S1024x17.size inb_S1024x136_S1024x17_0_119)) $$ H3; iintro H3
  iapply Hk $$ H3

theorem wp_part4 {α : Type} (c : Dev nD) (K : _ → Prog (TpuEff nD τ sig (Elt F) (Λ₀ F) .tc) α) (Q : α → sProp 𝕄) :
    iprop(owns (c : Thread nD τ) arg12 fullShare I.x12 ∗ owns (c : Thread nD τ) arg13 fullShare I.x13 ∗ owns (c : Thread nD τ) arg14 fullShare I.x14 ∗ owns (c : Thread nD τ) arg15 fullShare I.x15 ∗ owns (c : Thread nD τ) arg16 fullShare I.x16 ∗ (owns (c : Thread nD τ) arg12 fullShare I.x12 -∗ owns (c : Thread nD τ) arg13 fullShare I.x13 -∗ owns (c : Thread nD τ) arg14 fullShare I.x14 -∗ owns (c : Thread nD τ) arg15 fullShare I.x15 -∗ owns (c : Thread nD τ) arg16 fullShare I.x16 -∗
        wp frame (wpE (defs₀ (F := F)) 𝒱₀ (c : Thread nD τ) none) Set.univ (K ⟨h151 I, h156 I, h158 I, h160 I, 99#32, h161⟩) Q))
      ⊢ wp frame (wpE (defs₀ (F := F)) 𝒱₀ (c : Thread nD τ) none) Set.univ (k1_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (h1 I) (h83 I) h84 (h109 I) (h116 I) >>= K) Q := by
  rw [k1_part4_eq_skeleton]; unfold k1_part4_skel
  simp only [Prog.lift, Prog.bind_op, Prog.bind_ret, Prog.pure_eq_ret]
  iintro ⟨H12, H13, H14, H15, H16, Hk⟩
  iapply (wp_load_cut c (Rect.unit (s := S64x32) ![0, 0] S64x32.size inb_S64x32_S64x32_0_0)) $$ H12; iintro H12
  iapply (wp_load_cut c (Rect.unit (s := S8x32) ![0, 0] S1x32.size inb_S8x32_S1x32_0_0)) $$ H13; iintro H13
  iapply (wp_load_cut c (Rect.unit (s := S8x32) ![0, 0] S1x32.size inb_S8x32_S1x32_0_0)) $$ H14; iintro H14
  iapply (wp_load_cut c (Rect.unit (s := S8x32) ![0, 0] S1x32.size inb_S8x32_S1x32_0_0)) $$ H16; iintro H16
  iapply (wp_load_cut c (Rect.unit (s := S8x32) ![0, 0] S1x32.size inb_S8x32_S1x32_0_0)) $$ H15; iintro H15
  iapply Hk $$ H12 H13 H14 H15 H16

theorem wp_part5 {α : Type} (c : Dev nD) (K : _ → Prog (TpuEff nD τ sig (Elt F) (Λ₀ F) .tc) α) (Q : α → sProp 𝕄) :
    iprop(owns (c : Thread nD τ) arg15 fullShare I.x15 ∗ (owns (c : Thread nD τ) arg15 fullShare I.x15 -∗
        wp frame (wpE (defs₀ (F := F)) 𝒱₀ (c : Thread nD τ) none) Set.univ (K ⟨h193 I, h198 I, h200 I, h208 I⟩) Q))
      ⊢ wp frame (wpE (defs₀ (F := F)) 𝒱₀ (c : Thread nD τ) none) Set.univ (k1_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h84 (h151 I) (h156 I) (h158 I) (h160 I) 99#32 h161 >>= K) Q := by
  rw [k1_part5_eq_skeleton]; unfold k1_part5_skel
  simp only [Prog.lift, Prog.bind_op, Prog.bind_ret, Prog.pure_eq_ret]
  iintro ⟨H15, Hk⟩
  iapply (wp_load_cut c (Rect.unit (s := S8x32) ![1, 0] S1x32.size inb_S8x32_S1x32_1_0)) $$ H15; iintro H15
  iapply (wp_load_cut c (Rect.unit (s := S8x32) ![2, 0] S1x32.size inb_S8x32_S1x32_2_0)) $$ H15; iintro H15
  iapply Hk $$ H15

theorem wp_part6 {α : Type} (c : Dev nD) (K : _ → Prog (TpuEff nD τ sig (Elt F) (Λ₀ F) .tc) α) (Q : α → sProp 𝕄) :
    iprop(owns (c : Thread nD τ) arg15 fullShare I.x15 ∗ (owns (c : Thread nD τ) arg15 fullShare I.x15 -∗
        wp frame (wpE (defs₀ (F := F)) 𝒱₀ (c : Thread nD τ) none) Set.univ (K ⟨h235 I, h240 I, h250 I, h253 I, h254 I⟩) Q))
      ⊢ wp frame (wpE (defs₀ (F := F)) 𝒱₀ (c : Thread nD τ) none) Set.univ (k1_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h84 (h193 I) (h198 I) (h200 I) (h208 I) >>= K) Q := by
  rw [k1_part6_eq_skeleton]; unfold k1_part6_skel
  simp only [Prog.lift, Prog.bind_op, Prog.bind_ret, Prog.pure_eq_ret]
  iintro ⟨H15, Hk⟩
  iapply (wp_load_cut c (Rect.unit (s := S8x32) ![3, 0] S1x32.size inb_S8x32_S1x32_3_0)) $$ H15; iintro H15
  iapply (wp_load_cut c (Rect.unit (s := S8x32) ![4, 0] S1x32.size inb_S8x32_S1x32_4_0)) $$ H15; iintro H15
  iapply (wp_load_cut c (Rect.unit (s := S8x32) ![5, 0] S1x32.size inb_S8x32_S1x32_5_0)) $$ H15; iintro H15
  iapply Hk $$ H15

theorem wp_part7 {α : Type} (c : Dev nD) (K : _ → Prog (TpuEff nD τ sig (Elt F) (Λ₀ F) .tc) α) (Q : α → sProp 𝕄) :
    iprop(owns (c : Thread nD τ) arg15 fullShare I.x15 ∗ owns (c : Thread nD τ) arg17 fullShare I.x17 ∗ owns (c : Thread nD τ) arg18 fullShare I.x18 ∗ (owns (c : Thread nD τ) arg15 fullShare I.x15 -∗ owns (c : Thread nD τ) arg17 fullShare I.x17 -∗ owns (c : Thread nD τ) arg18 fullShare I.x18 -∗
        wp frame (wpE (defs₀ (F := F)) 𝒱₀ (c : Thread nD τ) none) Set.univ (K ⟨h296 I, h299 I⟩) Q))
      ⊢ wp frame (wpE (defs₀ (F := F)) 𝒱₀ (c : Thread nD τ) none) Set.univ (k1_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h84 (h235 I) (h240 I) (h250 I) (h253 I) (h254 I) >>= K) Q := by
  rw [k1_part7_eq_skeleton]; unfold k1_part7_skel
  simp only [Prog.lift, Prog.bind_op, Prog.bind_ret, Prog.pure_eq_ret]
  iintro ⟨H15, H17, H18, Hk⟩
  iapply (wp_load_cut c (Rect.unit (s := S8x32) ![6, 0] S1x32.size inb_S8x32_S1x32_6_0)) $$ H15; iintro H15
  iapply (wp_load_cut c (Rect.unit (s := S8x32) ![7, 0] S1x32.size inb_S8x32_S1x32_7_0)) $$ H15; iintro H15
  iapply (wp_load_cut c (Rect.unit (s := S8x32) ![0, 0] S1x32.size inb_S8x32_S1x32_0_0)) $$ H17; iintro H17
  iapply (wp_load_cut c (Rect.unit (s := S8x1) ![0, 0] S1x1.size inb_S8x1_S1x1_0_0)) $$ H18; iintro H18
  iapply Hk $$ H15 H17 H18
abbrev m19 : Memref sig .tc .vmem S1024x1 .f32 := Memref.whole cc1_stg19_0
abbrev m20 : Memref sig .tc .vmem S1024x1 .f32 := Memref.whole cc1_stg20_0
abbrev m21 : Memref sig .tc .vmem S1024x1 .f32 := Memref.whole cc1_stg21_0
abbrev m22 : Memref sig .tc .vmem S1024x1 .f32 := Memref.whole cc1_stg22_0
theorem write19 (f w : Vec F S1024x1 .f32) : (m19.access Knn.rectN).write (Elt F) f w Finset.univ = w :=
  Memref.write_access_unit_zero_univ (Elt F) cc1_stg19_0 offA inb_S1024x1_S1024x1_0_0 f w
theorem write20 (f w : Vec F S1024x1 .f32) : (m20.access Knn.rectN).write (Elt F) f w Finset.univ = w :=
  Memref.write_access_unit_zero_univ (Elt F) cc1_stg20_0 offA inb_S1024x1_S1024x1_0_0 f w
theorem write21 (f w : Vec F S1024x1 .f32) : (m21.access Knn.rectN).write (Elt F) f w Finset.univ = w :=
  Memref.write_access_unit_zero_univ (Elt F) cc1_stg21_0 offA inb_S1024x1_S1024x1_0_0 f w
theorem write22 (f w : Vec F S1024x1 .f32) : (m22.access Knn.rectN).write (Elt F) f w Finset.univ = w :=
  Memref.write_access_unit_zero_univ (Elt F) cc1_stg22_0 offA inb_S1024x1_S1024x1_0_0 f w

/-- The kernel's four stores. -/
def storesP (arg19 : Memref sig .tc .vmem S1024x1 .f32) (arg20 : Memref sig .tc .vmem S1024x1 .f32) (arg21 : Memref sig .tc .vmem S1024x1 .f32) (arg22 : Memref sig .tc .vmem S1024x1 .f32) (v5 v39 v56 v296 v299 : FVec F S1024x1 .f32) :
    Prog (TpuEff nD τ sig (Elt F) (Λ₀ F) .tc) PUnit := do
  let v312 : Vec F S1024x1 .f32 ← Prog.lift (.load arg19 (Rect.unit (s := S1024x1) ![0, 0] S1024x1.size inb_S1024x1_S1024x1_0_0).toLoadRect (View.loadsAt_vmem h_S1024x1))
  Prog.lift (.store arg19 (Rect.unit (s := S1024x1) ![0, 0] S1024x1.size inb_S1024x1_S1024x1_0_0) (k1_pay8 v5 v39 v56 v296 v299) Finset.univ (View.stores_vmem_bits_univ h_S1024x1 rfl) (.inl rfl))
  let v313 : Vec F S1024x1 .f32 ← Prog.lift (.load arg20 (Rect.unit (s := S1024x1) ![0, 0] S1024x1.size inb_S1024x1_S1024x1_0_0).toLoadRect (View.loadsAt_vmem h_S1024x1))
  Prog.lift (.store arg20 (Rect.unit (s := S1024x1) ![0, 0] S1024x1.size inb_S1024x1_S1024x1_0_0) v39 Finset.univ (View.stores_vmem_bits_univ h_S1024x1 rfl) (.inl rfl))
  let v314 : Vec F S1024x1 .f32 ← Prog.lift (.load arg21 (Rect.unit (s := S1024x1) ![0, 0] S1024x1.size inb_S1024x1_S1024x1_0_0).toLoadRect (View.loadsAt_vmem h_S1024x1))
  Prog.lift (.store arg21 (Rect.unit (s := S1024x1) ![0, 0] S1024x1.size inb_S1024x1_S1024x1_0_0) (k1_pay6 v56 v296 v299) Finset.univ (View.stores_vmem_bits_univ h_S1024x1 rfl) (.inl rfl))
  let v315 : Vec F S1024x1 .f32 ← Prog.lift (.load arg22 (Rect.unit (s := S1024x1) ![0, 0] S1024x1.size inb_S1024x1_S1024x1_0_0).toLoadRect (View.loadsAt_vmem h_S1024x1))
  Prog.lift (.store arg22 (Rect.unit (s := S1024x1) ![0, 0] S1024x1.size inb_S1024x1_S1024x1_0_0) (k1_pay7 v56 v296 v299) Finset.univ (View.stores_vmem_bits_univ h_S1024x1 rfl) (.inl rfl))
  pure ⟨⟩

theorem wp_storesP (c : Dev nD) (f19 f20 f21 f22 : Vec F S1024x1 .f32) (Q : PUnit → sProp 𝕄) :
    iprop((((c : Thread nD τ).loc cc1_stg19_0) ↦{fullShare} f19) ∗ (((c : Thread nD τ).loc cc1_stg20_0) ↦{fullShare} f20) ∗ (((c : Thread nD τ).loc cc1_stg21_0) ↦{fullShare} f21) ∗ (((c : Thread nD τ).loc cc1_stg22_0) ↦{fullShare} f22)
        ∗ ((((c : Thread nD τ).loc cc1_stg19_0) ↦{fullShare} o19 I) -∗ (((c : Thread nD τ).loc cc1_stg20_0) ↦{fullShare} o20 I) -∗ (((c : Thread nD τ).loc cc1_stg21_0) ↦{fullShare} o21 I) -∗ (((c : Thread nD τ).loc cc1_stg22_0) ↦{fullShare} o22 I) -∗ Q ⟨⟩))
      ⊢ wp frame (wpE (defs₀ (F := F)) 𝒱₀ (c : Thread nD τ) none) Set.univ
          (storesP m19 m20 m21 m22 (h5 I) (h39 I) (h56 I) (h296 I) (h299 I)) Q := by
  unfold storesP
  iintro ⟨H19, H20, H21, H22, Hk⟩
  simp only [Prog.lift, Prog.bind_op, Prog.bind_ret, Prog.pure_eq_ret]
  iapply (wp_load_rect 𝒱₀ (c : Thread nD τ) none Set.univ (m := m19) (r := Knn.rectN) (Finset.subset_univ _)) $$ H19; iintro H19
  iapply (wp_store 𝒱₀ (c : Thread nD τ) none Set.univ (m := m19) (r := Knn.rectN) (Mk := Finset.univ) (Finset.subset_univ _)) $$ H19; iintro H19
  iapply (wp_load_rect 𝒱₀ (c : Thread nD τ) none Set.univ (m := m20) (r := Knn.rectN) (Finset.subset_univ _)) $$ H20; iintro H20
  iapply (wp_store 𝒱₀ (c : Thread nD τ) none Set.univ (m := m20) (r := Knn.rectN) (Mk := Finset.univ) (Finset.subset_univ _)) $$ H20; iintro H20
  iapply (wp_load_rect 𝒱₀ (c : Thread nD τ) none Set.univ (m := m21) (r := Knn.rectN) (Finset.subset_univ _)) $$ H21; iintro H21
  iapply (wp_store 𝒱₀ (c : Thread nD τ) none Set.univ (m := m21) (r := Knn.rectN) (Mk := Finset.univ) (Finset.subset_univ _)) $$ H21; iintro H21
  iapply (wp_load_rect 𝒱₀ (c : Thread nD τ) none Set.univ (m := m22) (r := Knn.rectN) (Finset.subset_univ _)) $$ H22; iintro H22
  iapply (wp_store 𝒱₀ (c : Thread nD τ) none Set.univ (m := m22) (r := Knn.rectN) (Mk := Finset.univ) (Finset.subset_univ _)) $$ H22; iintro H22
  rw [write19, write20, write21, write22, wp_ret, show k1_pay8 (h5 I) (h39 I) (h56 I) (h296 I) (h299 I) = o19 I from rfl,
    show k1_pay6 (h56 I) (h296 I) (h299 I) = o21 I from rfl, show k1_pay7 (h56 I) (h296 I) (h299 I) = o22 I from rfl]
  imodintro
  iapply Hk $$ H19 H20 H21 H22

/-- The kernel's body. -/
theorem wp_body (c : Dev nD) (f19 f20 f21 f22 : Vec F S1024x1 .f32) (Q : PUnit → sProp 𝕄) :
    iprop(owns (c : Thread nD τ) arg0 fullShare I.x0
        ∗ owns (c : Thread nD τ) arg1 fullShare I.x1
        ∗ owns (c : Thread nD τ) arg2 fullShare I.x2
        ∗ owns (c : Thread nD τ) arg3 fullShare I.x3
        ∗ owns (c : Thread nD τ) arg4 fullShare I.x4
        ∗ owns (c : Thread nD τ) arg5 fullShare I.x5
        ∗ owns (c : Thread nD τ) arg6 fullShare I.x6
        ∗ owns (c : Thread nD τ) arg7 fullShare I.x7
        ∗ owns (c : Thread nD τ) arg8 fullShare I.x8
        ∗ owns (c : Thread nD τ) arg9 fullShare I.x9
        ∗ owns (c : Thread nD τ) arg10 fullShare I.x10
        ∗ owns (c : Thread nD τ) arg11 fullShare I.x11
        ∗ owns (c : Thread nD τ) arg12 fullShare I.x12
        ∗ owns (c : Thread nD τ) arg13 fullShare I.x13
        ∗ owns (c : Thread nD τ) arg14 fullShare I.x14
        ∗ owns (c : Thread nD τ) arg15 fullShare I.x15
        ∗ owns (c : Thread nD τ) arg16 fullShare I.x16
        ∗ owns (c : Thread nD τ) arg17 fullShare I.x17
        ∗ owns (c : Thread nD τ) arg18 fullShare I.x18
        ∗ (((c : Thread nD τ).loc cc1_stg19_0) ↦{fullShare} f19) ∗ (((c : Thread nD τ).loc cc1_stg20_0) ↦{fullShare} f20) ∗ (((c : Thread nD τ).loc cc1_stg21_0) ↦{fullShare} f21) ∗ (((c : Thread nD τ).loc cc1_stg22_0) ↦{fullShare} f22)
        ∗ (owns (c : Thread nD τ) arg0 fullShare I.x0
        -∗ owns (c : Thread nD τ) arg1 fullShare I.x1
        -∗ owns (c : Thread nD τ) arg2 fullShare I.x2
        -∗ owns (c : Thread nD τ) arg3 fullShare I.x3
        -∗ owns (c : Thread nD τ) arg4 fullShare I.x4
        -∗ owns (c : Thread nD τ) arg5 fullShare I.x5
        -∗ owns (c : Thread nD τ) arg6 fullShare I.x6
        -∗ owns (c : Thread nD τ) arg7 fullShare I.x7
        -∗ owns (c : Thread nD τ) arg8 fullShare I.x8
        -∗ owns (c : Thread nD τ) arg9 fullShare I.x9
        -∗ owns (c : Thread nD τ) arg10 fullShare I.x10
        -∗ owns (c : Thread nD τ) arg11 fullShare I.x11
        -∗ owns (c : Thread nD τ) arg12 fullShare I.x12
        -∗ owns (c : Thread nD τ) arg13 fullShare I.x13
        -∗ owns (c : Thread nD τ) arg14 fullShare I.x14
        -∗ owns (c : Thread nD τ) arg15 fullShare I.x15
        -∗ owns (c : Thread nD τ) arg16 fullShare I.x16
        -∗ owns (c : Thread nD τ) arg17 fullShare I.x17
        -∗ owns (c : Thread nD τ) arg18 fullShare I.x18
        -∗ (((c : Thread nD τ).loc cc1_stg19_0) ↦{fullShare} o19 I) -∗ (((c : Thread nD τ).loc cc1_stg20_0) ↦{fullShare} o20 I) -∗ (((c : Thread nD τ).loc cc1_stg21_0) ↦{fullShare} o21 I) -∗ (((c : Thread nD τ).loc cc1_stg22_0) ↦{fullShare} o22 I) -∗ Q ⟨⟩))
      ⊢ wp frame (wpE (defs₀ (F := F)) 𝒱₀ (c : Thread nD τ) none) Set.univ (cc1__head_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 m19 (Memref.isWhole_whole _) m20 (Memref.isWhole_whole _) m21 (Memref.isWhole_whole _) m22 (Memref.isWhole_whole _)) Q := by
  rw [cc1__head_kernel_eq_skeleton]; unfold cc1__head_kernel_skel
  iintro ⟨H0, H1, H2, H3, H4, H5, H6, H7, H8, H9, H10, H11, H12, H13, H14, H15, H16, H17, H18, H19, H20, H21, H22, Hk⟩
  iapply (wp_part1 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 m19 (Memref.isWhole_whole _) m20 (Memref.isWhole_whole _) m21 (Memref.isWhole_whole _) m22 (Memref.isWhole_whole _) c _ Q)
  isplitl [H0]; · iexact H0
  isplitl [H1]; · iexact H1
  isplitl [H2]; · iexact H2
  isplitl [H4]; · iexact H4
  isplitl [H5]; · iexact H5
  isplitl [H6]; · iexact H6
  isplitl [H7]; · iexact H7
  iintro H0 H1 H2 H4 H5 H6 H7
  iapply (wp_part2 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 m19 (Memref.isWhole_whole _) m20 (Memref.isWhole_whole _) m21 (Memref.isWhole_whole _) m22 (Memref.isWhole_whole _) c _ Q)
  isplitl [H3]; · iexact H3
  isplitl [H8]; · iexact H8
  isplitl [H9]; · iexact H9
  isplitl [H10]; · iexact H10
  isplitl [H11]; · iexact H11
  iintro H3 H8 H9 H10 H11
  iapply (wp_part3 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 m19 (Memref.isWhole_whole _) m20 (Memref.isWhole_whole _) m21 (Memref.isWhole_whole _) m22 (Memref.isWhole_whole _) c _ Q)
  isplitl [H3]; · iexact H3
  iintro H3
  iapply (wp_part4 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 m19 (Memref.isWhole_whole _) m20 (Memref.isWhole_whole _) m21 (Memref.isWhole_whole _) m22 (Memref.isWhole_whole _) c _ Q)
  isplitl [H12]; · iexact H12
  isplitl [H13]; · iexact H13
  isplitl [H14]; · iexact H14
  isplitl [H15]; · iexact H15
  isplitl [H16]; · iexact H16
  iintro H12 H13 H14 H15 H16
  iapply (wp_part5 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 m19 (Memref.isWhole_whole _) m20 (Memref.isWhole_whole _) m21 (Memref.isWhole_whole _) m22 (Memref.isWhole_whole _) c _ Q)
  isplitl [H15]; · iexact H15
  iintro H15
  iapply (wp_part6 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 m19 (Memref.isWhole_whole _) m20 (Memref.isWhole_whole _) m21 (Memref.isWhole_whole _) m22 (Memref.isWhole_whole _) c _ Q)
  isplitl [H15]; · iexact H15
  iintro H15
  iapply (wp_part7 I arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 m19 (Memref.isWhole_whole _) m20 (Memref.isWhole_whole _) m21 (Memref.isWhole_whole _) m22 (Memref.isWhole_whole _) c _ Q)
  isplitl [H15]; · iexact H15
  isplitl [H17]; · iexact H17
  isplitl [H18]; · iexact H18
  iintro H15 H17 H18
  iapply (wp_storesP I c f19 f20 f21 f22 Q)
  isplitl [H19]; · iexact H19
  isplitl [H20]; · iexact H20
  isplitl [H21]; · iexact H21
  isplitl [H22]; · iexact H22
  iintro H19 H20 H21 H22
  iapply Hk $$ H0 H1 H2 H3 H4 H5 H6 H7 H8 H9 H10 H11 H12 H13 H14 H15 H16 H17 H18 H19 H20 H21 H22
end

end Cert.KernelIdeal.Head
-- ==== Proof.Head.lean ====
/- The second kernel's region: its operands' arrays in, its four results out. -/
module

public import proofs.«01_k».proof.Proof.HeadBody
public import proofs.«01_k».proof.Proof.Gen.KernelIdeal.Points
public import proofs.«01_k».proof.Proof.Gen.KernelIdeal.Regions
public import Idealize.ShloMosaic.Lib.Pipeline.RegionsLoop
public import Idealize.ShloMosaic.Lib.Pipeline.FrameBody

@[expose] public section

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Knn (UU 𝒱₀ L lv wp_load_owns offA)

variable {F : FTy → Type} [FloatOps F] [Named F]

local notation "𝕄" => MT nD τ sig Unit (Elt F) ℕ UU ℕ

variable (V : (c : Dev nD) → (b : Ref sig .tc) → Buf (Elt F) ((c : Thread nD τ).loc b))

/-- The kernel's operands at a valuation: each its array's block as the fetch stages it. -/
def ins (c : Dev nD) : In F where
  x0 := (((cfg1 (F := F)).win 0).blk t1_0).view.read (Elt F) (V c main_v3_0)
  x1 := (((cfg1 (F := F)).win 1).blk t1_0).view.read (Elt F) (V c main_v6)
  x2 := (((cfg1 (F := F)).win 2).blk t1_0).view.read (Elt F) (V c main_v61)
  x3 := (((cfg1 (F := F)).win 3).blk t1_0).view.read (Elt F) (V c main_v62)
  x4 := (((cfg1 (F := F)).win 4).blk t1_0).view.read (Elt F) (V c main_v8)
  x5 := (((cfg1 (F := F)).win 5).blk t1_0).view.read (Elt F) (V c main_v22)
  x6 := (((cfg1 (F := F)).win 6).blk t1_0).view.read (Elt F) (V c main_v10)
  x7 := (((cfg1 (F := F)).win 7).blk t1_0).view.read (Elt F) (V c main_v26)
  x8 := (((cfg1 (F := F)).win 8).blk t1_0).view.read (Elt F) (V c main_v13)
  x9 := (((cfg1 (F := F)).win 9).blk t1_0).view.read (Elt F) (V c main_v30)
  x10 := (((cfg1 (F := F)).win 10).blk t1_0).view.read (Elt F) (V c main_v33)
  x11 := (((cfg1 (F := F)).win 11).blk t1_0).view.read (Elt F) (V c main_v37)
  x12 := (((cfg1 (F := F)).win 12).blk t1_0).view.read (Elt F) (V c main_v16)
  x13 := (((cfg1 (F := F)).win 13).blk t1_0).view.read (Elt F) (V c main_v43)
  x14 := (((cfg1 (F := F)).win 14).blk t1_0).view.read (Elt F) (V c main_v49)
  x15 := (((cfg1 (F := F)).win 15).blk t1_0).view.read (Elt F) (V c main_v18)
  x16 := (((cfg1 (F := F)).win 16).blk t1_0).view.read (Elt F) (V c main_v53)
  x17 := (((cfg1 (F := F)).win 17).blk t1_0).view.read (Elt F) (V c main_v56)
  x18 := (((cfg1 (F := F)).win 18).blk t1_0).view.read (Elt F) (V c main_v60)

/-- What the body leaves in each staging buffer: the operands as fetched, the results computed. -/
abbrev aft (c : Dev nD) : (w : Fin 23) → ((cfg1 (F := F)).win w).block.Idx → Elt F ((cfg1 (F := F)).win w).elt := fun
  | 0 => (ins V c).x0
  | 1 => (ins V c).x1
  | 2 => (ins V c).x2
  | 3 => (ins V c).x3
  | 4 => (ins V c).x4
  | 5 => (ins V c).x5
  | 6 => (ins V c).x6
  | 7 => (ins V c).x7
  | 8 => (ins V c).x8
  | 9 => (ins V c).x9
  | 10 => (ins V c).x10
  | 11 => (ins V c).x11
  | 12 => (ins V c).x12
  | 13 => (ins V c).x13
  | 14 => (ins V c).x14
  | 15 => (ins V c).x15
  | 16 => (ins V c).x16
  | 17 => (ins V c).x17
  | 18 => (ins V c).x18
  | 19 => o19 (ins V c)
  | 20 => o20 (ins V c)
  | 21 => o21 (ins V c)
  | 22 => o22 (ins V c)
  | ⟨_ + 23, h⟩ => absurd h (Nat.not_lt.2 (Nat.le_add_left _ _))

/-- The region's proof data from a valuation. -/
def dat (c : Dev nD) : Dat τ (Elt F) Unit ℕ UU ℕ (cfg1 (F := F)) c where
  A w := V c (Pipeline.arrRef spec1 w)
  after w _ := aft V c w
  Φ _ := Pipeline.scopedRest (Ix := Unit) (Name := ℕ) (U := UU) (Lvl := ℕ) (Val := Elt F) spec1 c
  q _ := fullShare
  owed _ := 0

/-! Each operand's staging buffer holds its block when the body runs. -/
theorem before0 (c : Dev nD) (d) : (dat V c).before 0 t1_0 d = (ins V c).x0 := (dat V c).before_fetched 0 t1_0 (fetch1_0 t1_0) d
theorem before1 (c : Dev nD) (d) : (dat V c).before 1 t1_0 d = (ins V c).x1 := (dat V c).before_fetched 1 t1_0 (fetch1_1 t1_0) d
theorem before2 (c : Dev nD) (d) : (dat V c).before 2 t1_0 d = (ins V c).x2 := (dat V c).before_fetched 2 t1_0 (fetch1_2 t1_0) d
theorem before3 (c : Dev nD) (d) : (dat V c).before 3 t1_0 d = (ins V c).x3 := (dat V c).before_fetched 3 t1_0 (fetch1_3 t1_0) d
theorem before4 (c : Dev nD) (d) : (dat V c).before 4 t1_0 d = (ins V c).x4 := (dat V c).before_fetched 4 t1_0 (fetch1_4 t1_0) d
theorem before5 (c : Dev nD) (d) : (dat V c).before 5 t1_0 d = (ins V c).x5 := (dat V c).before_fetched 5 t1_0 (fetch1_5 t1_0) d
theorem before6 (c : Dev nD) (d) : (dat V c).before 6 t1_0 d = (ins V c).x6 := (dat V c).before_fetched 6 t1_0 (fetch1_6 t1_0) d
theorem before7 (c : Dev nD) (d) : (dat V c).before 7 t1_0 d = (ins V c).x7 := (dat V c).before_fetched 7 t1_0 (fetch1_7 t1_0) d
theorem before8 (c : Dev nD) (d) : (dat V c).before 8 t1_0 d = (ins V c).x8 := (dat V c).before_fetched 8 t1_0 (fetch1_8 t1_0) d
theorem before9 (c : Dev nD) (d) : (dat V c).before 9 t1_0 d = (ins V c).x9 := (dat V c).before_fetched 9 t1_0 (fetch1_9 t1_0) d
theorem before10 (c : Dev nD) (d) : (dat V c).before 10 t1_0 d = (ins V c).x10 := (dat V c).before_fetched 10 t1_0 (fetch1_10 t1_0) d
theorem before11 (c : Dev nD) (d) : (dat V c).before 11 t1_0 d = (ins V c).x11 := (dat V c).before_fetched 11 t1_0 (fetch1_11 t1_0) d
theorem before12 (c : Dev nD) (d) : (dat V c).before 12 t1_0 d = (ins V c).x12 := (dat V c).before_fetched 12 t1_0 (fetch1_12 t1_0) d
theorem before13 (c : Dev nD) (d) : (dat V c).before 13 t1_0 d = (ins V c).x13 := (dat V c).before_fetched 13 t1_0 (fetch1_13 t1_0) d
theorem before14 (c : Dev nD) (d) : (dat V c).before 14 t1_0 d = (ins V c).x14 := (dat V c).before_fetched 14 t1_0 (fetch1_14 t1_0) d
theorem before15 (c : Dev nD) (d) : (dat V c).before 15 t1_0 d = (ins V c).x15 := (dat V c).before_fetched 15 t1_0 (fetch1_15 t1_0) d
theorem before16 (c : Dev nD) (d) : (dat V c).before 16 t1_0 d = (ins V c).x16 := (dat V c).before_fetched 16 t1_0 (fetch1_16 t1_0) d
theorem before17 (c : Dev nD) (d) : (dat V c).before 17 t1_0 d = (ins V c).x17 := (dat V c).before_fetched 17 t1_0 (fetch1_17 t1_0) d
theorem before18 (c : Dev nD) (d) : (dat V c).before 18 t1_0 d = (ins V c).x18 := (dat V c).before_fetched 18 t1_0 (fetch1_18 t1_0) d

/-- A whole buffer owned is the buffer held. -/
theorem own_open (c : Dev nD) (b : Ref sig .tc) (X : b.ty.Contents (Elt F)) :
    (owns (c : Thread nD τ) (Memref.whole b) fullShare X : sProp 𝕄) ⊢ (((c : Thread nD τ).loc b) ↦{fullShare} X) := by
  rw [owns_whole_eq]; iintro ⟨%f, %h, H⟩; subst h; iexact H
theorem own_mk (c : Dev nD) (b : Ref sig .tc) (X : b.ty.Contents (Elt F)) :
    ((((c : Thread nD τ).loc b) ↦{fullShare} X) : sProp 𝕄) ⊢ owns (c : Thread nD τ) (Memref.whole b) fullShare X := by
  rw [owns_whole_eq]; iintro H; iexists X; isplitr; · ipureintro; rfl
  iexact H

/-- The body over the staging buffers. -/
theorem wp_staged (I : In F) (c : Dev nD) (f19 f20 f21 f22 : Vec F S1024x1 .f32) (Q : PUnit → sProp 𝕄) :
    iprop(owns (c : Thread nD τ) (stage1_0 0) fullShare I.x0
        ∗ owns (c : Thread nD τ) (stage1_1 0) fullShare I.x1
        ∗ owns (c : Thread nD τ) (stage1_2 0) fullShare I.x2
        ∗ owns (c : Thread nD τ) (stage1_3 0) fullShare I.x3
        ∗ owns (c : Thread nD τ) (stage1_4 0) fullShare I.x4
        ∗ owns (c : Thread nD τ) (stage1_5 0) fullShare I.x5
        ∗ owns (c : Thread nD τ) (stage1_6 0) fullShare I.x6
        ∗ owns (c : Thread nD τ) (stage1_7 0) fullShare I.x7
        ∗ owns (c : Thread nD τ) (stage1_8 0) fullShare I.x8
        ∗ owns (c : Thread nD τ) (stage1_9 0) fullShare I.x9
        ∗ owns (c : Thread nD τ) (stage1_10 0) fullShare I.x10
        ∗ owns (c : Thread nD τ) (stage1_11 0) fullShare I.x11
        ∗ owns (c : Thread nD τ) (stage1_12 0) fullShare I.x12
        ∗ owns (c : Thread nD τ) (stage1_13 0) fullShare I.x13
        ∗ owns (c : Thread nD τ) (stage1_14 0) fullShare I.x14
        ∗ owns (c : Thread nD τ) (stage1_15 0) fullShare I.x15
        ∗ owns (c : Thread nD τ) (stage1_16 0) fullShare I.x16
        ∗ owns (c : Thread nD τ) (stage1_17 0) fullShare I.x17
        ∗ owns (c : Thread nD τ) (stage1_18 0) fullShare I.x18
        ∗ owns (c : Thread nD τ) (stage1_19 0) fullShare f19 ∗ owns (c : Thread nD τ) (stage1_20 0) fullShare f20 ∗ owns (c : Thread nD τ) (stage1_21 0) fullShare f21 ∗ owns (c : Thread nD τ) (stage1_22 0) fullShare f22
        ∗ (owns (c : Thread nD τ) (stage1_0 0) fullShare I.x0
        -∗ owns (c : Thread nD τ) (stage1_1 0) fullShare I.x1
        -∗ owns (c : Thread nD τ) (stage1_2 0) fullShare I.x2
        -∗ owns (c : Thread nD τ) (stage1_3 0) fullShare I.x3
        -∗ owns (c : Thread nD τ) (stage1_4 0) fullShare I.x4
        -∗ owns (c : Thread nD τ) (stage1_5 0) fullShare I.x5
        -∗ owns (c : Thread nD τ) (stage1_6 0) fullShare I.x6
        -∗ owns (c : Thread nD τ) (stage1_7 0) fullShare I.x7
        -∗ owns (c : Thread nD τ) (stage1_8 0) fullShare I.x8
        -∗ owns (c : Thread nD τ) (stage1_9 0) fullShare I.x9
        -∗ owns (c : Thread nD τ) (stage1_10 0) fullShare I.x10
        -∗ owns (c : Thread nD τ) (stage1_11 0) fullShare I.x11
        -∗ owns (c : Thread nD τ) (stage1_12 0) fullShare I.x12
        -∗ owns (c : Thread nD τ) (stage1_13 0) fullShare I.x13
        -∗ owns (c : Thread nD τ) (stage1_14 0) fullShare I.x14
        -∗ owns (c : Thread nD τ) (stage1_15 0) fullShare I.x15
        -∗ owns (c : Thread nD τ) (stage1_16 0) fullShare I.x16
        -∗ owns (c : Thread nD τ) (stage1_17 0) fullShare I.x17
        -∗ owns (c : Thread nD τ) (stage1_18 0) fullShare I.x18
        -∗ owns (c : Thread nD τ) (stage1_19 0) fullShare (o19 I) -∗ owns (c : Thread nD τ) (stage1_20 0) fullShare (o20 I) -∗ owns (c : Thread nD τ) (stage1_21 0) fullShare (o21 I) -∗ owns (c : Thread nD τ) (stage1_22 0) fullShare (o22 I) -∗ Q ⟨⟩))
      ⊢ wp frame (wpE (defs₀ (F := F)) 𝒱₀ (c : Thread nD τ) none) Set.univ (cc1__head_kernel (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) (stage1_7 0) (hstage1_7 0) (stage1_8 0) (hstage1_8 0) (stage1_9 0) (hstage1_9 0) (stage1_10 0) (hstage1_10 0) (stage1_11 0) (hstage1_11 0) (stage1_12 0) (hstage1_12 0) (stage1_13 0) (hstage1_13 0) (stage1_14 0) (hstage1_14 0) (stage1_15 0) (hstage1_15 0) (stage1_16 0) (hstage1_16 0) (stage1_17 0) (hstage1_17 0) (stage1_18 0) (hstage1_18 0) (stage1_19 0) (hstage1_19 0) (stage1_20 0) (hstage1_20 0) (stage1_21 0) (hstage1_21 0) (stage1_22 0) (hstage1_22 0)) Q := by
  iintro ⟨H0, H1, H2, H3, H4, H5, H6, H7, H8, H9, H10, H11, H12, H13, H14, H15, H16, H17, H18, H19, H20, H21, H22, HQ⟩
  ihave H19 := (own_open c cc1_stg19_0 f19) $$ H19
  ihave H20 := (own_open c cc1_stg20_0 f20) $$ H20
  ihave H21 := (own_open c cc1_stg21_0 f21) $$ H21
  ihave H22 := (own_open c cc1_stg22_0 f22) $$ H22
  iapply (wp_body I (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) (stage1_7 0) (hstage1_7 0) (stage1_8 0) (hstage1_8 0) (stage1_9 0) (hstage1_9 0) (stage1_10 0) (hstage1_10 0) (stage1_11 0) (hstage1_11 0) (stage1_12 0) (hstage1_12 0) (stage1_13 0) (hstage1_13 0) (stage1_14 0) (hstage1_14 0) (stage1_15 0) (hstage1_15 0) (stage1_16 0) (hstage1_16 0) (stage1_17 0) (hstage1_17 0) (stage1_18 0) (hstage1_18 0) c f19 f20 f21 f22 Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro H0 H1 H2 H3 H4 H5 H6 H7 H8 H9 H10 H11 H12 H13 H14 H15 H16 H17 H18 H19 H20 H21 H22
  ihave H19 := (own_mk c cc1_stg19_0 (o19 I)) $$ H19
  ihave H20 := (own_mk c cc1_stg20_0 (o20 I)) $$ H20
  ihave H21 := (own_mk c cc1_stg21_0 (o21 I)) $$ H21
  ihave H22 := (own_mk c cc1_stg22_0 (o22 I)) $$ H22
  iapply HQ $$ H0 H1 H2 H3 H4 H5 H6 H7 H8 H9 H10 H11 H12 H13 H14 H15 H16 H17 H18 H19 H20 H21 H22

/-- The library's body obligation. -/
theorem body_obligation (c : Dev nD) : BodyObligation (dat V c) (defs₀ (F := F)) 𝒱₀ () Set.univ := fun t => by
  obtain rfl := fin_N1 t
  rw [bigSep_W1, bigSep_W1]
  rw [show (dat V c).Φ t1_0.succ = (dat V c).Φ t1_0.castSucc from rfl,
    show (dat V c).owesAt () t1_0.succ = (dat V c).owesAt () t1_0.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (wp_staged (ins V c) c _ _ _ _ _)
  isplitl [H0]; · rw [← before0 V c d0]; iexact H0
  isplitl [H1]; · rw [← before1 V c d1]; iexact H1
  isplitl [H2]; · rw [← before2 V c d2]; iexact H2
  isplitl [H3]; · rw [← before3 V c d3]; iexact H3
  isplitl [H4]; · rw [← before4 V c d4]; iexact H4
  isplitl [H5]; · rw [← before5 V c d5]; iexact H5
  isplitl [H6]; · rw [← before6 V c d6]; iexact H6
  isplitl [H7]; · rw [← before7 V c d7]; iexact H7
  isplitl [H8]; · rw [← before8 V c d8]; iexact H8
  isplitl [H9]; · rw [← before9 V c d9]; iexact H9
  isplitl [H10]; · rw [← before10 V c d10]; iexact H10
  isplitl [H11]; · rw [← before11 V c d11]; iexact H11
  isplitl [H12]; · rw [← before12 V c d12]; iexact H12
  isplitl [H13]; · rw [← before13 V c d13]; iexact H13
  isplitl [H14]; · rw [← before14 V c d14]; iexact H14
  isplitl [H15]; · rw [← before15 V c d15]; iexact H15
  isplitl [H16]; · rw [← before16 V c d16]; iexact H16
  isplitl [H17]; · rw [← before17 V c d17]; iexact H17
  isplitl [H18]; · rw [← before18 V c d18]; iexact H18
  isplitl [H19]; · iexact H19
  isplitl [H20]; · iexact H20
  isplitl [H21]; · iexact H21
  isplitl [H22]; · iexact H22
  iintro H0 H1 H2 H3 H4 H5 H6 H7 H8 H9 H10 H11 H12 H13 H14 H15 H16 H17 H18 H19 H20 H21 H22
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The four results' arrays after the region. -/
def out0 (c : Dev nD) : Buf (Elt F) ((c : Thread nD τ).loc main_v63_0) := (dat V c).arrAt 19 (cfg1 (F := F)).N
def out1 (c : Dev nD) : Buf (Elt F) ((c : Thread nD τ).loc main_v63_1) := (dat V c).arrAt 20 (cfg1 (F := F)).N
def out2 (c : Dev nD) : Buf (Elt F) ((c : Thread nD τ).loc main_v63_2) := (dat V c).arrAt 21 (cfg1 (F := F)).N
def out3 (c : Dev nD) : Buf (Elt F) ((c : Thread nD τ).loc main_v63_3) := (dat V c).arrAt 22 (cfg1 (F := F)).N

variable (Vp : (c : Dev nD) → (b : Ref sig .tc) → Buf (Elt F) ((c : Thread nD τ).loc b))
variable (pd : (p : Fin 2) → (c : Dev nD) → Dat τ (Elt F) Unit ℕ UU ℕ (Pipeline.pin (pcfgs (F := F)) adm p) c)

theorem arr_in : ∀ w : Fin 23, w.val < 19 → ((Pipeline.arrRef spec1 w ≠ main_v63_0 ∧ Pipeline.arrRef spec1 w ≠ main_v63_1)
    ∧ (Pipeline.arrRef spec1 w ≠ main_v63_2 ∧ Pipeline.arrRef spec1 w ≠ main_v63_3)) := by decide
theorem in_in : ∀ w : Fin 23, w.val < 19 → (spec1 w).isOut = false := by decide

theorem leaves (h0 : ∀ c, Vp c main_v63_0 = out0 V c) (h1 : ∀ c, Vp c main_v63_1 = out1 V c) (h2 : ∀ c, Vp c main_v63_2 = out2 V c)
    (h3 : ∀ c, Vp c main_v63_3 = out3 V c)
    (hVp : ∀ c (b : Ref sig .tc), b ≠ main_v63_0 → b ≠ main_v63_1 → b ≠ main_v63_2 → b ≠ main_v63_3 → Vp c b = V c b) (c : Dev nD) (w : Fin 23) :
    (dat V c).arrAt w (cfg1 (F := F)).N = Vp c (Pipeline.arrRef spec1 w) := by
  by_cases hw : w.val < 19
  · have h := arr_in w hw
    exact ((dat V c).arrAt_in w (in_in w hw) _).trans (hVp c _ h.1.1 h.1.2 h.2.1 h.2.2).symm
  · obtain ⟨n, hn⟩ := w
    have h : n = 19 ∨ n = 20 ∨ n = 21 ∨ n = 22 := by dsimp only at hw; omega
    rcases h with rfl | rfl | rfl | rfl
    · exact (h0 c).symm
    · exact (h1 c).symm
    · exact (h2 c).symm
    · exact (h3 c).symm

set_option backward.isDefEq.respectTransparency.types false in
/-- The region over the thread state. -/
def reg (hpd : ∀ c, pd 1 c = dat V c)
    (h0 : ∀ c, Vp c main_v63_0 = out0 V c) (h1 : ∀ c, Vp c main_v63_1 = out1 V c) (h2 : ∀ c, Vp c main_v63_2 = out2 V c) (h3 : ∀ c, Vp c main_v63_3 = out3 V c)
    (hVp : ∀ c (b : Ref sig .tc), b ≠ main_v63_0 → b ≠ main_v63_1 → b ≠ main_v63_2 → b ≠ main_v63_3 → Vp c b = V c b) :
    Pipeline.RegionSeg (pcfgs (F := F)) adm pd () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := by rw [hpd]; exact (body_obligation V c).loose
  hwaits := Pipeline.hwaits_of_owed_zero _ _ _ _ L lv 1 fun c t => by rw [hpd]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec1 c (V c)
  hentry c := by
    rw [Pipeline.ownSems0_none]
    have hsplit := Pipeline.arrays_of_unscopedBufs (p := 1) (pcfgs (F := F)) adm pd (launch1 (F := F)).win (launch1 (F := F)).arr_whole c
      ((pd 1 c).share_full fun _ => by rw [hpd]; rfl) (V c) fun _ => by rw [hpd]; rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hpd]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hpd, show (dat V c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, hpd]
    refine BIBase.Entails.trans (show (dat V c).Φ (Fin.last (cfg1 (F := F)).N)
      ⊢ Pipeline.scopedRest (Ix := Unit) (Name := ℕ) (U := UU) (Lvl := ℕ) (Val := Elt F) spec1 c from BI.Entails.refl _) ?_
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) (launch1 (F := F)).win (launch1 (F := F)).arr_whole c
      pd ((pd 1 c).share_full fun _ => by rw [hpd]; rfl) (V c) (Vp c) ((pd 1 c).arrAt · (cfg1 (F := F)).N)
      (fun w => by rw [hpd]; exact leaves V Vp h0 h1 h2 h3 hVp c w)
      (fun b hb => hVp c b (fun h => hb (h ▸ Finset.mem_image.mpr ⟨19, Finset.mem_univ _, rfl⟩)) (fun h => hb (h ▸ Finset.mem_image.mpr ⟨20, Finset.mem_univ _, rfl⟩)) (fun h => hb (h ▸ Finset.mem_image.mpr ⟨21, Finset.mem_univ _, rfl⟩)) (fun h => hb (h ▸ Finset.mem_image.mpr ⟨22, Finset.mem_univ _, rfl⟩)))
    iintro ⟨Ha, HO, -, Hrest⟩
    imodintro
    isplitl [Ha Hrest]
    · iapply hjoin; isplitl [Ha] <;> iassumption
    rw [hpd]
    unfold Pipeline.Dat.owesAt Pipeline.owesWithin
    icases HO with ⟨%W, -, HO⟩; iexists W; iexact HO

end Cert.KernelIdeal.Head
-- ==== Proof.Run.lean ====
/- The whole program's run: every unscoped buffer at the end, given the two kernels' computed results. -/
module

public import proofs.«01_k».proof.Proof.Knn
public import proofs.«01_k».proof.Proof.Head

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)
open Cert.KernelIdeal Cert.KernelIdeal.Gen Cert.KernelIdeal.Knn

variable {F : FTy → Type} [FloatOps F] [Named F]

local notation "𝕄" => MT nD τ sig Unit (Elt F) ℕ UU ℕ

/-- The rounds library's algebra inside the machine's. -/
def emb : Emb UU (MT nD τ sig Unit (Elt F) ℕ UU ℕ) :=
  (Emb.refl _).trans (uEmb (nD := nD) (sig := sig) (Ix := Unit) (Val := Elt F) (Name := ℕ) (U := UU) (Lvl := ℕ)).toEmb

instance emb_landsIn : (emb : Emb UU 𝕄).LandsIn (upEmb : UEmb _ 𝕄) := by unfold emb; infer_instance

variable (m : (ℓ : Loc nD τ sig) → Buf (Elt F) ℓ) (ρ : Dev nD → PrngReg)

/-- The memory the first kernel is entered from. -/
abbrev W2 (c : Dev nD) (b : Ref sig .tc) : Buf (Elt F) ((c : Thread nD τ).loc b) := V2 m c b
/-- What the first kernel leaves. -/
def outs₀ : Outs (F := F) := fun _ r c =>
  Function.update (Function.update (fun r : Ref sig .tc => m ((c : Thread nD τ).loc r)) main_v3_0 (Knn.outD (W2 m) c)) main_v3_1 (Knn.outI (W2 m) c) r
/-- The memory the second kernel is entered from. -/
abbrev W16 (c : Dev nD) (b : Ref sig .tc) : Buf (Elt F) ((c : Thread nD τ).loc b) := V16 m (outs₀ m) c b
/-- What the second kernel leaves. -/
def outs₁ : Outs (F := F) := fun _ r c =>
  Function.update (Function.update (Function.update (Function.update (fun r : Ref sig .tc => m ((c : Thread nD τ).loc r)) main_v63_0 (Head.out0 (W16 m) c))
    main_v63_1 (Head.out1 (W16 m) c)) main_v63_2 (Head.out2 (W16 m) c)) main_v63_3 (Head.out3 (W16 m) c) r
/-- What the two kernels leave. -/
def outs : Outs (F := F) := fun n r c => match n with
  | 3 => outs₀ m 3 r c
  | _ => outs₁ m 17 r c

theorem outs₀_0 (n : ℕ) (c : Dev nD) : outs₀ m n main_v3_0 c = Knn.outD (W2 m) c := by
  unfold outs₀; rw [Function.update_of_ne (by decide), Function.update_self]
theorem outs₀_1 (n : ℕ) (c : Dev nD) : outs₀ m n main_v3_1 c = Knn.outI (W2 m) c := by
  unfold outs₀; rw [Function.update_self]
theorem outs₁_0 (n : ℕ) (c : Dev nD) : outs₁ m n main_v63_0 c = Head.out0 (W16 m) c := by
  unfold outs₁; rw [Function.update_of_ne (by decide), Function.update_of_ne (by decide), Function.update_of_ne (by decide), Function.update_self]
theorem outs₁_1 (n : ℕ) (c : Dev nD) : outs₁ m n main_v63_1 c = Head.out1 (W16 m) c := by
  unfold outs₁; rw [Function.update_of_ne (by decide), Function.update_of_ne (by decide), Function.update_self]
theorem outs₁_2 (n : ℕ) (c : Dev nD) : outs₁ m n main_v63_2 c = Head.out2 (W16 m) c := by
  unfold outs₁; rw [Function.update_of_ne (by decide), Function.update_self]
theorem outs₁_3 (n : ℕ) (c : Dev nD) : outs₁ m n main_v63_3 c = Head.out3 (W16 m) c := by
  unfold outs₁; rw [Function.update_self]

theorem V16_outs (c : Dev nD) : V16 m (outs m) c = V16 m (outs₀ m) c := rfl

/-- The first kernel's results after it. -/
theorem V3_0 (c : Dev nD) : V3 m (outs m) c main_v3_0 = Knn.outD (W2 m) c := by
  rw [show V3 m (outs m) c = Function.update (Function.update (V2 m c) main_v3_0 (outs₀ m 3 main_v3_0 c)) main_v3_1 (outs₀ m 3 main_v3_1 c) from rfl,
    Function.update_of_ne (StableHlo.devRef_ne_of_ne (by decide)), Function.update_self, outs₀_0]
theorem V3_1 (c : Dev nD) : V3 m (outs m) c main_v3_1 = Knn.outI (W2 m) c := by
  rw [show V3 m (outs m) c = Function.update (Function.update (V2 m c) main_v3_0 (outs₀ m 3 main_v3_0 c)) main_v3_1 (outs₀ m 3 main_v3_1 c) from rfl,
    Function.update_self, outs₀_1]

theorem V17_eq (c : Dev nD) : V17 m (outs m) c = Function.update (Function.update (Function.update (Function.update (V16 m (outs₀ m) c) main_v63_0 (outs₁ m 17 main_v63_0 c))
    main_v63_1 (outs₁ m 17 main_v63_1 c)) main_v63_2 (outs₁ m 17 main_v63_2 c)) main_v63_3 (outs₁ m 17 main_v63_3 c) := rfl
theorem V17_0 (c : Dev nD) : V17 m (outs m) c main_v63_0 = Head.out0 (W16 m) c := by
  rw [V17_eq, Function.update_of_ne (StableHlo.devRef_ne_of_ne (by decide)), Function.update_of_ne (StableHlo.devRef_ne_of_ne (by decide)),
    Function.update_of_ne (StableHlo.devRef_ne_of_ne (by decide)), Function.update_self, outs₁_0]
theorem V17_1 (c : Dev nD) : V17 m (outs m) c main_v63_1 = Head.out1 (W16 m) c := by
  rw [V17_eq, Function.update_of_ne (StableHlo.devRef_ne_of_ne (by decide)), Function.update_of_ne (StableHlo.devRef_ne_of_ne (by decide)),
    Function.update_self, outs₁_1]
theorem V17_2 (c : Dev nD) : V17 m (outs m) c main_v63_2 = Head.out2 (W16 m) c := by
  rw [V17_eq, Function.update_of_ne (StableHlo.devRef_ne_of_ne (by decide)), Function.update_self, outs₁_2]
theorem V17_3 (c : Dev nD) : V17 m (outs m) c main_v63_3 = Head.out3 (W16 m) c := by
  rw [V17_eq, Function.update_self, outs₁_3]

/-- The kernels' proof data. -/
def pdats : (p : Fin 2) → (c : Dev nD) → Dat τ (Elt F) Unit ℕ UU ℕ (Pipeline.pin (pcfgs (F := F)) adm p) c
  | 0 => fun c => Knn.dat (W2 m) c
  | 1 => fun c => Head.dat (W16 m) c

set_option backward.isDefEq.respectTransparency.types false in
/-- The first kernel's region. -/
def reg0 (hH : AllHalt (F := F)) : Pipeline.RegionSeg (pcfgs (F := F)) adm (pdats m) () defs₀ 𝒱₀ L lv 0 :=
  Knn.reg (W2 m) (fun c b => V3 m (outs m) c b) (pdats m) (fun _ => rfl) hH (V3_0 m) (V3_1 m)
    (fun c b h0 h1 => V3_of m (outs m) c b (by simp [h0, h1]))
set_option backward.isDefEq.respectTransparency.types false in
/-- The second kernel's region. -/
def reg1 : Pipeline.RegionSeg (pcfgs (F := F)) adm (pdats m) () defs₀ 𝒱₀ L lv 1 :=
  Head.reg (W16 m) (fun c b => V17 m (outs m) c b) (pdats m) (fun _ => rfl) (V17_0 m) (V17_1 m) (V17_2 m) (V17_3 m)
    (fun c b h0 h1 h2 h3 => V17_of m (outs m) c b (by simp [h0, h1, h2, h3]))

/-- Beside the buffers a core keeps nothing but the record that it owes nothing. -/
def rest (_ : Fin 3) (c : Dev nD) : sProp 𝕄 := iprop(∃ W, owes (c : Thread nD τ) (0 : CellTallies nD τ sig Unit) W)

/-- The launch element. -/
def u₀ : UU := initOf (Pipeline.cells (cfgs (F := F)) cellOf_inj) (Pipeline.launchToks (cfgs (F := F)) cellOf_inj)

theorem launch_own : (ownU (u₀ (F := F)) : sProp 𝕄) ⊢ |={Set.univ}=> iprop(BI.own (emb (F := F) (initOf (Pipeline.cells (cfgs (F := F)) cellOf_inj) (Pipeline.launchToks (cfgs (F := F)) cellOf_inj))) ∗ bigSep Finset.univ fun _ : Dev nD => (iprop(emp) : sProp 𝕄)) := by
  rw [show (bigSep Finset.univ fun _ : Dev nD => (iprop(emp) : sProp 𝕄)) = iprop(emp) from bigSep_emp_const _]
  refine BIBase.Entails.trans (show (ownU (u₀ (F := F)) : sProp 𝕄) ⊢ BI.own (emb (F := F) (initOf (Pipeline.cells (cfgs (F := F)) cellOf_inj) (Pipeline.launchToks (cfgs (F := F)) cellOf_inj))) from BI.Entails.refl _) ?_
  iintro H; imodintro; isplitl [H]; · iexact H
  iempintro

theorem rest_of (c : Dev nD) : iprop(unscopedSems0 c ∗ owes (c : Thread nD τ) (0 : CellTallies nD τ sig Unit) ∅
      ∗ Pipeline.launchCred (fun _ => 0) c ∗ prngReg c (ρ c) ∗ (iprop(emp) : sProp 𝕄)) ⊢ rest 0 c := by
  unfold rest; iintro ⟨-, HO, -⟩; iexists ∅; iexact HO

theorem launch_rest : iprop((bigSep Finset.univ fun c : Dev nD => iprop(unscopedSems0 c ∗ owes (c : Thread nD τ) (0 : CellTallies nD τ sig Unit) ∅
      ∗ Pipeline.launchCred (fun _ => 0) c ∗ prngReg c (ρ c) ∗ (iprop(emp) : sProp 𝕄))) ∗ levAts L lv)
    ⊢ (|={Set.univ}=> bigSep Finset.univ (rest 0) : sProp 𝕄) := by
  have hm : (bigSep Finset.univ fun c : Dev nD => iprop(unscopedSems0 c ∗ owes (c : Thread nD τ) (0 : CellTallies nD τ sig Unit) ∅
      ∗ Pipeline.launchCred (fun _ => 0) c ∗ prngReg c (ρ c) ∗ (iprop(emp) : sProp 𝕄))) ⊢ (bigSep Finset.univ (rest 0) : sProp 𝕄) :=
    bigSep_mono fun c _ => rest_of ρ c
  iintro ⟨H, -⟩
  imodintro
  iapply hm $$ H

/-- Buffers held and the rest are what the regions take and give. -/
theorem enter (W : Valuation τ sig (Elt F)) (k : Fin 3) (c : Dev nD) :
    iprop(StableHlo.held (c : Thread nD τ) (Pipeline.ucRefs τ sig) W ∗ rest k c)
      ⊢ (iprop(unscopedBufs c (fun b => W b) ∗ ∃ W, owes (c : Thread nD τ) (0 : CellTallies nD τ sig Unit) W) : sProp 𝕄) := by
  rw [← Pipeline.unscopedBufs_held (Ix := Unit) (Name := ℕ) (U := UU) (Lvl := ℕ) c W]; exact BI.Entails.refl _
theorem leave (W : Valuation τ sig (Elt F)) (k : Fin 3) (c : Dev nD) :
    (iprop(unscopedBufs c (fun b => W b) ∗ ∃ W, owes (c : Thread nD τ) (0 : CellTallies nD τ sig Unit) W) : sProp 𝕄)
      ⊢ iprop(StableHlo.held (c : Thread nD τ) (Pipeline.ucRefs τ sig) W ∗ rest k c) := by
  rw [← Pipeline.unscopedBufs_held (Ix := Unit) (Name := ℕ) (U := UU) (Lvl := ℕ) c W]; exact BI.Entails.refl _

/-- The launch: the unscoped buffers are held, and the rest made on every core. -/
theorem launch_init : iprop((bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ (iprop(emp) : sProp 𝕄))) ∗ levAts L lv)
    ⊢ (|={Set.univ}=> bigSep Finset.univ fun c : Dev nD => iprop(StableHlo.held (c : Thread nD τ) (Pipeline.ucRefs τ sig) (V0 m c) ∗ rest 0 c) : sProp 𝕄) := by
  have hsplit : (bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ (iprop(emp) : sProp 𝕄)))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (0 : CellTallies nD τ sig Unit) ∅
            ∗ Pipeline.launchCred (fun _ => 0) c ∗ prngReg c (ρ c) ∗ (iprop(emp) : sProp 𝕄))) : sProp 𝕄) := by
    rw [← bigSep_sep']
    exact bigSep_mono fun c _ => by rw [← Pipeline.unscopedBufs_held (Ix := Unit) (Name := ℕ) (U := UU) (Lvl := ℕ) c (V0 m c)]; exact BI.Entails.refl _
  iintro ⟨H, Hl⟩
  ihave H' := hsplit $$ H
  icases H' with ⟨Hb, Hr⟩
  imod (launch_rest (F := F) ρ) $$ [Hr Hl] with HE
  · isplitl [Hr]; · iexact Hr
    iexact Hl
  imodintro
  rw [bigSep_sep']
  isplitl [Hb]; · iexact Hb
  iexact HE

set_option backward.isDefEq.respectTransparency.types false in
/-- Every run of the program ends with every unscoped buffer at the last valuation and every counter at zero. -/
theorem run (hH : AllHalt (F := F)) :
    θ_run defs (onTc (τ := τ) (main (F := F))) ⟨m, fun _ => 0, ρ⟩ (fun r => (∀ c : Dev nD, ∀ b ∈ Pipeline.ucRefs τ sig, r.2.mem ((c : Thread nD τ).1, b) = V18 m (outs m) c b)
      ∧ r.2.sem = fun _ => 0) := by
  refine Pipeline.θ_run_regions_kit_dev_sems (pcfgs (F := F)) adm (pdats m) () cellOf_inj emb defs₀ 𝒱₀ L lv m ρ main
    (segs m (outs m) 𝒱₀ L lv rest () (pdats m) (reg0 m hH) (reg1 m))
    (fun c Q => by
      rewrite [main_chain c, Seg.run_eq_chain]
      exact .rfl)
    (fun c => by simp only [segs, Seg.pipes_host, Seg.pipes_region, Seg.pipes_nil]; decide) (fun _ => 0) (fun _ _ => rfl) (fun _ => iprop(emp)) u₀ launch_own
    (T₀ := fun c => iprop(StableHlo.held (c : Thread nD τ) (Pipeline.ucRefs τ sig) (V0 m c) ∗ rest 0 c))
    (Tₙ := fun c => StableHlo.held (c : Thread nD τ) (Pipeline.ucRefs τ sig) (V18 m (outs m) c))
    (hch := fun c => ⟨.rfl, .rfl, enter (V2 m c) 0 c, leave (V3 m (outs m) c) 1 c, .rfl, .rfl, .rfl, .rfl, .rfl, .rfl, .rfl, .rfl, .rfl, .rfl, .rfl, .rfl,
      enter (V16 m (outs m) c) 1 c, leave (V17 m (outs m) c) 2 c, sep_mono .rfl (BI.Entails.refl _)⟩)
    (hinit := launch_init m ρ) (QY := fun c s => ∀ b ∈ Pipeline.ucRefs τ sig, s.mem ((c : Thread nD τ).1, b) = V18 m (outs m) c b)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V18 m (outs m) c) s') $$ [Hh HSI]
  · isplitl [Hh] <;> iassumption
  icases Hr with ⟨%h, HSI⟩
  imodintro
  isplitr
  · ipureintro; exact h
  iexact HSI

end Cert.KernelIdeal.Run
-- ==== Proof.Frames.lean ====
/- The two programs' runs leave their arguments unchanged and every counter at zero. -/
module

public import proofs.«01_k».proof.Proof.Steps
public import proofs.«01_k».proof.Proof.Run
public import proofs.«01_k».proof.Proof.Gen.ReferenceIdeal.Run

@[expose] public section

set_option maxRecDepth 16384

noncomputable section

namespace Cert.KernelIdeal.Run

open Idealize.ShloMosaic Idealize.ShloMosaic.TcCoe Idealize.SL.Sem
open Cert.KernelIdeal Cert.KernelIdeal.Gen

/-- An unscoped buffer of the device is among those the run ends with. -/
theorem mem_uc (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

/-- The kernel's run: the last valuation, the arguments, the counters. -/
theorem kept (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      (∀ b ∈ Pipeline.ucRefs τ sig, r.2.mem ((c : Thread nD τ).1, b) = V18 m (outs m) c b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c => ⟨h.1 c, (h.1 c _ (mem_uc main_arg0 (by decide))).trans (V18_main_arg0 m (outs m) c),
    (h.1 c _ (mem_uc main_arg1 (by decide))).trans (V18_main_arg1 m (outs m) c),
    (h.1 c _ (mem_uc main_arg2 (by decide))).trans (V18_main_arg2 m (outs m) c),
    (h.1 c _ (mem_uc main_arg3 (by decide))).trans (V18_main_arg3 m (outs m) c),
    (h.1 c _ (mem_uc main_arg4 (by decide))).trans (V18_main_arg4 m (outs m) c),
    (h.1 c _ (mem_uc main_arg5 (by decide))).trans (V18_main_arg5 m (outs m) c),
    (h.1 c _ (mem_uc main_arg6 (by decide))).trans (V18_main_arg6 m (outs m) c),
    (h.1 c _ (mem_uc main_arg7 (by decide))).trans (V18_main_arg7 m (outs m) c),
    (h.1 c _ (mem_uc main_arg8 (by decide))).trans (V18_main_arg8 m (outs m) c),
    (h.1 c _ (mem_uc main_arg9 (by decide))).trans (V18_main_arg9 m (outs m) c),
    (h.1 c _ (mem_uc main_arg10 (by decide))).trans (V18_main_arg10 m (outs m) c),
    (h.1 c _ (mem_uc main_arg11 (by decide))).trans (V18_main_arg11 m (outs m) c),
    (h.1 c _ (mem_uc main_arg12 (by decide))).trans (V18_main_arg12 m (outs m) c),
    (h.1 c _ (mem_uc main_arg13 (by decide))).trans (V18_main_arg13 m (outs m) c),
    (h.1 c _ (mem_uc main_arg14 (by decide))).trans (V18_main_arg14 m (outs m) c),
    (h.1 c _ (mem_uc main_arg15 (by decide))).trans (V18_main_arg15 m (outs m) c),
    (h.1 c _ (mem_uc main_arg16 (by decide))).trans (V18_main_arg16 m (outs m) c)⟩, h.2⟩) (run m ρ Knn.allHalt)

end Cert.KernelIdeal.Run

namespace Cert.ReferenceIdeal.Value

open Idealize.ShloMosaic Idealize.ShloMosaic.TcCoe Idealize.SL.Sem
open Cert.ReferenceIdeal

/-- The reference's run: the arguments and the counters. -/
theorem kept (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c => (h c).2.2.2.2.2, sem_eq_zero_of_no_sems (by decide) r.2⟩) (run m ρ)

end Cert.ReferenceIdeal.Value

end
-- ==== Proof.Fold.lean ====
/- Sums and folds over padded lanes, over a row, and the softmax of a row of logits. -/
module

public import Idealize.ShloMosaic.Lib.ReduceAll
public import Idealize.ShloMosaic.Lib.Pointwise

@[expose] public section

set_option maxRecDepth 16384

noncomputable section

namespace Cert.Net

open Idealize.ShloMosaic Idealize.ShloMosaic.Pointwise

/-- The greatest of a row, from the least value. -/
abbrev mx {n : ℕ} (z : Fin n → EReal) : EReal := Finset.fold max ⊥ z Finset.univ
/-- The softmax of a row of logits. -/
def soft {n : ℕ} (z : Fin n → EReal) (k : Fin n) : EReal :=
  Ideal.div (Ideal.exp (z k - mx z)) (∑ l, Ideal.exp (z l - mx z))

/-- A sum over 64 lanes, the last four zero. -/
theorem sum64 (f : Fin 64 → EReal) (h : ∀ l : Fin 64, 60 ≤ l.val → f l = 0) : ∑ l, f l = ∑ k : Fin 60, f ⟨k.val, by omega⟩ := by
  have e : ∑ l : Fin (60 + 4), f l = ∑ k : Fin 60, f (Fin.castAdd 4 k) + ∑ k : Fin 4, f (Fin.natAdd 60 k) := Fin.sum_univ_add (a := 60) (b := 4) f
  refine e.trans ?_
  rw [Finset.sum_eq_zero (s := Finset.univ) (f := fun k : Fin 4 => f (Fin.natAdd 60 k)) (fun k _ => h _ (by show 60 ≤ 60 + k.val; omega)), add_zero]
  rfl

theorem mx64 (z : Fin 64 → EReal) (h : ∀ l : Fin 64, 60 ≤ l.val → z l = ⊥) : mx z = mx fun k : Fin 60 => z ⟨k.val, by omega⟩ := by
  refine le_antisymm (Finset.fold_max_le _ |>.mpr ⟨bot_le, fun l _ => ?_⟩) (Finset.fold_max_le _ |>.mpr ⟨bot_le, fun k _ => ?_⟩)
  · by_cases hl : 60 ≤ l.val
    · rw [h l hl]; exact bot_le
    · exact Finset.le_fold_max _ |>.mpr (Or.inr ⟨⟨l.val, by omega⟩, Finset.mem_univ _, le_rfl⟩)
  · exact Finset.le_fold_max _ |>.mpr (Or.inr ⟨_, Finset.mem_univ _, le_rfl⟩)

theorem bot_max (b : EReal) {ι : Type} (s : Finset ι) (f : ι → EReal) : max b (Finset.fold max b f s) = Finset.fold max b f s :=
  max_eq_right (Finset.le_fold_max _ |>.mpr (Or.inl le_rfl))

theorem exp_nonneg (x : EReal) : 0 ≤ Ideal.exp x := by
  induction x with
  | bot => exact le_of_eq rfl
  | top => exact le_top
  | coe x => exact EReal.coe_nonneg.mpr (Real.exp_pos x).le

/-- Finite logits: the softmax's denominator is not zero. -/
theorem den_ne {n : ℕ} (hn : 0 < n) (z : Fin n → EReal) (hz : ∀ k, z k ≠ ⊤ ∧ z k ≠ ⊥) : ∑ l, Ideal.exp (z l - mx z) ≠ 0 := by
  have hle : ∀ k, z k ≤ mx z := fun k => Finset.le_fold_max _ |>.mpr (Or.inr ⟨k, Finset.mem_univ _, le_rfl⟩)
  obtain ⟨k, hk⟩ : ∃ k, mx z ≤ z k := by
    by_contra hne
    push Not at hne
    have : mx z < mx z := by
      refine Finset.fold_max_lt _ |>.mpr ⟨?_, fun l _ => hne l⟩
      exact lt_of_lt_of_le (bot_lt_iff_ne_bot.mpr (hz ⟨0, hn⟩).2) (hle _)
    exact lt_irrefl _ this
  have hek : mx z = z k := le_antisymm hk (hle k)
  have h1 : Ideal.exp (z k - mx z) = 1 := by
    rw [hek, EReal.sub_self (hz k).1 (hz k).2]
    show ((Real.exp 0 : ℝ) : EReal) = 1
    rw [Real.exp_zero]; rfl
  have h2 : Ideal.exp (z k - mx z) ≤ ∑ l, Ideal.exp (z l - mx z) :=
    Finset.single_le_sum (f := fun l => Ideal.exp (z l - mx z)) (fun l _ => exp_nonneg _) (Finset.mem_univ k)
  rw [h1] at h2
  exact fun h => absurd (h ▸ h2) (by norm_num)

theorem exp_bot (x : EReal) : Ideal.exp (⊥ - x) = 0 := by rw [sub_eq_add_neg, EReal.bot_add]; rfl
theorem div_zero_left (x : EReal) (h : x ≠ 0) : Ideal.div 0 x = 0 := by unfold Ideal.div; rw [if_neg h, zero_mul]

/-- The softmax over 64 lanes, the last four at minus infinity, weighing a row. -/
theorem soft64 (z y : Fin 64 → EReal) (z' y' : Fin 60 → EReal) (hz' : ∀ k : Fin 60, z ⟨k.val, by omega⟩ = z' k) (hy' : ∀ k : Fin 60, y ⟨k.val, by omega⟩ = y' k)
    (h : ∀ l : Fin 64, 60 ≤ l.val → z l = ⊥) (hf : ∀ k, z' k ≠ ⊤ ∧ z' k ≠ ⊥) :
    ∑ l, Ideal.div (Ideal.exp (z l - mx z)) (∑ i, Ideal.exp (z i - mx z)) * y l = ∑ k, soft z' k * y' k := by
  have hm : mx z = mx z' := (mx64 z h).trans (congrArg mx (funext hz'))
  have hs : ∑ i, Ideal.exp (z i - mx z) = ∑ i, Ideal.exp (z' i - mx z') := by
    rw [sum64 _ fun l hl => by rw [h l hl, exp_bot], hm]
    exact Finset.sum_congr rfl fun k _ => by rw [hz']
  rw [hs, sum64 _ fun l hl => by rw [h l hl, exp_bot, div_zero_left _ (den_ne (by norm_num) z' hf), zero_mul]]
  exact Finset.sum_congr rfl fun k _ => by rw [hz', hy', hm]; rfl

/-- A layer of 32 hyperbolic tangents over the distances. -/
def hid (d : Fin 60 → EReal) (w : Fin 32 → Fin 60 → EReal) (b : Fin 32 → EReal) (j : Fin 32) : EReal := Ideal.tanh ((∑ k, d k * w j k) + b j)
def logit (d : Fin 60 → EReal) (w : Fin 32 → Fin 60 → EReal) (b : Fin 32 → EReal) (w2 : Fin 60 → Fin 32 → EReal) (b2 : Fin 60 → EReal) (k : Fin 60) : EReal :=
  (∑ j, hid d w b j * w2 k j) + b2 k

theorem tanh_real (x : EReal) : ∃ t : ℝ, Ideal.tanh x = t := by
  induction x with
  | bot => exact ⟨-1, rfl⟩
  | top => exact ⟨1, rfl⟩
  | coe x => exact ⟨Real.tanh x, rfl⟩

theorem real_of (x : EReal) (h : x ≠ ⊤ ∧ x ≠ ⊥) : ∃ t : ℝ, x = t := ⟨x.toReal, (EReal.coe_toReal h.1 h.2).symm⟩

theorem sum_real {ι : Type} (s : Finset ι) (f : ι → EReal) (h : ∀ i, ∃ t : ℝ, f i = t) : ∃ t : ℝ, ∑ i ∈ s, f i = t := by
  classical
  induction s using Finset.induction_on with
  | empty => exact ⟨0, by rw [Finset.sum_empty]; rfl⟩
  | insert a s ha ih =>
    obtain ⟨t, ht⟩ := ih
    obtain ⟨u, hu⟩ := h a
    exact ⟨u + t, by rw [Finset.sum_insert ha, ht, hu, EReal.coe_add]⟩

theorem logit_finite (d : Fin 60 → EReal) (w : Fin 32 → Fin 60 → EReal) (b : Fin 32 → EReal) (w2 : Fin 60 → Fin 32 → EReal) (b2 : Fin 60 → EReal)
    (h2 : ∀ k j, w2 k j ≠ ⊤ ∧ w2 k j ≠ ⊥) (hb : ∀ k, b2 k ≠ ⊤ ∧ b2 k ≠ ⊥) (k : Fin 60) : logit d w b w2 b2 k ≠ ⊤ ∧ logit d w b w2 b2 k ≠ ⊥ := by
  obtain ⟨s, hs⟩ := sum_real Finset.univ (fun j => hid d w b j * w2 k j) (fun j => by
    obtain ⟨t, ht⟩ := tanh_real ((∑ k, d k * w j k) + b j)
    obtain ⟨u, hu⟩ := real_of _ (h2 k j)
    exact ⟨t * u, by unfold hid; rw [ht, hu, EReal.coe_mul]⟩)
  obtain ⟨u, hu⟩ := real_of _ (hb k)
  have : logit d w b w2 b2 k = ((s + u : ℝ) : EReal) := by unfold logit; rw [hs, hu, EReal.coe_add]
  rw [this]
  exact ⟨EReal.coe_ne_top _, EReal.coe_ne_bot _⟩

/-- A fold over the indices of one row of a matrix is a fold over its columns. -/
theorem fold_row {α : Type} (op : α → α → α) [Std.Commutative op] [Std.Associative op] {n : ℕ} (h : (⟨2, ![1024, n]⟩ : Shape).ReducesTo [1] ⟨1, ![1024]⟩) (b : α)
    (f : (⟨2, ![1024, n]⟩ : Shape).Idx → α) (r : Fin 1024) :
    Finset.fold op b f {i | h.drop i = ix1 r} = Finset.fold op b (fun k : Fin n => f (ix2 r k)) Finset.univ := by
  have e : ({i | h.drop i = ix1 r} : Finset (⟨2, ![1024, n]⟩ : Shape).Idx) = Finset.univ.image fun k : Fin n => ix2 r k := by
    ext i
    simp only [Finset.mem_filter, Finset.mem_univ, true_and, Finset.mem_image]
    constructor
    · intro hi
      refine ⟨i 1, ?_⟩
      have h0 : i 0 = r := congrFun hi 0
      funext a
      fin_cases a
      · exact h0.symm
      · rfl
    · rintro ⟨k, rfl⟩
      funext a
      fin_cases a
      rfl
  rw [e, Finset.fold_image fun x _ y _ hxy => show x = y from congrFun hxy 1]
  rfl

/-- A conjunction over a set all of whose bits are set. -/
theorem fold_andi {ι : Type} [DecidableEq ι] (s : Finset ι) (f : ι → BitVec 1) (h : ∀ i ∈ s, f i = 1#1) : Finset.fold IntOp.andi 1#1 f s = 1#1 := by
  induction s using Finset.induction_on with
  | empty => rfl
  | insert a s ha ih =>
    rw [Finset.fold_insert ha, h a (Finset.mem_insert_self ..), ih fun i hi => h i (Finset.mem_insert_of_mem hi)]
    rfl

end Cert.Net
-- ==== Proof.Out.lean ====
/- What the two kernels leave in their results' arrays. -/
module

public import proofs.«01_k».proof.Proof.Run
public import Idealize.ShloMosaic.Lib.Pointwise

@[expose] public section

set_option maxRecDepth 16384

noncomputable section

namespace Cert.KernelIdeal.Knn

open Idealize.ShloMosaic Idealize.ShloMosaic.TcCoe Idealize.ShloMosaic.Pointwise
open Cert.KernelIdeal Cert.KernelIdeal.Gen

variable {F : FTy → Type} [FloatOps F] [Named F]
variable (V : (c : Dev nD) → (b : Ref sig .tc) → Buf (Elt F) ((c : Thread nD τ).loc b)) (c : Dev nD)

/-- The last chunk. -/
def tEnd : Fin grid0.N := ⟨24, by decide⟩

theorem idx2 : ∀ (t : Fin grid0.N) (a : Fin 2), cc0_transform_2 (grid0.coords t) a = 0 := by decide
theorem idx3 : ∀ (t : Fin grid0.N) (a : Fin 2), cc0_transform_3 (grid0.coords t) a = 0 := by decide

theorem emb2 (t : Fin grid0.N) (x : S1024x64.Idx) : (((cfg0 (F := F)).win 2).blk t).view.emb x = x := by
  funext a
  apply Fin.ext
  fin_cases a
  · show cc0_transform_2 (grid0.coords t) 0 * 1024 + 1 * (x 0).val = (x 0).val
    rw [idx2]; omega
  · show cc0_transform_2 (grid0.coords t) 1 * 64 + 1 * (x 1).val = (x 1).val
    rw [idx2]; omega
theorem emb3 (t : Fin grid0.N) (x : S1024x64.Idx) : (((cfg0 (F := F)).win 3).blk t).view.emb x = x := by
  funext a
  apply Fin.ext
  fin_cases a
  · show cc0_transform_3 (grid0.coords t) 0 * 1024 + 1 * (x 0).val = (x 0).val
    rw [idx3]; omega
  · show cc0_transform_3 (grid0.coords t) 1 * 64 + 1 * (x 1).val = (x 1).val
    rw [idx3]; omega

theorem outD_eq : outD V c = (keepAt V c 25).s.rd := by
  unfold outD
  refine (dat V c).arrAt_eq_of_cover 2 _ (fun t ht => ?_) (fun i => ⟨tEnd, (flush0_2 tEnd).mpr rfl, ?_⟩)
  · have h : t = tEnd := by
      have h1 := (flush0_2 (F := F) t).mp ht
      have h2 : t.val < 25 := t.isLt
      exact Fin.ext (by show t.val = 24; omega)
    subst h
    funext x
    exact congrArg ((keepAt V c 25).s.rd) (emb2 tEnd x).symm
  · have h := (((cfg0 (F := F)).win 2).blk tEnd).view.emb_mem_set i
    exact Eq.mp (congrArg (fun z => z ∈ (((cfg0 (F := F)).win 2).blk tEnd).view.set) (emb2 tEnd i)) h

theorem outI_eq : outI V c = k0_pay2 (keepAt V c 25).s.ri := by
  unfold outI
  refine (dat V c).arrAt_eq_of_cover 3 _ (fun t ht => ?_) (fun i => ⟨tEnd, (flush0_3 tEnd).mpr rfl, ?_⟩)
  · have h : t = tEnd := by
      have h1 := (flush0_3 (F := F) t).mp ht
      have h2 : t.val < 25 := t.isLt
      exact Fin.ext (by show t.val = 24; omega)
    subst h
    funext x
    exact congrArg (k0_pay2 (keepAt V c 25).s.ri) (emb3 tEnd x).symm
  · have h := (((cfg0 (F := F)).win 3).blk tEnd).view.emb_mem_set i
    exact Eq.mp (congrArg (fun z => z ∈ (((cfg0 (F := F)).win 3).blk tEnd).view.set) (emb3 tEnd i)) h

end Cert.KernelIdeal.Knn
-- ==== Proof.Keep.lean ====
/- What the two lists hold of the distances seen so far, chunk after chunk. -/
module

public import proofs.«01_k».proof.Proof.Steps

@[expose] public section

set_option maxRecDepth 16384

noncomputable section

namespace Cert.KernelIdeal.Row

open Idealize.ShloMosaic

/-- The list of a row between two chunks: the 64 least of the values `D 0 … D (seen - 1)`, with their numbers. -/
structure Done (D : ℕ → EReal) (seen : ℕ) (rd ri : Fin 64 → EReal) : Prop where
  sorted : Monotone rd
  made : ∀ l, rd l < ⊤ → ∃ n < seen, ri l = e n ∧ D n = rd l
  inj : ∀ l l', rd l < ⊤ → rd l' < ⊤ → ri l = ri l' → l = l'
  all : ∀ n < seen, D n < rd 63 → ∃ l, rd l < ⊤ ∧ ri l = e n

theorem Done.init (D : ℕ → EReal) (ri : Fin 64 → EReal) : Done D 0 (fun _ => ⊤) ri :=
  ⟨fun _ _ _ => le_refl _, fun _ h => absurd h (lt_irrefl _), fun _ _ h => absurd h (lt_irrefl _), fun _ h => absurd h (Nat.not_lt_zero _)⟩

/-- A chunk comes in. -/
theorem Done.enter {D : ℕ → EReal} {base : ℕ} {rd ri : Fin 64 → EReal} (h : Done D base rd ri) (dm : Fin 4096 → EReal) (hdm : ∀ j, dm j = D (base + j.val)) :
    Inv D base (base + 4096) dm rd ri where
  sorted := h.sorted
  made l hl := by
    obtain ⟨n, hn, h1, h2⟩ := h.made l hl
    exact ⟨n, by omega, h1, h2⟩
  inj := h.inj
  left j _ := ⟨by omega, hdm j, fun l hl hc => by
    obtain ⟨n, hn, h1, -⟩ := h.made l hl
    rw [h1, e_inj] at hc
    omega⟩
  all n hn hd := by
    by_cases hb : n < base
    · exact .inl (h.all n hb hd)
    · refine .inr ⟨⟨n - base, by omega⟩, ?_, ?_⟩
      · show n = base + (n - base); omega
      · rw [hdm]; exact congrArg D (by show base + (n - base) = n; omega)

/-- The chunk has nothing left below the last one kept. -/
theorem Inv.leave {D : ℕ → EReal} {base seen : ℕ} {dm : Fin 4096 → EReal} {rd ri : Fin 64 → EReal} (h : Inv D base seen dm rd ri) (hdm : ∀ j, rd 63 ≤ dm j) :
    Done D seen rd ri where
  sorted := h.sorted
  made := h.made
  inj := h.inj
  all n hn hd := by
    rcases h.all n hn hd with hl | ⟨j, -, hj⟩
    · exact hl
    · exact absurd (hdm j) (not_le.mpr (hj ▸ hd))

end Cert.KernelIdeal.Row

namespace Cert.KernelIdeal.Knn

open Idealize.ShloMosaic Idealize.ShloMosaic.TcCoe Idealize.ShloMosaic.Pointwise
open Cert.KernelIdeal Cert.KernelIdeal.Gen Cert.KernelIdeal.Row

variable (D : Fin 1024 → ℕ → EReal) (i : grid0.Coords)

/-- Every row is in order, within the chunk and between chunks. -/
def Mid (seen : ℕ) (s : St Ideal) : Prop := ∀ r, Inv (D r) (4096 * (i 0).val) seen (rowD s r) (rowR s r) (rowI s r)
def After (seen : ℕ) (s : St Ideal) : Prop := ∀ r, Done (D r) seen (rowR s r) (rowI s r)

variable {D} {seen : ℕ}

theorem Mid.stp {s : St Ideal} (h : Mid D i seen s) (g : Fin 32) : Mid D i seen (stp i s g) := by
  by_cases hf : Fires s g
  · intro r
    obtain ⟨k₁, k₂, hle, hd, hr, hi⟩ := stp_row i hf r
    have hlow : rowD s r (col g k₁) ≤ Function.update (rowD s r) (col g k₁) ⊤ (col g k₂) := by
      by_cases hk : col g k₂ = col g k₁
      · rw [hk, Function.update_self]; exact le_top
      · rw [Function.update_of_ne hk]; exact hle k₂
    rw [two_eq (h r).sorted hlow] at hr hi
    have h2 := ((h r).move (col g k₁)).move (col g k₂)
    rw [hd, hr, hi]; exact h2
  · rw [stp_idle i hf]; exact h

theorem Mid.steps {s : St Ideal} (h : Mid D i seen s) (l : List (Fin 32)) : Mid D i seen (l.foldl (Knn.stp i) s) := by
  induction l generalizing s with
  | nil => exact h
  | cons g l ih => rw [List.foldl_cons]; exact ih (h.stp i g)

theorem Mid.loop {s : St Ideal} (h : Mid D i seen s) (n : ℕ) (b : BitVec 1) : Mid D i seen (loopS (F := Ideal) k0_pay12 (k0_pay13 i) k0_pay11 n b s) := by
  induction n generalizing s b with
  | zero => exact h
  | succ n ih =>
    unfold loopS
    by_cases hb : b = 1#1
    · rw [if_pos hb]; exact ih (h.steps i _) _
    · rw [if_neg hb]; exact h

theorem loop_end (n : ℕ) (b : BitVec 1) (s : St Ideal) (hb : b = 1#1 ↔ moreS s = 1#1) (hh : Halts (F := Ideal) k0_pay12 (k0_pay13 i) k0_pay11 n b s) :
    ¬ moreS (loopS (F := Ideal) k0_pay12 (k0_pay13 i) k0_pay11 n b s) = 1#1 := by
  induction n generalizing s b with
  | zero => exact fun hc => hh (hb.mpr hc)
  | succ n ih =>
    unfold loopS
    by_cases h1 : b = 1#1
    · rw [if_pos h1]; exact ih _ _ Iff.rfl (hh h1)
    · rw [if_neg h1]; exact fun hc => h1 (hb.mpr hc)

theorem pay10_eq (K : Vec Ideal S64x4096 .f32) (q : Vec Ideal S1024x64 .f32) (n : Vec Ideal S1024x1 .f32) (r : Fin 1024) (j : Fin 4096) :
    k0_pay10 i q K n (ix2 r j) = k0_pay9 i q K n (ix2 r j) := by
  unfold k0_pay10; rw [shapeCast_self]

theorem pay1_iff (v : IVec S1024x4096 1) : (0 : EReal) < k0_pay1 (F := Ideal) v ↔ ∃ (r : Fin 1024) (j : Fin 4096), v (ix2 r j) = 1#1 := by
  have h : k0_pay1 (F := Ideal) v = Finset.univ.fold max (⊥ : EReal) (fun x : Fin 1024 × Fin 4096 => if v (ix2 x.1 x.2) = 1#1 then (1 : EReal) else 0) := by
    pointwise [k0_pay1]; rw [bits_bot]; rfl
  rw [h, fold_pos]
  exact ⟨fun ⟨x, hx⟩ => ⟨x.1, x.2, hx⟩, fun ⟨r, k, hx⟩ => ⟨(r, k), hx⟩⟩

theorem pay14_iff (K : Vec Ideal S64x4096 .f32) (q : Vec Ideal S1024x64 .f32) (n u : Vec Ideal S1024x1 .f32) (r : Fin 1024) (j : Fin 4096) :
    k0_pay14 i q K n u (ix2 r j) = 1#1 ↔ k0_pay9 i q K n (ix2 r j) < u (ix2 r 0) := by
  have h : k0_pay14 i q K n u (ix2 r j) = BitVec.ofBool (decide (k0_pay9 i q K n (ix2 r j) < u (ix2 r 0))) := by
    unfold k0_pay14
    generalize k0_pay9 i q K n = w
    pointwise []
  rw [h]
  by_cases hc : k0_pay9 i q K n (ix2 r j) < u (ix2 r 0)
  · simp [hc]
  · simp [hc]

theorem startB_iff (K : Vec Ideal S64x4096 .f32) (k : Keep Ideal) : startB i K k = 1#1 ↔ moreS (enter i K k).s = 1#1 := by
  unfold startB
  rw [zero_bits, ogt_iff, pay1_iff, moreS_iff]
  refine exists_congr fun r => exists_congr fun j => ?_
  rw [pay14_iff, lastCol_row]
  unfold enter rowD rowR
  rw [← pay10_eq]

theorem rowD_enter (K : Vec Ideal S64x4096 .f32) (k : Keep Ideal) (r : Fin 1024) (j : Fin 4096) :
    rowD (enter i K k).s r j = k0_pay9 i k.q K k.n (ix2 r j) := by
  rw [← pay10_eq]; unfold enter rowD; with_reducible rfl

theorem rowR_enter (K : Vec Ideal S64x4096 .f32) (k : Keep Ideal) (r : Fin 1024) : rowR (enter i K k).s r = rowR k.s r := by
  unfold enter rowR; with_reducible rfl
theorem rowI_enter (K : Vec Ideal S64x4096 .f32) (k : Keep Ideal) (r : Fin 1024) : rowI (enter i K k).s r = rowI k.s r := by
  unfold enter rowI; with_reducible rfl

/-- A chunk: what was in order before it is after it. -/
theorem settle_after (K : Vec Ideal S64x4096 .f32) (k : Keep Ideal) (h : After D (4096 * (i 0).val) k.s)
    (hd : ∀ (r : Fin 1024) (j : Fin 4096), k0_pay9 i k.q K k.n (ix2 r j) = D r (4096 * (i 0).val + j.val)) :
    After D (4096 * (i 0).val + 4096) (settle i K k).s := by
  have hm : Mid D i (4096 * (i 0).val + 4096) (enter i K k).s := by
    intro r
    have hr := h r
    have he : ∀ j : Fin 4096, rowD (enter i K k).s r j = D r (4096 * (i 0).val + j.val) := fun j => by rw [rowD_enter]; exact hd r j
    have h2 := hr.enter (rowD (enter i K k).s r) he
    rw [← rowR_enter i K k r, ← rowI_enter i K k r] at h2
    exact h2
  have hl := hm.loop i (turns k0_pay12 (k0_pay13 i) k0_pay11 (startB i K k) (enter i K k).s) (startB i K k)
  have he := loop_end i _ (startB i K k) (enter i K k).s (startB_iff i K k) (turns_halts (halts i (startB i K k) (enter i K k).s))
  rw [moreS_iff] at he
  intro r
  exact (hl r).leave fun j => not_lt.mp fun hc => he ⟨r, j, hc⟩

theorem coords_val : ∀ t : Fin grid0.N, (grid0.coords t 0).val = t.val := by decide

theorem pay7_row (r : Fin 1024) : (fun l : Fin 64 => k0_pay7 (F := Ideal) (ix2 r l)) = fun _ => ⊤ := by
  funext l; pointwise [k0_pay7]; exact named_inf

/-- What is kept after a chunk. -/
theorem keep_after (V : (c : Dev nD) → (b : Ref sig .tc) → Buf (Elt Ideal) ((c : Thread nD τ).loc b)) (c : Dev nD) (X : Vec Ideal S1024x512 .f32)
    (hX : ∀ t, stgX V c t = X) (hd : ∀ (t : Fin grid0.N) (r : Fin 1024) (j : Fin 4096), k0_pay9 (grid0.coords t) (q0 X) (stgK V c t) (qn0 X) (ix2 r j) = D r (4096 * t.val + j.val)) (n : ℕ) (hn : n < grid0.N) :
    After D (4096 * n + 4096) (keepAt V c (n + 1)).s ∧ (keepAt V c (n + 1)).q = q0 X ∧ (keepAt V c (n + 1)).n = qn0 X := by
  induction n with
  | zero =>
    rw [show keepAt V c (0 + 1) = _ from keepAt_succ V c ⟨0, hn⟩, hX]
    unfold chunk
    rw [if_pos ((isFirst_iff ⟨0, hn⟩).mpr rfl)]
    refine ⟨?_, rfl, rfl⟩
    have h0 := coords_val ⟨0, hn⟩
    have h := settle_after (D := D) (grid0.coords ⟨0, hn⟩) (stgK V c ⟨0, hn⟩) (setup X (keepAt V c 0))
      (fun r => by
        rw [h0, show rowR (setup X (keepAt V c 0)).s r = fun _ => ⊤ from pay7_row r]
        exact Done.init _ _)
      (fun r j => by rw [h0]; exact hd ⟨0, hn⟩ r j)
    rw [h0] at h
    exact h
  | succ n ih =>
    obtain ⟨ha, hq, hnn⟩ := ih (by omega)
    rw [show keepAt V c (n + 1 + 1) = _ from keepAt_succ V c ⟨n + 1, hn⟩, hX]
    unfold chunk
    rw [if_neg (fun hc => Nat.succ_ne_zero n ((isFirst_iff ⟨n + 1, hn⟩).mp hc))]
    refine ⟨?_, hq, hnn⟩
    have h0 := coords_val ⟨n + 1, hn⟩
    have h := settle_after (D := D) (grid0.coords ⟨n + 1, hn⟩) (stgK V c ⟨n + 1, hn⟩) (keepAt V c (n + 1))
      (by rw [h0, show 4096 * (n + 1) = 4096 * n + 4096 by ring]; exact ha)
      (fun r j => by rw [h0, hq, hnn]; exact hd ⟨n + 1, hn⟩ r j)
    rw [h0] at h
    exact h

end Cert.KernelIdeal.Knn
-- ==== Proof.Select.lean ====
/- When the least values of a row are pairwise distinct, the list holds them in order, with their numbers. -/
module

public import proofs.«01_k».proof.Proof.Keep
public import Idealize.ShloMosaic.Lib.SortFacts

@[expose] public section

set_option maxRecDepth 16384

noncomputable section

namespace Cert.KernelIdeal.Row

open Idealize.ShloMosaic

section
variable {D : ℕ → EReal} {seen : ℕ} {rd ri : Fin 64 → EReal} (h : Done D seen rd ri) {p : Fin 61 → ℕ} (hs : StrictMono fun k => D (p k)) (hp : ∀ k, p k < seen)
  (hall : ∀ n < seen, ∀ k : Fin 61, D n < D (p k) → ∃ j < k, n = p j)
include h hs hall

/-- An entry of the list below the value `k` of the order is one of the values before it. -/
theorem Done.entry (l : Fin 64) (k : Fin 61) (hl : rd l < D (p k)) : ∃ j < k, ri l = e (p j) ∧ rd l = D (p j) := by
  obtain ⟨n, hn, h1, h2⟩ := h.made l (lt_of_lt_of_le hl le_top)
  obtain ⟨j, hj, rfl⟩ := hall n hn k (by rw [h2]; exact hl)
  exact ⟨j, hj, h1, h2.symm⟩

/-- The last one kept is above the value 59. -/
theorem Done.last : D (p 59) < rd 63 := by
  by_contra hc
  rw [not_lt] at hc
  have hlow : ∀ l, rd l < D (p 60) := fun l => lt_of_le_of_lt ((h.sorted (Fin.le_last l)).trans hc) (hs (by decide))
  choose f hf using fun l => h.entry hs hall l 60 (hlow l)
  have hinj : Function.Injective f := fun a b hab => h.inj a b (lt_of_lt_of_le (hlow a) le_top) (lt_of_lt_of_le (hlow b) le_top) (by rw [(hf a).2.1, (hf b).2.1, hab])
  have := Fintype.card_le_of_injective f hinj
  simp at this

include hp

theorem Done.place (j : Fin 61) (hj : j < 60) : ∃ l : Fin 64, ri l = e (p j) ∧ rd l = D (p j) := by
  have hlt : D (p j) < rd 63 := lt_of_le_of_lt (hs.monotone (show j ≤ 59 by rw [Fin.le_def]; rw [Fin.lt_def] at hj; exact Nat.le_of_lt_succ hj)) (h.last hs hall)
  obtain ⟨l, hl, hi⟩ := h.all (p j) (hp j) hlt
  obtain ⟨n, -, h1, h2⟩ := h.made l hl
  rw [hi, e_inj] at h1
  exact ⟨l, hi, by rw [h1, h2]⟩

/-- The list's first 60 entries. -/
theorem Done.first (j : ℕ) (hj : j < 60) : rd ⟨j, by omega⟩ = D (p ⟨j, by omega⟩) ∧ ri ⟨j, by omega⟩ = e (p ⟨j, by omega⟩) := by
  induction j using Nat.strong_induction_on with
  | _ j ih =>
    obtain ⟨l, hi, hd⟩ := h.place hs hp hall ⟨j, by omega⟩ hj
    have htop : ∀ k : Fin 61, k < 60 → D (p k) < ⊤ := fun k hk => lt_of_lt_of_le (hs hk) le_top
    have hlt : ∀ k : Fin 61, ∀ q : Fin 64, rd q = D (p k) → k < 60 → rd q < ⊤ := fun k q hq hk => by rw [hq]; exact htop k hk
    have hle : j ≤ l.val := by
      by_contra hc
      rw [not_le] at hc
      have h1 := (ih l.val hc (by omega)).1
      rw [show (⟨l.val, by omega⟩ : Fin 64) = l from rfl, hd] at h1
      have h2 := hs.injective h1
      rw [Fin.mk.injEq] at h2
      omega
    have hq : rd ⟨j, by omega⟩ ≤ D (p ⟨j, by omega⟩) := by rw [← hd]; exact h.sorted hle
    have hjs : (⟨j, by omega⟩ : Fin 61) < ⟨j + 1, by omega⟩ := by rw [Fin.lt_def]; exact Nat.lt_succ_self j
    obtain ⟨j', hj', hi', hd'⟩ := h.entry hs hall ⟨j, by omega⟩ ⟨j + 1, by omega⟩ (lt_of_le_of_lt hq (hs hjs))
    have hjj : j'.val ≤ j := by rw [Fin.lt_def] at hj'; exact Nat.le_of_lt_succ hj'
    rcases Nat.lt_or_eq_of_le hjj with hlt' | heq
    · have h3 := (ih j'.val hlt' (by omega)).2
      have h4 := (ih j'.val hlt' (by omega)).1
      have h5 := h.inj ⟨j, by omega⟩ ⟨j'.val, by omega⟩ (hlt j' _ hd' (by rw [Fin.lt_def]; show j'.val < 60; omega)) (hlt j' _ h4 (by rw [Fin.lt_def]; show j'.val < 60; omega)) (by rw [hi', h3])
      rw [Fin.mk.injEq] at h5
      omega
    · have h6 : j' = ⟨j, by omega⟩ := Fin.ext heq
      rw [h6] at hi' hd'
      exact ⟨hd', hi'⟩
end

/-- The order a stable descending sort puts `n` values in. -/
abbrev ord {n : ℕ} (x : Fin n → EReal) (k : Fin n) : Fin n := sortedFrom (fun a b => FloatOps.cmpfTotal (F := Ideal) (φ := .f32) .gt (x a) (x b) == 1#1) k

theorem gt_iff (a b : EReal) : (FloatOps.cmpfTotal (F := Ideal) (φ := .f32) .gt a b == 1#1) = decide (b < a) := by
  have h : FloatOps.cmpfTotal (F := Ideal) (φ := .f32) .gt a b = BitVec.ofBool (decide (b < a)) := rfl
  rw [h]
  by_cases hc : b < a
  · simp [hc]
  · simp [hc]

theorem ord_anti {n : ℕ} (x : Fin n → EReal) {i j : Fin n} (hij : i ≤ j) : x (ord x j) ≤ x (ord x i) := by
  rcases hij.lt_or_eq with hlt | rfl
  · have h := sortedFrom_noInversion (fun a b => FloatOps.cmpfTotal (F := Ideal) (φ := .f32) .gt (x a) (x b) == 1#1) (fun a b => FloatOps.cmpfTotal (F := Ideal) (φ := .f32) .gt (x a) (x b) == 1#1)
      (fun a b h => by rw [gt_iff, decide_eq_true_iff] at h; rw [gt_iff, decide_eq_false_iff_not]; exact not_lt.mpr h.le) (fun _ _ h => h)
      (fun a b c h1 h2 => by rw [gt_iff, decide_eq_false_iff_not, not_lt] at h1 h2 ⊢; exact h1.trans h2) i j hlt
    rw [gt_iff, decide_eq_false_iff_not, not_lt] at h
    exact h
  · exact le_refl _

/-- Strict order of the first 61 and the list's entries. -/
theorem Done.top {n : ℕ} (hn : 61 ≤ n) (x : Fin n → EReal) {D : ℕ → EReal} {seen : ℕ} {rd ri : Fin 64 → EReal} (h : Done D seen rd ri) (hseen : n ≤ seen)
    (hD : ∀ k : Fin n, D k.val = -x k) (hD' : ∀ k, n ≤ k → D k = ⊤) (hlt : ∀ k : Fin 60, x (ord x ⟨k.val + 1, by omega⟩) < x (ord x ⟨k.val, by omega⟩))
    (j : Fin 60) : rd ⟨j.val, by omega⟩ = -x (ord x ⟨j.val, by omega⟩) ∧ ri ⟨j.val, by omega⟩ = e (ord x ⟨j.val, by omega⟩).val := by
  have hs : StrictMono fun k : Fin 61 => D ((ord x ⟨k.val, by omega⟩).val) := by
    rw [Fin.strictMono_iff_lt_succ]
    intro k
    show D _ < D _
    rw [hD, hD, EReal.neg_lt_neg_iff]
    exact hlt k
  have h1 := h.first (p := fun k => (ord x ⟨k.val, by omega⟩).val) hs (fun k => lt_of_lt_of_le (ord x ⟨k.val, by omega⟩).isLt hseen) (fun m hm k hk => by
    by_cases hmn : m < n
    · obtain ⟨a, ha⟩ := sortedFrom_surjective (fun a b => FloatOps.cmpfTotal (F := Ideal) (φ := .f32) .gt (x a) (x b) == 1#1) ⟨m, hmn⟩
      have hm' : m = (ord x a).val := by rw [show ord x a = ⟨m, hmn⟩ from ha]
      have hak : a.val < k.val := by
        by_contra hc
        have h2 := ord_anti x (show (⟨k.val, by omega⟩ : Fin n) ≤ a from not_lt.mp hc)
        rw [hm'] at hk
        simp only [hD] at hk
        rw [EReal.neg_lt_neg_iff] at hk
        exact absurd hk (not_lt.mpr h2)
      exact ⟨⟨a.val, by omega⟩, hak, hm'⟩
    · rw [hD' m (not_lt.mp hmn)] at hk
      exact absurd hk (not_lt.mpr le_top)) j.val j.isLt
  rw [h1.1, h1.2]
  exact ⟨hD _, rfl⟩

end Cert.KernelIdeal.Row
-- ==== Proof.Dist.lean ====
/- The distances that the chunks see are the negated values that the reference orders. -/
module

public import proofs.«01_k».proof.Proof.Frames
public import proofs.«01_k».proof.Proof.Select
public import Idealize.ShloMosaic.Lib.KernelVsHost

@[expose] public section

set_option maxRecDepth 16384

noncomputable section

namespace Cert.KernelIdeal.Knn

open Idealize.ShloMosaic Idealize.ShloMosaic.TcCoe Idealize.ShloMosaic.Pointwise
open Cert.KernelIdeal Cert.KernelIdeal.Gen Cert.KernelIdeal.Row

theorem V2_v0 (m : (ℓ : Loc nD τ sig) → Buf (Elt Ideal) ℓ) (c : Dev nD) :
    V2 m c main_v0 = shapeCast S1024x512 (m ((c : Thread nD τ).loc main_arg1)) shapeCasts_S1024x8x64_S1024x512 := by
  rw [V2_of m c main_v0 (by decide)]
  show StableHlo.after hostOps0 (V0 m c) _ = _
  after_results
  rfl

theorem V2_v2 (m : (ℓ : Loc nD τ sig) → Buf (Elt Ideal) ℓ) (c : Dev nD) :
    V2 m c main_v2 = pad S64x102400 ![0, 0] ![0, 2400] ![0, 0] (transpose S64x100000 [1, 0] (m ((c : Thread nD τ).loc main_arg3)) transposes_S100000x64_S64x100000_1_0)
      (sitofp (F := Ideal) .f32 (constantI S_ 32 0#32)) pads_S64x100000_S64x102400_000_024000 h_S_ := by
  show StableHlo.after hostOps0_1 (StableHlo.after hostOps0 (V0 m c)) _ = _
  after_results
  rfl

theorem grid0_N : grid0.N = 25 := by decide
theorem idx0 : ∀ t : Fin grid0.N, cc0_transform_0 (grid0.coords t) 1 = 0 ∧ cc0_transform_0 (grid0.coords t) 0 = 0 := by decide
theorem idx1 : ∀ t : Fin grid0.N, cc0_transform_1 (grid0.coords t) 1 = t.val ∧ cc0_transform_1 (grid0.coords t) 0 = 0 := by decide

section
variable (V : (c : Dev nD) → (b : Ref sig .tc) → Buf (Elt Ideal) ((c : Thread nD τ).loc b)) (c : Dev nD) (t : Fin grid0.N)

theorem stgX_eq : stgX V c t = V c main_v0 := by
  funext x
  show V c main_v0 ((((cfg0 (F := Ideal)).win 0).blk t).view.emb x) = _
  refine congrArg _ (funext fun a => Fin.ext ?_)
  fin_cases a
  · show cc0_transform_0 (grid0.coords t) 0 * 1024 + 1 * (x 0).val = (x 0).val
    rw [(idx0 t).2]; omega
  · show cc0_transform_0 (grid0.coords t) 1 * 512 + 1 * (x 1).val = (x 1).val
    rw [(idx0 t).1]; omega

theorem stgK_eq (d : Fin 64) (j : Fin 4096) :
    stgK V c t (ix2 d j) = V c main_v2 (ix2 d ⟨4096 * t.val + j.val, by have h1 := t.isLt; have h2 := grid0_N; omega⟩) := by
  show V c main_v2 ((((cfg0 (F := Ideal)).win 1).blk t).view.emb (ix2 d j)) = _
  refine congrArg _ (funext fun a => Fin.ext ?_)
  fin_cases a
  · show cc0_transform_1 (grid0.coords t) 0 * 64 + 1 * d.val = d.val
    rw [(idx1 t).2]; omega
  · show cc0_transform_1 (grid0.coords t) 1 * 4096 + 1 * j.val = 4096 * t.val + j.val
    rw [(idx1 t).1]; omega
end

/-- The padded keys at a column that is a key's. -/
theorem pad_at (Y : Vec Ideal S100000x64 .f32) (z : FVec Ideal S_ .f32) (d : Fin 64) (n : ℕ) (hn : n < 100000) :
    pad S64x102400 ![0, 0] ![0, 2400] ![0, 0] (transpose S64x100000 [1, 0] Y transposes_S100000x64_S64x100000_1_0) z pads_S64x100000_S64x102400_000_024000 h_S_
      (ix2 d ⟨n, by omega⟩) = Y (ix2 ⟨n, hn⟩ d) := by
  rw [Idealize.ShloMosaic.pad_apply_of_inside _ _ _ _ _ _ _ _ (ix2 d (⟨n, hn⟩ : Fin 100000)) (fun a => by fin_cases a <;> simp [ix2])]
  pointwise []

theorem shape_at (X : Vec Ideal S1024x8x64 .f32) (r : Fin 1024) (t : Fin 8) (d : Fin 64) :
    shapeCast S1024x512 X shapeCasts_S1024x8x64_S1024x512 (ix2 r ⟨64 * t.val + d.val, by omega⟩) = X (ix3 r t d) := by
  pointwise []

theorem col_at (o : ℕ) (ho : ∀ a, (![0, o] : Fin 2 → Nat) a + S1024x64.size a ≤ S1024x512.size a) (ho' : o + 64 ≤ 512) (X : Vec Ideal S1024x512 .f32) (r : Fin 1024) (d : Fin 64) :
    colBlk o ho X (ix2 r d) = X (ix2 r ⟨o + d.val, by omega⟩) := by
  unfold colBlk
  refine congrArg X (funext fun a => Fin.ext ?_)
  fin_cases a
  · show 0 + 1 * r.val = r.val; omega
  · show o + 1 * d.val = o + d.val; omega

theorem slt_iff (t : ℕ) (ht : t < 25) (j : Fin 4096) :
    IntOp.cmpi CmpIPredicate.slt (BitVec.ofNat 32 j.val) (Scalar.subi (100000#32) (Scalar.muli (BitVec.ofNat 32 t) 4096#32)) = 1#1 ↔ 4096 * t + j.val < 100000 := by
  have h1 : Scalar.subi (100000#32) (Scalar.muli (BitVec.ofNat 32 t) 4096#32) = BitVec.ofNat 32 (100000 - 4096 * t) := by
    apply BitVec.eq_of_toNat_eq; simp [Scalar.subi, IntOp.subi, Scalar.muli, IntOp.muli]; omega
  have h2 : IntOp.cmpi CmpIPredicate.slt (BitVec.ofNat 32 j.val) (BitVec.ofNat 32 (100000 - 4096 * t)) = BitVec.ofBool (decide ((j.val : ℤ) < ((100000 - 4096 * t : ℕ) : ℤ))) := by
    rw [← toInt_small j.val (by omega), ← toInt_small (100000 - 4096 * t) (by omega)]; rfl
  rw [h1, h2]
  by_cases hc : (j.val : ℤ) < ((100000 - 4096 * t : ℕ) : ℤ)
  · simp [hc]; omega
  · simp [hc]; omega

theorem bits_eight : Ideal.ofBits FTy.f32 1090519040#32 = ((8 : ℝ) : EReal) := by
  simp [Ideal.ofBits, Ideal.ieee, -EReal.coe_mul]; norm_num
theorem bits_eighth : Ideal.ofBits FTy.f32 1040187392#32 = ((1 / 8 : ℝ) : EReal) := by
  simp [Ideal.ofBits, Ideal.ieee, -EReal.coe_mul]; norm_num

theorem eighth (x : EReal) : x * Ideal.ofBits FTy.f32 1040187392#32 = Ideal.div x (Ideal.ofBits FTy.f32 1090519040#32) := by
  rw [bits_eight, bits_eighth]
  unfold Ideal.div
  rw [if_neg (by simp), ← EReal.coe_inv]
  norm_num

end Cert.KernelIdeal.Knn
-- ==== Proof.Keys.lean ====
/- What the chunks keep, at the reference's distances. -/
module

public import proofs.«01_k».proof.Proof.Dist

@[expose] public section

set_option maxRecDepth 16384

noncomputable section

namespace Cert.KernelIdeal.Knn

open Idealize.ShloMosaic Idealize.ShloMosaic.TcCoe Idealize.ShloMosaic.Pointwise
open Cert.KernelIdeal Cert.KernelIdeal.Gen Cert.KernelIdeal.Row

/-- The mean of the eight streams, as the reference takes it. -/
def meanQ (A : Vec Ideal S1024x8x64 .f32) (r : Fin 1024) (d : Fin 64) : EReal :=
  Ideal.div (∑ x : Fin 8, A (ix3 r x d)) (Ideal.ofBits FTy.f32 1090519040#32)

/-- The value the reference orders: minus the squared distance of a row to a key. -/
def negD2 (A : Vec Ideal S1024x8x64 .f32) (K : Vec Ideal S100000x64 .f32) (r : Fin 1024) (n : Fin 100000) : EReal :=
  -(∑ x : Fin 64, meanQ A r x * meanQ A r x - Ideal.ofBits FTy.f32 1073741824#32 * ∑ x : Fin 64, meanQ A r x * K (ix2 n x) + ∑ x : Fin 64, K (ix2 n x) * K (ix2 n x))

/-- The distance of a row to a place of the padded keys. -/
def far (A : Vec Ideal S1024x8x64 .f32) (K : Vec Ideal S100000x64 .f32) (r : Fin 1024) (n : ℕ) : EReal :=
  if h : n < 100000 then -negD2 A K r ⟨n, h⟩ else ⊤

theorem q0_at (A : Vec Ideal S1024x8x64 .f32) (r : Fin 1024) (d : Fin 64) :
    q0 (shapeCast S1024x512 A shapeCasts_S1024x8x64_S1024x512) (ix2 r d) = meanQ A r d := by
  unfold q0 meanQ
  rw [← eighth, Fin.sum_univ_eight]
  have h (t : Fin 8) := shape_at A r t d
  rw [← h 0, ← h 1, ← h 2, ← h 3, ← h 4, ← h 5, ← h 6, ← h 7]
  generalize shapeCast S1024x512 A shapeCasts_S1024x8x64_S1024x512 = X
  have h2 (o : ℕ) (ho) (ho') := col_at o ho ho' X r d
  rw [show ∀ a b c d e f g h : FVec Ideal S1024x64 .f32, ∀ r j, k0_pay5 a b c d e f g h (ix2 r j) = (a (ix2 r j) + b (ix2 r j) + c (ix2 r j) + d (ix2 r j) + e (ix2 r j) + f (ix2 r j) + g (ix2 r j) + h (ix2 r j)) * Ideal.ofBits .f32 1040187392#32 from fun a b c d e f g h r j => by pointwise [k0_pay5, k0_pay4]]
  rw [h2 0 _ (by norm_num), h2 64 _ (by norm_num), h2 128 _ (by norm_num), h2 192 _ (by norm_num), h2 256 _ (by norm_num), h2 320 _ (by norm_num), h2 384 _ (by norm_num), h2 448 _ (by norm_num)]
  rfl

theorem pay6_at (a b c d e f g h : Vec Ideal S1024x64 .f32) (r : Fin 1024) :
    k0_pay6 a b c d e f g h (ix2 r 0) = ∑ x : Fin 64, k0_pay5 a b c d e f g h (ix2 r x) * k0_pay5 a b c d e f g h (ix2 r x) := by
  pointwise [k0_pay6, k0_pay5]

theorem qn0_at (A : Vec Ideal S1024x8x64 .f32) (r : Fin 1024) :
    qn0 (shapeCast S1024x512 A shapeCasts_S1024x8x64_S1024x512) (ix2 r 0) = ∑ x : Fin 64, meanQ A r x * meanQ A r x := by
  simp only [← q0_at]
  exact pay6_at _ _ _ _ _ _ _ _ r

theorem pay9_at (i : grid0.Coords) (q : Vec Ideal S1024x64 .f32) (K : Vec Ideal S64x4096 .f32) (n : Vec Ideal S1024x1 .f32) (r : Fin 1024) (j : Fin 4096) :
    k0_pay9 i q K n (ix2 r j) = if IntOp.cmpi .slt (BitVec.ofNat 32 j.val) (Scalar.subi 100000#32 (Scalar.muli (BitVec.ofNat 32 (i 0).val) 4096#32)) = 1#1 then
      n (ix2 r 0) - Ideal.ofBits .f32 1073741824#32 * ∑ x : Fin 64, q (ix2 r x) * K (ix2 x j) + ∑ x : Fin 64, K (ix2 x j) * K (ix2 x j) else ⊤ := by
  rw [← named_inf]
  pointwise [k0_pay9]
  rfl

theorem pay9_far (V : (c : Dev nD) → (b : Ref sig .tc) → Buf (Elt Ideal) ((c : Thread nD τ).loc b)) (c : Dev nD)
    (A : Vec Ideal S1024x8x64 .f32) (Y : Vec Ideal S100000x64 .f32) (z : FVec Ideal S_ .f32)
    (hv : V c main_v2 = pad S64x102400 ![0, 0] ![0, 2400] ![0, 0] (transpose S64x100000 [1, 0] Y transposes_S100000x64_S64x100000_1_0) z pads_S64x100000_S64x102400_000_024000 h_S_)
    (t : Fin grid0.N) (r : Fin 1024) (j : Fin 4096) :
    k0_pay9 (grid0.coords t) (q0 (shapeCast S1024x512 A shapeCasts_S1024x8x64_S1024x512)) (stgK V c t) (qn0 (shapeCast S1024x512 A shapeCasts_S1024x8x64_S1024x512)) (ix2 r j)
      = far A Y r (4096 * t.val + j.val) := by
  have ht : t.val < 25 := by have h1 := t.isLt; have h2 := grid0_N; omega
  rw [pay9_at, coords_val]
  by_cases hc : 4096 * t.val + j.val < 100000
  · rw [if_pos ((slt_iff t.val ht j).mpr hc)]
    unfold far
    rw [dif_pos hc]
    unfold negD2
    rw [neg_neg, qn0_at]
    have hk (x : Fin 64) : stgK V c t (ix2 x j) = Y (ix2 ⟨4096 * t.val + j.val, hc⟩ x) := by
      rw [stgK_eq, hv]; exact pad_at Y z x _ hc
    have hq : (∑ x : Fin 64, q0 (shapeCast S1024x512 A shapeCasts_S1024x8x64_S1024x512) (ix2 r x) * Y (ix2 ⟨4096 * t.val + j.val, hc⟩ x)) = ∑ x : Fin 64, meanQ A r x * Y (ix2 ⟨4096 * t.val + j.val, hc⟩ x) :=
      Finset.sum_congr rfl fun x _ => by rw [q0_at]
    simp only [hk]
    rw [hq]
  · rw [if_neg (fun h => hc ((slt_iff t.val ht j).mp h))]
    unfold far
    rw [dif_neg hc]

theorem far_top (A : Vec Ideal S1024x8x64 .f32) (Y : Vec Ideal S100000x64 .f32) (r : Fin 1024) (n : ℕ) (h : 100000 ≤ n) : far A Y r n = ⊤ := by
  unfold far; rw [dif_neg (by omega)]
theorem far_key (A : Vec Ideal S1024x8x64 .f32) (Y : Vec Ideal S100000x64 .f32) (r : Fin 1024) (n : Fin 100000) : far A Y r n.val = -negD2 A Y r n := by
  unfold far; rw [dif_pos n.isLt]

/-- The contents before the chunks. -/
abbrev Vk (m : (ℓ : Loc nD τ sig) → Buf (Elt Ideal) ℓ) (c : Dev nD) (b : Ref sig .tc) : Buf (Elt Ideal) ((c : Thread nD τ).loc b) := V2 m c b

/-- After the last chunk. -/
theorem keep_end (m : (ℓ : Loc nD τ sig) → Buf (Elt Ideal) ℓ) (c : Dev nD) :
    After (far (m ((c : Thread nD τ).loc main_arg1)) (m ((c : Thread nD τ).loc main_arg3))) 102400 (keepAt (Vk m) c 25).s := by
  have h := keep_after (D := far (m ((c : Thread nD τ).loc main_arg1)) (m ((c : Thread nD τ).loc main_arg3))) (Vk m) c
    (shapeCast S1024x512 (m ((c : Thread nD τ).loc main_arg1)) shapeCasts_S1024x8x64_S1024x512)
    (fun t => (stgX_eq (Vk m) c t).trans (V2_v0 m c)) (fun t r j => pay9_far (Vk m) c _ _ _ (V2_v2 m c) t r j) 24 (by rw [grid0_N]; norm_num)
  exact h.1

end Cert.KernelIdeal.Knn
-- ==== Proof.Top.lean ====
/- What the precondition says, and the reference's ordered values read at an index. -/
module

public import proofs.«01_k».proof.Proof.Keys
public import proofs.«01_k».proof.Proof.Gen.Pre_well_posed
public import proofs.«01_k».proof.Defs

@[expose] public section

set_option maxRecDepth 16384

noncomputable section

namespace Cert.Top

open Idealize.ShloMosaic Idealize.ShloMosaic.TcCoe Idealize.ShloMosaic.Pointwise
open Cert.KernelIdeal.Row Cert.KernelIdeal.Knn

/-- The place of the sorted order's `k`-th entry of a row. -/
abbrev rowOrd {n : ℕ} (x : (⟨2, ![1024, n]⟩ : Shape).Idx → EReal) (r : Fin 1024) (k : Fin n) : Fin n := ord (fun a : Fin n => x (ix2 r a)) k

theorem along_row {n : ℕ} (r : Fin 1024) (l k : Fin n) : (ix2 r l : (⟨2, ![1024, n]⟩ : Shape).Idx).along 1 k = ix2 r k := by
  funext a; fin_cases a <;> rfl

theorem sort2_row {n : ℕ} (x : (⟨2, ![1024, n]⟩ : Shape).Idx → EReal) (y : (⟨2, ![1024, n]⟩ : Shape).Idx → BitVec 32) (r : Fin 1024) (l : Fin n) :
    (Host.sort2 (⟨2, ![1024, n]⟩ : Shape) 1 (fun l r => FloatOps.cmpfTotal (F := Ideal) (φ := .f32) .gt l.1 r.1) x y).1 (ix2 r l) = x (ix2 r (rowOrd x r l))
    ∧ (Host.sort2 (⟨2, ![1024, n]⟩ : Shape) 1 (fun l r => FloatOps.cmpfTotal (F := Ideal) (φ := .f32) .gt l.1 r.1) x y).2 (ix2 r l) = y (ix2 r (rowOrd x r l)) := by
  unfold Host.sort2
  rw [dif_pos (show 1 < (⟨2, ![1024, n]⟩ : Shape).rank from Nat.one_lt_two)]
  have h (k : Fin n) : (ix2 r l : (⟨2, ![1024, n]⟩ : Shape).Idx).along (⟨1, Nat.one_lt_two⟩ : Fin 2) k = ix2 r k := along_row r l k
  constructor
  · refine Eq.trans (congrArg x (h _)) ?_
    refine congrArg x (congrArg (ix2 r) ?_)
    refine congrArg (fun f => sortedFrom f l) ?_
    funext a b
    exact congrArg₂ (fun u v => FloatOps.cmpfTotal (F := Ideal) (φ := .f32) .gt (x u) (x v) == 1#1) (h a) (h b)
  · refine Eq.trans (congrArg y (h _)) ?_
    refine congrArg y (congrArg (ix2 r) ?_)
    refine congrArg (fun f => sortedFrom f l) ?_
    funext a b
    exact congrArg₂ (fun u v => FloatOps.cmpfTotal (F := Ideal) (φ := .f32) .gt (x u) (x v) == 1#1) (h a) (h b)

theorem first_row {n t : ℕ} (h : (⟨2, ![1024, n]⟩ : Shape).Slices (fun _ => 0) ⟨2, ![1024, t]⟩) (r : Fin 1024) (k : Fin t) (hk : k.val < n) :
    (fun a : Fin 2 => (⟨0 + (ix2 r k (a.cast h.1.symm)).val, Nat.lt_of_lt_of_le (Nat.add_lt_add_left (ix2 r k _).isLt _) (h.2 a)⟩ : Fin ((⟨2, ![1024, n]⟩ : Shape).size a))) = (ix2 r ⟨k.val, hk⟩ : (⟨2, ![1024, n]⟩ : Shape).Idx) := by
  funext a; fin_cases a <;> exact Fin.ext (Nat.zero_add _)

theorem topK_fst {n t : ℕ} (x : (⟨2, ![1024, n]⟩ : Shape).Idx → EReal) (h) (r : Fin 1024) (k : Fin t) (hk : k.val < n) :
    (Host.topK (s := ⟨2, ![1024, n]⟩) ⟨2, ![1024, t]⟩ 1 (FloatOps.cmpfTotal (F := Ideal) (φ := .f32) .gt) x h).1 (ix2 r k) = x (ix2 r (rowOrd x r ⟨k.val, hk⟩)) := by
  rw [← (sort2_row x (fun i => if hd : 1 < (⟨2, ![1024, n]⟩ : Shape).rank then iotaInDim ⟨2, ![1024, n]⟩ 32 ⟨1, hd⟩ i else 0#32) r ⟨k.val, hk⟩).1, ← first_row h r k hk]
  rfl

theorem topK_snd {n t : ℕ} (x : (⟨2, ![1024, n]⟩ : Shape).Idx → EReal) (h) (r : Fin 1024) (k : Fin t) (hk : k.val < n) :
    (Host.topK (s := ⟨2, ![1024, n]⟩) ⟨2, ![1024, t]⟩ 1 (FloatOps.cmpfTotal (F := Ideal) (φ := .f32) .gt) x h).2 (ix2 r k) = BitVec.ofNat 32 (rowOrd x r ⟨k.val, hk⟩).val := by
  have e := (sort2_row x (fun i => if hd : 1 < (⟨2, ![1024, n]⟩ : Shape).rank then iotaInDim ⟨2, ![1024, n]⟩ 32 ⟨1, hd⟩ i else 0#32) r ⟨k.val, hk⟩).2
  refine Eq.trans ?_ (e.trans ?_)
  · rw [← first_row h r k hk]; rfl
  · rw [dif_pos Nat.one_lt_two]; rfl

/-! ## The precondition -/

section Pre
open Cert.Pre_well_posed
open Cert.Pre_well_posed.Facts

/-- The values the precondition orders. -/
def near (A : FVec Ideal S1024x8x64 .f32) (K : FVec Ideal S100000x64 .f32) : FVec Ideal S1024x100000 .f32 :=
  fun i => negD2 A K (i 0) (i 1)

theorem fn_reads (a0 : FVec Ideal S1024 .f32) (A : FVec Ideal S1024x8x64 .f32) (a2 : FVec Ideal S1024x8x17 .f32) (K : FVec Ideal S100000x64 .f32) (a4 : FVec Ideal S100000 .f32)
    (a5 : FVec Ideal S32x60 .f32) (a6 : FVec Ideal S32 .f32) (w : FVec Ideal S60x32 .f32) (b : FVec Ideal S60 .f32) (a9 : FVec Ideal S32x60 .f32) (a10 : FVec Ideal S32 .f32)
    (a11 : FVec Ideal S1x32 .f32) (a12 : FVec Ideal S1 .f32) (a13 : FVec Ideal S32x70 .f32) (a14 : FVec Ideal S32 .f32) (a15 : FVec Ideal S1x32 .f32) (a16 : FVec Ideal S1 .f32) :
    fn (F := Ideal) a0 A a2 K a4 a5 a6 w b a9 a10 a11 a12 a13 a14 a15 a16
      = fn_part1 (F := Ideal) w b (near A K) (Host.topK S1024x61 1 (FloatOps.cmpfTotal (F := Ideal) (φ := .f32) .gt) (near A K) sliceFits_S1024x100000_S1024x61).1 := by
  have h : ∀ v17, v17 = near A K → fn_part1 (F := Ideal) w b v17 (Host.topK S1024x61 1 (FloatOps.cmpfTotal (F := Ideal) (φ := .f32) .gt) v17 sliceFits_S1024x100000_S1024x61).1 = fn_part1 (F := Ideal) w b (near A K) (Host.topK S1024x61 1 (FloatOps.cmpfTotal (F := Ideal) (φ := .f32) .gt) (near A K) sliceFits_S1024x100000_S1024x61).1 := fun _ e => by rw [e]
  refine h _ ?_
  funext i
  obtain ⟨r, j, rfl⟩ : ∃ (r : Fin 1024) (j : Fin 100000), i = ix2 r j := ⟨i 0, i 1, by funext a; fin_cases a <;> rfl⟩
  pointwise [near, negD2, meanQ]

theorem part1_reads (w : FVec Ideal S60x32 .f32) (b : FVec Ideal S60 .f32) (x : FVec Ideal S1024x100000 .f32) (t : FVec Ideal S1024x61 .f32) (r : Fin 1024) (k : Fin 60) (j : Fin 32) :
    fn_part1 (F := Ideal) w b x t (ix3 r k j) = IntOp.andi
      (IntOp.andi (BitVec.ofBool (decide (t (ix2 r ⟨1 + k.val, by omega⟩) < t (ix2 r ⟨k.val, by omega⟩))))
        (BitVec.ofBool (decide (FloatOps.absf (F := Ideal) (φ := .f32) (b (ix1 k)) < Ideal.ofBits FTy.f32 0x7F800000#32))))
      (BitVec.ofBool (decide (FloatOps.absf (F := Ideal) (φ := .f32) (w (ix2 k j)) < Ideal.ofBits FTy.f32 0x7F800000#32))) := by
  unfold fn_part1
  pointwise []

theorem and3 (p q u : Prop) [Decidable p] [Decidable q] [Decidable u] (h : IntOp.andi (IntOp.andi (BitVec.ofBool (decide p)) (BitVec.ofBool (decide q))) (BitVec.ofBool (decide u)) = 1#1) : p ∧ q ∧ u := by
  by_cases hp : p <;> by_cases hq : q <;> by_cases hu : u <;> simp_all [IntOp.andi]

theorem finite_of (x : EReal) (h : FloatOps.absf (F := Ideal) (φ := .f32) x < Ideal.ofBits FTy.f32 0x7F800000#32) : x ≠ ⊤ ∧ x ≠ ⊥ := by
  rw [bits_top] at h
  constructor
  · rintro rfl; exact absurd h (by simp [FloatOps.absf])
  · rintro rfl; exact absurd h (by simp [FloatOps.absf])

theorem posed (m : (ℓ : Loc Cert.KernelIdeal.nD Cert.KernelIdeal.τ Cert.KernelIdeal.sig) → Buf (Elt Ideal) ℓ) (hp : Cert.Pre_KernelIdeal_well_posed m) (c : Dev Cert.KernelIdeal.nD)
    (r : Fin 1024) (k : Fin 60) (j : Fin 32) :
    let x := near (m ((c : Thread Cert.KernelIdeal.nD Cert.KernelIdeal.τ).loc Cert.KernelIdeal.main_arg1)) (m ((c : Thread Cert.KernelIdeal.nD Cert.KernelIdeal.τ).loc Cert.KernelIdeal.main_arg3))
    x (ix2 r (rowOrd x r ⟨k.val + 1, by omega⟩)) < x (ix2 r (rowOrd x r ⟨k.val, by omega⟩))
    ∧ (m ((c : Thread Cert.KernelIdeal.nD Cert.KernelIdeal.τ).loc Cert.KernelIdeal.main_arg8) (ix1 k) ≠ (⊤ : EReal) ∧ m ((c : Thread Cert.KernelIdeal.nD Cert.KernelIdeal.τ).loc Cert.KernelIdeal.main_arg8) (ix1 k) ≠ (⊥ : EReal))
    ∧ (m ((c : Thread Cert.KernelIdeal.nD Cert.KernelIdeal.τ).loc Cert.KernelIdeal.main_arg7) (ix2 k j) ≠ (⊤ : EReal) ∧ m ((c : Thread Cert.KernelIdeal.nD Cert.KernelIdeal.τ).loc Cert.KernelIdeal.main_arg7) (ix2 k j) ≠ (⊥ : EReal)) := by
  intro x
  have h := congrFun (hp c) (ix3 r k j)
  rw [fn_reads, part1_reads] at h
  have h3 := and3 _ _ _ h
  refine ⟨?_, finite_of _ h3.2.1, finite_of _ h3.2.2⟩
  have h1 := h3.1
  rw [topK_fst _ _ r ⟨1 + k.val, by omega⟩ (by show 1 + k.val < 100000; omega), topK_fst _ _ r ⟨k.val, by omega⟩ (by show k.val < 100000; omega)] at h1
  simp only [Nat.add_comm 1 k.val] at h1
  exact h1
end Pre

end Cert.Top
-- ==== Proof.Nb.lean ====
/- The neighbours the first kernel finds are the reference's. -/
module

public import proofs.«01_k».proof.Proof.Out
public import proofs.«01_k».proof.Proof.Top
public import Idealize.ShloMosaic.Lib.WordCmp

@[expose] public section

set_option maxRecDepth 16384

noncomputable section

namespace Cert.Net

open Idealize.ShloMosaic Idealize.ShloMosaic.TcCoe Idealize.ShloMosaic.Pointwise
open Cert.KernelIdeal Cert.KernelIdeal.Gen Cert.KernelIdeal.Row Cert.KernelIdeal.Knn Cert.Top

/-- The index of row `r`'s neighbour `j`. -/
def nb (A : FVec Ideal S1024x8x64 .f32) (K : FVec Ideal S100000x64 .f32) (r : Fin 1024) (j : Fin 60) : Fin 100000 :=
  rowOrd (near A K) r ⟨j.val, by omega⟩
/-- Its distance. -/
def dist (A : FVec Ideal S1024x8x64 .f32) (K : FVec Ideal S100000x64 .f32) (r : Fin 1024) (j : Fin 60) : EReal :=
  -near A K (ix2 r (nb A K r j))

theorem fptosi_e (n : ℕ) (hn : n < 100000) : Ideal.fptosi 32 (e n) = BitVec.ofNat 32 n := by
  have h : Ideal.toIntClamped (-(2 ^ (32 - 1) : Nat)) ((2 ^ (32 - 1) : Nat) - 1) (e n) = (n : ℤ) := by
    show max _ (min _ (if (0 : ℝ) ≤ (n : ℝ) then ⌊(n : ℝ)⌋ else ⌈(n : ℝ)⌉)) = _
    rw [if_pos (Nat.cast_nonneg n), Int.floor_natCast]
    omega
  unfold Ideal.fptosi
  rw [h, BitVec.ofInt_natCast]

/-! ## Words below a hundred thousand -/

theorem w_slt (n : ℕ) (h : n < 100000) : IntOp.cmpi .slt (BitVec.ofNat 32 n) 0#32 = 0#1 := by
  show BitVec.ofBool (decide ((BitVec.ofNat 32 n).toInt < (0#32).toInt)) = 0#1
  rw [toInt_small n (by omega), decide_eq_false (by simp)]
  rfl
theorem w_sge (n : ℕ) (h : n < 100000) : IntOp.cmpi .sge (BitVec.ofNat 32 n) 0#32 = 1#1 := by
  show BitVec.ofBool (decide ((0#32).toInt ≤ (BitVec.ofNat 32 n).toInt)) = 1#1
  rw [toInt_small n (by omega), decide_eq_true (by simp)]
  rfl
theorem w_sle (n : ℕ) (h : n < 100000) : IntOp.cmpi .sle (BitVec.ofNat 32 n) 99999#32 = 1#1 := by
  show BitVec.ofBool (decide ((BitVec.ofNat 32 n).toInt ≤ (BitVec.ofNat 32 99999).toInt)) = 1#1
  rw [toInt_small n (by omega), toInt_small 99999 (by omega), decide_eq_true (by omega)]
  rfl
theorem w_fix (n : ℕ) (h : n < 100000) (x : BitVec 32) : Scalar.select (IntOp.cmpi .slt (BitVec.ofNat 32 n) 0#32) x (BitVec.ofNat 32 n) = BitVec.ofNat 32 n := by
  rw [w_slt n h]; rfl

section
variable (m : (ℓ : Loc nD τ sig) → Buf (Elt Ideal) ℓ) (hp : Cert.Pre_KernelIdeal_well_posed m) (c : Dev nD)
include hp

theorem found (r : Fin 1024) (j : Fin 60) :
    outD (Vk m) c (ix2 r ⟨j.val, by omega⟩) = dist (m ((c : Thread nD τ).loc main_arg1)) (m ((c : Thread nD τ).loc main_arg3)) r j
    ∧ outI (Vk m) c (ix2 r ⟨j.val, by omega⟩) = BitVec.ofNat 32 (nb (m ((c : Thread nD τ).loc main_arg1)) (m ((c : Thread nD τ).loc main_arg3)) r j).val := by
  have h := (keep_end m c r).top (by norm_num : 61 ≤ 100000) (fun a => near (m ((c : Thread nD τ).loc main_arg1)) (m ((c : Thread nD τ).loc main_arg3)) (ix2 r a)) (by norm_num)
    (fun k => far_key _ _ r k) (fun k hk => far_top _ _ r k hk) (fun k => (posed m hp c r k 0).1) j
  rw [outD_eq, outI_eq]
  refine ⟨h.1, ?_⟩
  refine Eq.trans ?_ (fptosi_e _ (Fin.isLt _))
  exact congrArg (Ideal.fptosi 32) h.2

theorem wf_b (k : Fin 60) : m ((c : Thread nD τ).loc main_arg8) (ix1 k) ≠ (⊤ : EReal) ∧ m ((c : Thread nD τ).loc main_arg8) (ix1 k) ≠ (⊥ : EReal) := (posed m hp c 0 k 0).2.1
theorem wf_w (k : Fin 60) (j : Fin 32) : m ((c : Thread nD τ).loc main_arg7) (ix2 k j) ≠ (⊤ : EReal) ∧ m ((c : Thread nD τ).loc main_arg7) (ix2 k j) ≠ (⊥ : EReal) := (posed m hp c 0 k j).2.2
end

end Cert.Net
-- ==== Proof.Ops.lean ====
/- What the host stretches between the kernels leave for the second kernel. -/
module

public import proofs.«01_k».proof.Proof.Run
public import Idealize.ShloMosaic.Lib.Pointwise

@[expose] public section

set_option maxRecDepth 16384

noncomputable section

namespace Cert.KernelIdeal.Ops

open Idealize.ShloMosaic Idealize.ShloMosaic.TcCoe Idealize.ShloMosaic.Pointwise
open Cert.KernelIdeal Cert.KernelIdeal.Gen Cert.KernelIdeal.Run

section
variable (V : Valuation τ sig (Elt Ideal))

/-- Zero, as the paddings take it. -/
abbrev pz : FVec Ideal S_ .f32 := sitofp (F := Ideal) .f32 (constantI S_ 32 0#32)
/-- The scores at the neighbours' indices, an index outside reading the filler. -/
def taken (i : IVec S65536 32) (x : FVec Ideal S100000 .f32) : FVec Ideal S65536 .f32 :=
  let j : IVec S65536x1 32 := broadcastInDim S65536x1 ![0] bcast_S65536_S65536x1_0 (select (cmpi .slt i (broadcastInDim S65536 ![] bcast_S_S65536 (constantI S_ 32 0#32))) (addi i (broadcastInDim S65536 ![] bcast_S_S65536 (constantI S_ 32 100000#32))) i)
  select (Host.reduce IntOp.andi (andi (cmpi .sge j (broadcastInDim S65536x1 ![] bcast_S_S65536x1 (constantI S_ 32 0#32))) (cmpi .sle j (broadcastInDim S65536x1 ![0, 1] bcast_S1x1_S65536x1_0_1 (broadcastInDim S1x1 ![1] bcast_S1_S1x1_1 (constantI S1 32 99999#32))))) (constantI S_ 1 1#1) reducesTo_S65536x1_S65536_d1 h_S_)
    (Host.gather gather_S100000_S65536x1_S65536_n_0_n_n_0_1_1 x j) (broadcastInDim S65536 ![] bcast_S_S65536 (constant (F := Ideal) S_ .f32 0x7FC00000#32))
/-- A row of 32 stacked eight times. -/
abbrev tile32 (x : FVec Ideal S1x32 .f32) : FVec Ideal S8x32 .f32 := shapeCast S8x32 (broadcastInDim S8x1x1x32 ![0, 1, 2, 3] bcast_S1x1x1x32_S8x1x1x32_0_1_2_3 (shapeCast S1x1x1x32 x shapeCasts_S1x32_S1x1x1x32)) shapeCasts_S8x1x1x32_S8x32
abbrev tile64 (x : FVec Ideal S1x64 .f32) : FVec Ideal S8x64 .f32 := shapeCast S8x64 (broadcastInDim S8x1x1x64 ![0, 1, 2, 3] bcast_S1x1x1x64_S8x1x1x64_0_1_2_3 (shapeCast S1x1x1x64 x shapeCasts_S1x64_S1x1x1x64)) shapeCasts_S8x1x1x64_S8x64
abbrev tile1 (x : FVec Ideal S1x1 .f32) : FVec Ideal S8x1 .f32 := shapeCast S8x1 (broadcastInDim S8x1x1x1 ![0, 1, 2, 3] bcast_S1x1x1x1_S8x1x1x1_0_1_2_3 (shapeCast S1x1x1x1 x shapeCasts_S1x1_S1x1x1x1)) shapeCasts_S8x1x1x1_S8x1

theorem st_v4 : (StableHlo.after hostOps1 V) main_v4 = shapeCast S65536 (V main_v3_1) shapeCasts_S1024x64_S65536 := by
  after_results
  all_goals rfl

theorem st_v5 : (StableHlo.after hostOps1_1 V) main_v5 = taken (V main_v4) (V main_arg4) := by
  after_results
  unfold taken
  simp only [StableHlo.TRef.ofBuf, StableHlo.TRef.toBuf, cast_cast, cast_eq]

theorem st_v6 : (StableHlo.after hostOps1_2 V) main_v6 = shapeCast S1024x64 (V main_v5) shapeCasts_S65536_S1024x64 := by
  after_results
  all_goals rfl

theorem st_v8 : (StableHlo.after hostOps1_3 (StableHlo.after hostOps1_2 V)) main_v8 = pad S64x32 ![0, 0] ![4, 0] ![0, 0] (transpose S60x32 [1, 0] (V main_arg5) transposes_S32x60_S60x32_1_0) pz pads_S60x32_S64x32_040_000 h_S_ := by
  after_results
  all_goals rfl

theorem st_v10 : (StableHlo.after hostOps1_5 (StableHlo.after hostOps1_4 V)) main_v10 = pad S32x64 ![0, 0] ![0, 4] ![0, 0] (transpose S32x60 [1, 0] (V main_arg7) transposes_S60x32_S32x60_1_0) pz pads_S32x60_S32x64_000_040 h_S_ := by
  after_results
  all_goals rfl

theorem st_v11 : (StableHlo.after hostOps1_7 (StableHlo.after hostOps1_6 V)) main_v11 = pad S64 ![0] ![4] ![0] (V main_arg8) pz pads_S60_S64_040 h_S_ := by
  after_results
  all_goals rfl

theorem st_v13 : (StableHlo.after hostOps1_9 (StableHlo.after hostOps1_8 V)) main_v13 = pad S64x32 ![0, 0] ![4, 0] ![0, 0] (transpose S60x32 [1, 0] (V main_arg9) transposes_S32x60_S60x32_1_0) pz pads_S60x32_S64x32_040_000 h_S_ := by
  after_results
  all_goals rfl

theorem st_v16 : (StableHlo.after hostOps1_11 (StableHlo.after hostOps1_10 V)) main_v16 = pad S64x32 ![0, 0] ![4, 0] ![0, 0] (transpose S60x32 [1, 0] (extractStridedSlice S32x60 ![0, 10] (V main_arg13) slices_S32x70_S32x60_0_10) transposes_S32x60_S60x32_1_0) pz pads_S60x32_S64x32_040_000 h_S_ := by
  after_results
  all_goals rfl

theorem st_v18 : (StableHlo.after hostOps1_12 V) main_v18 = transpose S8x32 [1, 0] (extractStridedSlice S32x8 ![0, 2] (V main_arg13) slices_S32x70_S32x8_0_2) transposes_S32x8_S8x32_1_0 := by
  after_results
  all_goals rfl

theorem st_v22 : (StableHlo.after hostOps1_12 V) main_v22 = tile32 (shapeCast S1x32 (V main_arg6) shapeCasts_S32_S1x32) := by
  after_results
  all_goals rfl

theorem st_v26 : (StableHlo.after hostOps1_12 V) main_v26 = tile64 (shapeCast S1x64 (V main_v11) shapeCasts_S64_S1x64) := by
  after_results
  all_goals rfl

theorem st_v30 : (StableHlo.after hostOps1_12 V) main_v30 = tile32 (shapeCast S1x32 (V main_arg10) shapeCasts_S32_S1x32) := by
  after_results
  all_goals rfl

theorem st_v33 : (StableHlo.after hostOps1_12 V) main_v33 = tile32 (V main_arg11) := by
  after_results
  all_goals rfl

theorem st_v37 : (StableHlo.after hostOps1_12 V) main_v37 = tile1 (shapeCast S1x1 (V main_arg12) shapeCasts_S1_S1x1) := by
  after_results
  all_goals rfl

theorem st_v43 : (StableHlo.after hostOps1_12 V) main_v43 = tile32 (shapeCast S1x32 (shapeCast S32 (extractStridedSlice S32x1 ![0, 0] (V main_arg13) slices_S32x70_S32x1_0_0) shapeCasts_S32x1_S32) shapeCasts_S32_S1x32) := by
  after_results
  all_goals rfl

theorem st_v49 : (StableHlo.after hostOps1_12 V) main_v49 = tile32 (shapeCast S1x32 (shapeCast S32 (extractStridedSlice S32x1 ![0, 1] (V main_arg13) slices_S32x70_S32x1_0_1) shapeCasts_S32x1_S32) shapeCasts_S32_S1x32) := by
  after_results
  all_goals rfl

theorem st_v53 : (StableHlo.after hostOps1_12 V) main_v53 = tile32 (shapeCast S1x32 (V main_arg14) shapeCasts_S32_S1x32) := by
  after_results
  all_goals rfl

theorem st_v56 : (StableHlo.after hostOps1_12 V) main_v56 = tile32 (V main_arg15) := by
  after_results
  all_goals rfl

theorem st_v60 : (StableHlo.after hostOps1_12 V) main_v60 = tile1 (shapeCast S1x1 (V main_arg16) shapeCasts_S1_S1x1) := by
  after_results
  all_goals rfl

theorem st_v61 : (StableHlo.after hostOps1_12 V) main_v61 = shapeCast S1024x1 (V main_arg0) shapeCasts_S1024_S1024x1 := by
  after_results
  all_goals rfl

theorem st_v62 : (StableHlo.after hostOps1_12 V) main_v62 = shapeCast S1024x136 (V main_arg2) shapeCasts_S1024x8x17_S1024x136 := by
  after_results
  all_goals rfl

theorem st_v64 : (StableHlo.after hostOps2 V) main_v64 = shapeCast S1024 (V main_v63_1) shapeCasts_S1024x1_S1024 := by
  after_results
  all_goals rfl

theorem st_v65 : (StableHlo.after hostOps2 V) main_v65 = shapeCast S1024 (V main_v63_2) shapeCasts_S1024x1_S1024 := by
  after_results
  all_goals rfl

theorem st_v66 : (StableHlo.after hostOps2 V) main_v66 = shapeCast S1024 (V main_v63_3) shapeCasts_S1024x1_S1024 := by
  after_results
  all_goals rfl

end

section
variable (m : (ℓ : Loc nD τ sig) → Buf (Elt Ideal) ℓ) (o : Outs (F := Ideal)) (c : Dev nD)
/-- An argument of the launch. -/
abbrev arg (r : Ref sig .tc) : Buf (Elt Ideal) ((c : Thread nD τ).loc r) := m ((c : Thread nD τ).loc r)

theorem V4_v4 : V4 m o c main_v4 = shapeCast S65536 (V3 m o c main_v3_1) shapeCasts_S1024x64_S65536 := by
  refine (st_v4 (V3 m o c)).trans ?_
  rfl

theorem V4_arg4 : V4 m o c main_arg4 = arg m c main_arg4 := by
  rw [V4_of m o c _ (by decide), V3_of m o c _ (by decide), V2_of m c _ (by decide), V1_of m c _ (by decide)]

theorem V5_v5 : V5 m o c main_v5 = taken (shapeCast S65536 (V3 m o c main_v3_1) shapeCasts_S1024x64_S65536) (arg m c main_arg4) := by
  refine (st_v5 (V4 m o c)).trans ?_
  rw [V4_v4]
  rw [V4_arg4]

theorem V6_v6 : V6 m o c main_v6 = shapeCast S1024x64 (taken (shapeCast S65536 (V3 m o c main_v3_1) shapeCasts_S1024x64_S65536) (arg m c main_arg4)) shapeCasts_S65536_S1024x64 := by
  refine (st_v6 (V5 m o c)).trans ?_
  rw [V5_v5]

theorem V16_v6 : V16 m o c main_v6 = shapeCast S1024x64 (taken (shapeCast S65536 (V3 m o c main_v3_1) shapeCasts_S1024x64_S65536) (arg m c main_arg4)) shapeCasts_S65536_S1024x64 := by
  rw [V16_of m o c _ (by decide), V15_of m o c _ (by decide), V14_of m o c _ (by decide), V13_of m o c _ (by decide), V12_of m o c _ (by decide), V11_of m o c _ (by decide), V10_of m o c _ (by decide), V9_of m o c _ (by decide), V8_of m o c _ (by decide), V7_of m o c _ (by decide), V6_v6]

theorem V15_arg0 : V15 m o c main_arg0 = arg m c main_arg0 := by
  rw [V15_of m o c _ (by decide), V14_of m o c _ (by decide), V13_of m o c _ (by decide), V12_of m o c _ (by decide), V11_of m o c _ (by decide), V10_of m o c _ (by decide), V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V16_v61 : V16 m o c main_v61 = shapeCast S1024x1 (arg m c main_arg0) shapeCasts_S1024_S1024x1 := by
  refine (st_v61 (V15 m o c)).trans ?_
  rw [V15_arg0]

theorem V15_arg2 : V15 m o c main_arg2 = arg m c main_arg2 := by
  rw [V15_of m o c _ (by decide), V14_of m o c _ (by decide), V13_of m o c _ (by decide), V12_of m o c _ (by decide), V11_of m o c _ (by decide), V10_of m o c _ (by decide), V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V16_v62 : V16 m o c main_v62 = shapeCast S1024x136 (arg m c main_arg2) shapeCasts_S1024x8x17_S1024x136 := by
  refine (st_v62 (V15 m o c)).trans ?_
  rw [V15_arg2]

theorem V5_arg5 : V5 m o c main_arg5 = arg m c main_arg5 := by
  rw [V5_of m o c _ (by decide), V4_of m o c _ (by decide), V3_of m o c _ (by decide), V2_of m c _ (by decide), V1_of m c _ (by decide)]

theorem V7_v8 : V7 m o c main_v8 = pad S64x32 ![0, 0] ![4, 0] ![0, 0] (transpose S60x32 [1, 0] (arg m c main_arg5) transposes_S32x60_S60x32_1_0) pz pads_S60x32_S64x32_040_000 h_S_ := by
  refine (st_v8 (V5 m o c)).trans ?_
  rw [V5_arg5]

theorem V16_v8 : V16 m o c main_v8 = pad S64x32 ![0, 0] ![4, 0] ![0, 0] (transpose S60x32 [1, 0] (arg m c main_arg5) transposes_S32x60_S60x32_1_0) pz pads_S60x32_S64x32_040_000 h_S_ := by
  rw [V16_of m o c _ (by decide), V15_of m o c _ (by decide), V14_of m o c _ (by decide), V13_of m o c _ (by decide), V12_of m o c _ (by decide), V11_of m o c _ (by decide), V10_of m o c _ (by decide), V9_of m o c _ (by decide), V8_of m o c _ (by decide), V7_v8]

theorem V15_arg6 : V15 m o c main_arg6 = arg m c main_arg6 := by
  rw [V15_of m o c _ (by decide), V14_of m o c _ (by decide), V13_of m o c _ (by decide), V12_of m o c _ (by decide), V11_of m o c _ (by decide), V10_of m o c _ (by decide), V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V16_v22 : V16 m o c main_v22 = tile32 (shapeCast S1x32 (arg m c main_arg6) shapeCasts_S32_S1x32) := by
  refine (st_v22 (V15 m o c)).trans ?_
  rw [V15_arg6]

theorem V7_arg7 : V7 m o c main_arg7 = arg m c main_arg7 := by
  rw [V7_of m o c _ (by decide), V6_of m o c _ (by decide), V5_of m o c _ (by decide), V4_of m o c _ (by decide), V3_of m o c _ (by decide), V2_of m c _ (by decide), V1_of m c _ (by decide)]

theorem V9_v10 : V9 m o c main_v10 = pad S32x64 ![0, 0] ![0, 4] ![0, 0] (transpose S32x60 [1, 0] (arg m c main_arg7) transposes_S60x32_S32x60_1_0) pz pads_S32x60_S32x64_000_040 h_S_ := by
  refine (st_v10 (V7 m o c)).trans ?_
  rw [V7_arg7]

theorem V16_v10 : V16 m o c main_v10 = pad S32x64 ![0, 0] ![0, 4] ![0, 0] (transpose S32x60 [1, 0] (arg m c main_arg7) transposes_S60x32_S32x60_1_0) pz pads_S32x60_S32x64_000_040 h_S_ := by
  rw [V16_of m o c _ (by decide), V15_of m o c _ (by decide), V14_of m o c _ (by decide), V13_of m o c _ (by decide), V12_of m o c _ (by decide), V11_of m o c _ (by decide), V10_of m o c _ (by decide), V9_v10]

theorem V9_arg8 : V9 m o c main_arg8 = arg m c main_arg8 := by
  rw [V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V11_v11 : V11 m o c main_v11 = pad S64 ![0] ![4] ![0] (arg m c main_arg8) pz pads_S60_S64_040 h_S_ := by
  refine (st_v11 (V9 m o c)).trans ?_
  rw [V9_arg8]

theorem V15_v11 : V15 m o c main_v11 = pad S64 ![0] ![4] ![0] (arg m c main_arg8) pz pads_S60_S64_040 h_S_ := by
  rw [V15_of m o c _ (by decide), V14_of m o c _ (by decide), V13_of m o c _ (by decide), V12_of m o c _ (by decide), V11_v11]

theorem V16_v26 : V16 m o c main_v26 = tile64 (shapeCast S1x64 (pad S64 ![0] ![4] ![0] (arg m c main_arg8) pz pads_S60_S64_040 h_S_) shapeCasts_S64_S1x64) := by
  refine (st_v26 (V15 m o c)).trans ?_
  rw [V15_v11]

theorem V11_arg9 : V11 m o c main_arg9 = arg m c main_arg9 := by
  rw [V11_of m o c _ (by decide), V10_of m o c _ (by decide), V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V13_v13 : V13 m o c main_v13 = pad S64x32 ![0, 0] ![4, 0] ![0, 0] (transpose S60x32 [1, 0] (arg m c main_arg9) transposes_S32x60_S60x32_1_0) pz pads_S60x32_S64x32_040_000 h_S_ := by
  refine (st_v13 (V11 m o c)).trans ?_
  rw [V11_arg9]

theorem V16_v13 : V16 m o c main_v13 = pad S64x32 ![0, 0] ![4, 0] ![0, 0] (transpose S60x32 [1, 0] (arg m c main_arg9) transposes_S32x60_S60x32_1_0) pz pads_S60x32_S64x32_040_000 h_S_ := by
  rw [V16_of m o c _ (by decide), V15_of m o c _ (by decide), V14_of m o c _ (by decide), V13_v13]

theorem V15_arg10 : V15 m o c main_arg10 = arg m c main_arg10 := by
  rw [V15_of m o c _ (by decide), V14_of m o c _ (by decide), V13_of m o c _ (by decide), V12_of m o c _ (by decide), V11_of m o c _ (by decide), V10_of m o c _ (by decide), V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V16_v30 : V16 m o c main_v30 = tile32 (shapeCast S1x32 (arg m c main_arg10) shapeCasts_S32_S1x32) := by
  refine (st_v30 (V15 m o c)).trans ?_
  rw [V15_arg10]

theorem V15_arg11 : V15 m o c main_arg11 = arg m c main_arg11 := by
  rw [V15_of m o c _ (by decide), V14_of m o c _ (by decide), V13_of m o c _ (by decide), V12_of m o c _ (by decide), V11_of m o c _ (by decide), V10_of m o c _ (by decide), V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V16_v33 : V16 m o c main_v33 = tile32 (arg m c main_arg11) := by
  refine (st_v33 (V15 m o c)).trans ?_
  rw [V15_arg11]

theorem V15_arg12 : V15 m o c main_arg12 = arg m c main_arg12 := by
  rw [V15_of m o c _ (by decide), V14_of m o c _ (by decide), V13_of m o c _ (by decide), V12_of m o c _ (by decide), V11_of m o c _ (by decide), V10_of m o c _ (by decide), V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V16_v37 : V16 m o c main_v37 = tile1 (shapeCast S1x1 (arg m c main_arg12) shapeCasts_S1_S1x1) := by
  refine (st_v37 (V15 m o c)).trans ?_
  rw [V15_arg12]

theorem V13_arg13 : V13 m o c main_arg13 = arg m c main_arg13 := by
  rw [V13_of m o c _ (by decide), V12_of m o c _ (by decide), V11_of m o c _ (by decide), V10_of m o c _ (by decide), V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V15_v16 : V15 m o c main_v16 = pad S64x32 ![0, 0] ![4, 0] ![0, 0] (transpose S60x32 [1, 0] (extractStridedSlice S32x60 ![0, 10] (arg m c main_arg13) slices_S32x70_S32x60_0_10) transposes_S32x60_S60x32_1_0) pz pads_S60x32_S64x32_040_000 h_S_ := by
  refine (st_v16 (V13 m o c)).trans ?_
  rw [V13_arg13]

theorem V16_v16 : V16 m o c main_v16 = pad S64x32 ![0, 0] ![4, 0] ![0, 0] (transpose S60x32 [1, 0] (extractStridedSlice S32x60 ![0, 10] (arg m c main_arg13) slices_S32x70_S32x60_0_10) transposes_S32x60_S60x32_1_0) pz pads_S60x32_S64x32_040_000 h_S_ := by
  rw [V16_of m o c _ (by decide), V15_v16]

theorem V15_arg13 : V15 m o c main_arg13 = arg m c main_arg13 := by
  rw [V15_of m o c _ (by decide), V14_of m o c _ (by decide), V13_of m o c _ (by decide), V12_of m o c _ (by decide), V11_of m o c _ (by decide), V10_of m o c _ (by decide), V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V16_v43 : V16 m o c main_v43 = tile32 (shapeCast S1x32 (shapeCast S32 (extractStridedSlice S32x1 ![0, 0] (arg m c main_arg13) slices_S32x70_S32x1_0_0) shapeCasts_S32x1_S32) shapeCasts_S32_S1x32) := by
  refine (st_v43 (V15 m o c)).trans ?_
  rw [V15_arg13]

theorem V16_v49 : V16 m o c main_v49 = tile32 (shapeCast S1x32 (shapeCast S32 (extractStridedSlice S32x1 ![0, 1] (arg m c main_arg13) slices_S32x70_S32x1_0_1) shapeCasts_S32x1_S32) shapeCasts_S32_S1x32) := by
  refine (st_v49 (V15 m o c)).trans ?_
  rw [V15_arg13]

theorem V16_v18 : V16 m o c main_v18 = transpose S8x32 [1, 0] (extractStridedSlice S32x8 ![0, 2] (arg m c main_arg13) slices_S32x70_S32x8_0_2) transposes_S32x8_S8x32_1_0 := by
  refine (st_v18 (V15 m o c)).trans ?_
  rw [V15_arg13]

theorem V15_arg14 : V15 m o c main_arg14 = arg m c main_arg14 := by
  rw [V15_of m o c _ (by decide), V14_of m o c _ (by decide), V13_of m o c _ (by decide), V12_of m o c _ (by decide), V11_of m o c _ (by decide), V10_of m o c _ (by decide), V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V16_v53 : V16 m o c main_v53 = tile32 (shapeCast S1x32 (arg m c main_arg14) shapeCasts_S32_S1x32) := by
  refine (st_v53 (V15 m o c)).trans ?_
  rw [V15_arg14]

theorem V15_arg15 : V15 m o c main_arg15 = arg m c main_arg15 := by
  rw [V15_of m o c _ (by decide), V14_of m o c _ (by decide), V13_of m o c _ (by decide), V12_of m o c _ (by decide), V11_of m o c _ (by decide), V10_of m o c _ (by decide), V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V16_v56 : V16 m o c main_v56 = tile32 (arg m c main_arg15) := by
  refine (st_v56 (V15 m o c)).trans ?_
  rw [V15_arg15]

theorem V15_arg16 : V15 m o c main_arg16 = arg m c main_arg16 := by
  rw [V15_of m o c _ (by decide), V14_of m o c _ (by decide), V13_of m o c _ (by decide), V12_of m o c _ (by decide), V11_of m o c _ (by decide), V10_of m o c _ (by decide), V9_of m o c _ (by decide), V8_of m o c _ (by decide), V7_of m o c _ (by decide), V6_of m o c _ (by decide), V5_of m o c _ (by decide), V4_of m o c _ (by decide), V3_of m o c _ (by decide), V2_of m c _ (by decide), V1_of m c _ (by decide)]

theorem V16_v60 : V16 m o c main_v60 = tile1 (shapeCast S1x1 (arg m c main_arg16) shapeCasts_S1_S1x1) := by
  refine (st_v60 (V15 m o c)).trans ?_
  rw [V15_arg16]

theorem V18_v64 : V18 m o c main_v64 = shapeCast S1024 (V17 m o c main_v63_1) shapeCasts_S1024x1_S1024 := by
  refine (st_v64 (V17 m o c)).trans ?_
  rfl

theorem V18_v65 : V18 m o c main_v65 = shapeCast S1024 (V17 m o c main_v63_2) shapeCasts_S1024x1_S1024 := by
  refine (st_v65 (V17 m o c)).trans ?_
  rfl

theorem V18_v66 : V18 m o c main_v66 = shapeCast S1024 (V17 m o c main_v63_3) shapeCasts_S1024x1_S1024 := by
  refine (st_v66 (V17 m o c)).trans ?_
  rfl

theorem V16_v3_0 : V16 m o c main_v3_0 = V3 m o c main_v3_0 := by
  rw [V16_of m o c _ (by decide), V15_of m o c _ (by decide), V14_of m o c _ (by decide), V13_of m o c _ (by decide), V12_of m o c _ (by decide), V11_of m o c _ (by decide), V10_of m o c _ (by decide), V9_of m o c _ (by decide), V8_of m o c _ (by decide), V7_of m o c _ (by decide), V6_of m o c _ (by decide), V5_of m o c _ (by decide), V4_of m o c _ (by decide)]

end

end Cert.KernelIdeal.Ops
-- ==== Proof.HeadIn.lean ====
/- The second kernel's operands and results as whole arrays. -/
module

public import proofs.«01_k».proof.Proof.Run
public import Idealize.ShloMosaic.Lib.Pointwise

@[expose] public section

set_option maxRecDepth 16384

noncomputable section

namespace Cert.KernelIdeal.Head

open Idealize.ShloMosaic Idealize.ShloMosaic.TcCoe Idealize.ShloMosaic.Pointwise
open Cert.KernelIdeal Cert.KernelIdeal.Gen

variable {F : FTy → Type} [FloatOps F] [Named F]
variable (V : (c : Dev nD) → (b : Ref sig .tc) → Buf (Elt F) ((c : Thread nD τ).loc b)) (c : Dev nD)

theorem ins_0 : (ins V c).x0 = V c main_v3_0 := by
  funext x
  show V c main_v3_0 ((((cfg1 (F := F)).win 0).blk t1_0).view.emb x) = _
  refine congrArg _ (funext fun a => Fin.ext ?_)
  fin_cases a
  · show 0 * 1024 + 1 * (x 0).val = (x 0).val
    omega
  · show 0 * 64 + 1 * (x 1).val = (x 1).val
    omega

theorem ins_1 : (ins V c).x1 = V c main_v6 := by
  funext x
  show V c main_v6 ((((cfg1 (F := F)).win 1).blk t1_0).view.emb x) = _
  refine congrArg _ (funext fun a => Fin.ext ?_)
  fin_cases a
  · show 0 * 1024 + 1 * (x 0).val = (x 0).val
    omega
  · show 0 * 64 + 1 * (x 1).val = (x 1).val
    omega

theorem ins_2 : (ins V c).x2 = V c main_v61 := by
  funext x
  show V c main_v61 ((((cfg1 (F := F)).win 2).blk t1_0).view.emb x) = _
  refine congrArg _ (funext fun a => Fin.ext ?_)
  fin_cases a
  · show 0 * 1024 + 1 * (x 0).val = (x 0).val
    omega
  · show 0 * 1 + 1 * (x 1).val = (x 1).val
    omega

theorem ins_3 : (ins V c).x3 = V c main_v62 := by
  funext x
  show V c main_v62 ((((cfg1 (F := F)).win 3).blk t1_0).view.emb x) = _
  refine congrArg _ (funext fun a => Fin.ext ?_)
  fin_cases a
  · show 0 * 1024 + 1 * (x 0).val = (x 0).val
    omega
  · show 0 * 136 + 1 * (x 1).val = (x 1).val
    omega

theorem ins_4 : (ins V c).x4 = V c main_v8 := by
  funext x
  show V c main_v8 ((((cfg1 (F := F)).win 4).blk t1_0).view.emb x) = _
  refine congrArg _ (funext fun a => Fin.ext ?_)
  fin_cases a
  · show 0 * 64 + 1 * (x 0).val = (x 0).val
    omega
  · show 0 * 32 + 1 * (x 1).val = (x 1).val
    omega

theorem ins_5 : (ins V c).x5 = V c main_v22 := by
  funext x
  show V c main_v22 ((((cfg1 (F := F)).win 5).blk t1_0).view.emb x) = _
  refine congrArg _ (funext fun a => Fin.ext ?_)
  fin_cases a
  · show 0 * 8 + 1 * (x 0).val = (x 0).val
    omega
  · show 0 * 32 + 1 * (x 1).val = (x 1).val
    omega

theorem ins_6 : (ins V c).x6 = V c main_v10 := by
  funext x
  show V c main_v10 ((((cfg1 (F := F)).win 6).blk t1_0).view.emb x) = _
  refine congrArg _ (funext fun a => Fin.ext ?_)
  fin_cases a
  · show 0 * 32 + 1 * (x 0).val = (x 0).val
    omega
  · show 0 * 64 + 1 * (x 1).val = (x 1).val
    omega

theorem ins_7 : (ins V c).x7 = V c main_v26 := by
  funext x
  show V c main_v26 ((((cfg1 (F := F)).win 7).blk t1_0).view.emb x) = _
  refine congrArg _ (funext fun a => Fin.ext ?_)
  fin_cases a
  · show 0 * 8 + 1 * (x 0).val = (x 0).val
    omega
  · show 0 * 64 + 1 * (x 1).val = (x 1).val
    omega

theorem ins_8 : (ins V c).x8 = V c main_v13 := by
  funext x
  show V c main_v13 ((((cfg1 (F := F)).win 8).blk t1_0).view.emb x) = _
  refine congrArg _ (funext fun a => Fin.ext ?_)
  fin_cases a
  · show 0 * 64 + 1 * (x 0).val = (x 0).val
    omega
  · show 0 * 32 + 1 * (x 1).val = (x 1).val
    omega

theorem ins_9 : (ins V c).x9 = V c main_v30 := by
  funext x
  show V c main_v30 ((((cfg1 (F := F)).win 9).blk t1_0).view.emb x) = _
  refine congrArg _ (funext fun a => Fin.ext ?_)
  fin_cases a
  · show 0 * 8 + 1 * (x 0).val = (x 0).val
    omega
  · show 0 * 32 + 1 * (x 1).val = (x 1).val
    omega

theorem ins_10 : (ins V c).x10 = V c main_v33 := by
  funext x
  show V c main_v33 ((((cfg1 (F := F)).win 10).blk t1_0).view.emb x) = _
  refine congrArg _ (funext fun a => Fin.ext ?_)
  fin_cases a
  · show 0 * 8 + 1 * (x 0).val = (x 0).val
    omega
  · show 0 * 32 + 1 * (x 1).val = (x 1).val
    omega

theorem ins_11 : (ins V c).x11 = V c main_v37 := by
  funext x
  show V c main_v37 ((((cfg1 (F := F)).win 11).blk t1_0).view.emb x) = _
  refine congrArg _ (funext fun a => Fin.ext ?_)
  fin_cases a
  · show 0 * 8 + 1 * (x 0).val = (x 0).val
    omega
  · show 0 * 1 + 1 * (x 1).val = (x 1).val
    omega

theorem ins_12 : (ins V c).x12 = V c main_v16 := by
  funext x
  show V c main_v16 ((((cfg1 (F := F)).win 12).blk t1_0).view.emb x) = _
  refine congrArg _ (funext fun a => Fin.ext ?_)
  fin_cases a
  · show 0 * 64 + 1 * (x 0).val = (x 0).val
    omega
  · show 0 * 32 + 1 * (x 1).val = (x 1).val
    omega

theorem ins_13 : (ins V c).x13 = V c main_v43 := by
  funext x
  show V c main_v43 ((((cfg1 (F := F)).win 13).blk t1_0).view.emb x) = _
  refine congrArg _ (funext fun a => Fin.ext ?_)
  fin_cases a
  · show 0 * 8 + 1 * (x 0).val = (x 0).val
    omega
  · show 0 * 32 + 1 * (x 1).val = (x 1).val
    omega

theorem ins_14 : (ins V c).x14 = V c main_v49 := by
  funext x
  show V c main_v49 ((((cfg1 (F := F)).win 14).blk t1_0).view.emb x) = _
  refine congrArg _ (funext fun a => Fin.ext ?_)
  fin_cases a
  · show 0 * 8 + 1 * (x 0).val = (x 0).val
    omega
  · show 0 * 32 + 1 * (x 1).val = (x 1).val
    omega

theorem ins_15 : (ins V c).x15 = V c main_v18 := by
  funext x
  show V c main_v18 ((((cfg1 (F := F)).win 15).blk t1_0).view.emb x) = _
  refine congrArg _ (funext fun a => Fin.ext ?_)
  fin_cases a
  · show 0 * 8 + 1 * (x 0).val = (x 0).val
    omega
  · show 0 * 32 + 1 * (x 1).val = (x 1).val
    omega

theorem ins_16 : (ins V c).x16 = V c main_v53 := by
  funext x
  show V c main_v53 ((((cfg1 (F := F)).win 16).blk t1_0).view.emb x) = _
  refine congrArg _ (funext fun a => Fin.ext ?_)
  fin_cases a
  · show 0 * 8 + 1 * (x 0).val = (x 0).val
    omega
  · show 0 * 32 + 1 * (x 1).val = (x 1).val
    omega

theorem ins_17 : (ins V c).x17 = V c main_v56 := by
  funext x
  show V c main_v56 ((((cfg1 (F := F)).win 17).blk t1_0).view.emb x) = _
  refine congrArg _ (funext fun a => Fin.ext ?_)
  fin_cases a
  · show 0 * 8 + 1 * (x 0).val = (x 0).val
    omega
  · show 0 * 32 + 1 * (x 1).val = (x 1).val
    omega

theorem ins_18 : (ins V c).x18 = V c main_v60 := by
  funext x
  show V c main_v60 ((((cfg1 (F := F)).win 18).blk t1_0).view.emb x) = _
  refine congrArg _ (funext fun a => Fin.ext ?_)
  fin_cases a
  · show 0 * 8 + 1 * (x 0).val = (x 0).val
    omega
  · show 0 * 1 + 1 * (x 1).val = (x 1).val
    omega

theorem emb_19 (t : Fin (cfg1 (F := F)).N) (x : S1024x1.Idx) : (((cfg1 (F := F)).win 19).blk t).view.emb x = x := by
  funext a
  apply Fin.ext
  fin_cases a
  · show 0 * 1024 + 1 * (x 0).val = (x 0).val
    omega
  · show 0 * 1 + 1 * (x 1).val = (x 1).val
    omega

theorem out0_eq : out0 V c = o19 (ins V c) := by
  unfold out0
  refine (dat V c).arrAt_eq_of_cover 19 _ (fun t ht => ?_) (fun i => ⟨t1_0, flush1_19 t1_0, ?_⟩)
  · funext x
    exact congrArg (o19 (ins V c)) (emb_19 t x).symm
  · have h := (((cfg1 (F := F)).win 19).blk t1_0).view.emb_mem_set i
    exact Eq.mp (congrArg (fun z => z ∈ (((cfg1 (F := F)).win 19).blk t1_0).view.set) (emb_19 t1_0 i)) h

theorem emb_20 (t : Fin (cfg1 (F := F)).N) (x : S1024x1.Idx) : (((cfg1 (F := F)).win 20).blk t).view.emb x = x := by
  funext a
  apply Fin.ext
  fin_cases a
  · show 0 * 1024 + 1 * (x 0).val = (x 0).val
    omega
  · show 0 * 1 + 1 * (x 1).val = (x 1).val
    omega

theorem out1_eq : out1 V c = o20 (ins V c) := by
  unfold out1
  refine (dat V c).arrAt_eq_of_cover 20 _ (fun t ht => ?_) (fun i => ⟨t1_0, flush1_20 t1_0, ?_⟩)
  · funext x
    exact congrArg (o20 (ins V c)) (emb_20 t x).symm
  · have h := (((cfg1 (F := F)).win 20).blk t1_0).view.emb_mem_set i
    exact Eq.mp (congrArg (fun z => z ∈ (((cfg1 (F := F)).win 20).blk t1_0).view.set) (emb_20 t1_0 i)) h

theorem emb_21 (t : Fin (cfg1 (F := F)).N) (x : S1024x1.Idx) : (((cfg1 (F := F)).win 21).blk t).view.emb x = x := by
  funext a
  apply Fin.ext
  fin_cases a
  · show 0 * 1024 + 1 * (x 0).val = (x 0).val
    omega
  · show 0 * 1 + 1 * (x 1).val = (x 1).val
    omega

theorem out2_eq : out2 V c = o21 (ins V c) := by
  unfold out2
  refine (dat V c).arrAt_eq_of_cover 21 _ (fun t ht => ?_) (fun i => ⟨t1_0, flush1_21 t1_0, ?_⟩)
  · funext x
    exact congrArg (o21 (ins V c)) (emb_21 t x).symm
  · have h := (((cfg1 (F := F)).win 21).blk t1_0).view.emb_mem_set i
    exact Eq.mp (congrArg (fun z => z ∈ (((cfg1 (F := F)).win 21).blk t1_0).view.set) (emb_21 t1_0 i)) h

theorem emb_22 (t : Fin (cfg1 (F := F)).N) (x : S1024x1.Idx) : (((cfg1 (F := F)).win 22).blk t).view.emb x = x := by
  funext a
  apply Fin.ext
  fin_cases a
  · show 0 * 1024 + 1 * (x 0).val = (x 0).val
    omega
  · show 0 * 1 + 1 * (x 1).val = (x 1).val
    omega

theorem out3_eq : out3 V c = o22 (ins V c) := by
  unfold out3
  refine (dat V c).arrAt_eq_of_cover 22 _ (fun t ht => ?_) (fun i => ⟨t1_0, flush1_22 t1_0, ?_⟩)
  · funext x
    exact congrArg (o22 (ins V c)) (emb_22 t x).symm
  · have h := (((cfg1 (F := F)).win 22).blk t1_0).view.emb_mem_set i
    exact Eq.mp (congrArg (fun z => z ∈ (((cfg1 (F := F)).win 22).blk t1_0).view.set) (emb_22 t1_0 i)) h

end Cert.KernelIdeal.Head
-- ==== Proof.Np.lean ====
/- The neighbours' score as the second kernel computes it. -/
module

public import proofs.«01_k».proof.Proof.Fold
public import proofs.«01_k».proof.Proof.Nb
public import proofs.«01_k».proof.Proof.Ops
public import proofs.«01_k».proof.Proof.HeadIn
public import Idealize.ShloMosaic.Lib.KernelVsHost
public import Idealize.ShloMosaic.Lib.ReduceAll
public import Idealize.ShloMosaic.Lib.StableHlo.Predicate

@[expose] public section

set_option maxRecDepth 16384

noncomputable section

namespace Cert.Net

open Idealize.ShloMosaic Idealize.ShloMosaic.TcCoe Idealize.ShloMosaic.Pointwise
open Cert.KernelIdeal Cert.KernelIdeal.Gen Cert.KernelIdeal.Knn Cert.KernelIdeal.Ops

theorem named_neg : Named.named (F := Ideal) (φ := .f32) κ "neg_inf" 0xFF61B1E6#32 = (⊥ : EReal) := by
  simp [Named.named, κ]

theorem pz_at (i : S_.Idx) : pz i = (0 : EReal) := by
  show (((0#32).toInt : ℝ) : EReal) = 0
  simp

/-! ## The padded weights -/

section
variable (W : Vec Ideal S32x60 .f32) (W' : Vec Ideal S60x32 .f32) (B : Vec Ideal S60 .f32)

theorem padW_in (k : Fin 60) (j : Fin 32) :
    pad S64x32 ![0, 0] ![4, 0] ![0, 0] (transpose S60x32 [1, 0] W transposes_S32x60_S60x32_1_0) pz pads_S60x32_S64x32_040_000 h_S_ (ix2 ⟨k.val, by omega⟩ j) = W (ix2 j k) := by
  rw [Idealize.ShloMosaic.pad_apply_of_inside _ _ _ _ _ _ _ _ (ix2 k j) (fun a => by fin_cases a <;> simp [ix2])]
  pointwise []
theorem padW_out (l : Fin 64) (hl : 60 ≤ l.val) (j : Fin 32) :
    pad S64x32 ![0, 0] ![4, 0] ![0, 0] (transpose S60x32 [1, 0] W transposes_S32x60_S60x32_1_0) pz pads_S60x32_S64x32_040_000 h_S_ (ix2 l j) = (0 : EReal) := by
  rw [Idealize.ShloMosaic.pad_apply_of_not_inside _ _ _ _ _ _ _ _ 0 (by simp [ix2]; omega)]
  exact pz_at _
theorem padV_in (k : Fin 60) (j : Fin 32) :
    pad S32x64 ![0, 0] ![0, 4] ![0, 0] (transpose S32x60 [1, 0] W' transposes_S60x32_S32x60_1_0) pz pads_S32x60_S32x64_000_040 h_S_ (ix2 j ⟨k.val, by omega⟩) = W' (ix2 k j) := by
  rw [Idealize.ShloMosaic.pad_apply_of_inside _ _ _ _ _ _ _ _ (ix2 j k) (fun a => by fin_cases a <;> simp [ix2])]
  pointwise []
theorem padB_in (k : Fin 60) : pad S64 ![0] ![4] ![0] B pz pads_S60_S64_040 h_S_ (ix1 ⟨k.val, by omega⟩) = B (ix1 k) := by
  rw [Idealize.ShloMosaic.pad_apply_of_inside _ _ _ _ _ _ _ _ (ix1 k) (fun a => by fin_cases a <;> simp [ix1])]
end

/-- The first layer over 64 lanes, the last four weights zero. -/
theorem hid64 (d w : Fin 64 → EReal) (d' : Fin 60 → EReal) (w' : Fin 60 → EReal) (hd : ∀ k : Fin 60, d ⟨k.val, by omega⟩ = d' k) (hw : ∀ k : Fin 60, w ⟨k.val, by omega⟩ = w' k)
    (h0 : ∀ l : Fin 64, 60 ≤ l.val → w l = 0) : ∑ l, d l * w l = ∑ k, d' k * w' k := by
  rw [sum64 _ fun l hl => by rw [h0 l hl, mul_zero]]
  exact Finset.sum_congr rfl fun k _ => by rw [hd, hw]

theorem lane_slt (l : Fin 64) (a b : EReal) : Scalar.select (IntOp.cmpi CmpIPredicate.slt (BitVec.ofNat 32 l.val) 60#32) a b = if l.val < 60 then a else b := by
  have h : IntOp.cmpi CmpIPredicate.slt (BitVec.ofNat 32 l.val) 60#32 = BitVec.ofBool (decide (l.val < 60)) := by
    show BitVec.ofBool (decide ((BitVec.ofNat 32 l.val).toInt < (BitVec.ofNat 32 60).toInt)) = _
    rw [toInt_small l.val (by omega), toInt_small 60 (by omega)]
    exact congrArg BitVec.ofBool (decide_eq_decide.mpr (by omega))
  rw [h]
  by_cases hl : l.val < 60 <;> simp [hl, Scalar.select]

/-- A row of logits over 64 lanes. -/
def z64 (x0 : Vec Ideal S1024x64 .f32) (x4 : Vec Ideal S64x32 .f32) (x5 : Vec Ideal S1x32 .f32) (x6 : Vec Ideal S32x64 .f32) (x7 : Vec Ideal S1x64 .f32) (r : Fin 1024) (l : Fin 64) : EReal :=
  Scalar.select (IntOp.cmpi CmpIPredicate.slt (BitVec.ofNat 32 l.val) 60#32)
    (∑ j : Fin 32, Ideal.tanh (∑ k : Fin 64, x0 (ix2 r k) * x4 (ix2 k j) + x5 (ix2 0 j)) * x6 (ix2 j l) + x7 (ix2 0 l)) (Named.named (F := Ideal) (φ := .f32) κ "neg_inf" 0xFF61B1E6#32)

theorem pay11_at (x0 x1 : Vec Ideal S1024x64 .f32) (x4 : Vec Ideal S64x32 .f32) (x5 : Vec Ideal S1x32 .f32) (x6 : Vec Ideal S32x64 .f32) (x7 : Vec Ideal S1x64 .f32) (r : Fin 1024) :
    k1_pay11 x0 x1 x4 x5 x6 x7 (ix1 r) = ∑ l : Fin 64, Ideal.div (Ideal.exp (z64 x0 x4 x5 x6 x7 r l - mx (z64 x0 x4 x5 x6 x7 r)))
      (∑ i, Ideal.exp (z64 x0 x4 x5 x6 x7 r i - mx (z64 x0 x4 x5 x6 x7 r))) * x1 (ix2 r l) := by
  rw [show mx (z64 x0 x4 x5 x6 x7 r) = Finset.fold max (Ideal.ofBits FTy.f32 4286578688#32) (z64 x0 x4 x5 x6 x7 r) Finset.univ by rw [bits_bot]]
  pointwise [k1_pay11, k1_pay9, z64]

theorem pay13_at (x0 : Vec Ideal S1024x64 .f32) (x8 : Vec Ideal S64x32 .f32) (x9 : Vec Ideal S1x32 .f32) (x10 : Vec Ideal S1x32 .f32) (x11 : Vec Ideal S1x1 .f32) (r : Fin 1024) :
    k1_pay13 (k1_pay9 x0) x8 x9 x10 x11 (ix2 r 0) = ∑ j : Fin 32, Ideal.tanh (∑ k : Fin 64, x0 (ix2 r k) * x8 (ix2 k j) + x9 (ix2 0 j)) * x10 (ix2 0 j) + x11 (ix2 0 0) := by
  pointwise [k1_pay13, k1_pay9]

theorem pay12_at (x : FVec Ideal S1024 .f32) (r : Fin 1024) : k1_pay12 x (ix2 r 0) = x (ix1 r) := by
  pointwise [k1_pay12]

/-- The neighbours' scores as laid out for the second kernel. -/
theorem taken_at (i : IVec S1024x64 32) (x : FVec Ideal S100000 .f32) (r : Fin 1024) (l : Fin 64) (n : Fin 100000) (h : i (ix2 r l) = BitVec.ofNat 32 n.val) :
    shapeCast S1024x64 (Ops.taken (shapeCast S65536 i shapeCasts_S1024x64_S65536) x) shapeCasts_S65536_S1024x64 (ix2 r l) = x (ix1 n) := by
  have hr : (⟨(r.val * 64 + l.val) / 64, by omega⟩ : Fin 1024) = r := Fin.ext (by show (r.val * 64 + l.val) / 64 = r.val; omega)
  have hl : (⟨(r.val * 64 + l.val) % 64, by omega⟩ : Fin 64) = l := Fin.ext (by show (r.val * 64 + l.val) % 64 = l.val; omega)
  have hi : i (ix2 ⟨(r.val * 64 + l.val) / 64, by omega⟩ ⟨(r.val * 64 + l.val) % 64, by omega⟩) = BitVec.ofNat 32 n.val := by rw [hr, hl, h]
  have hg (J : IVec S65536x1 32) (hJ : J (ix2 ⟨r.val * 64 + l.val, by omega⟩ 0) = BitVec.ofNat 32 n.val) :
      Host.gather gather_S100000_S65536x1_S65536_n_0_n_n_0_1_1 x J (ix1 ⟨r.val * 64 + l.val, by omega⟩) = x (ix1 n) := by
    have e1 : (ix1 ⟨r.val * 64 + l.val, by omega⟩ : S65536.Idx) = Shape.Idx.ofFin (⟨r.val * 64 + l.val, by omega⟩ : Fin 65536) := by funext a; fin_cases a; rfl
    rw [e1]
    refine (StableHlo.Predicate.gather_take gather_S100000_S65536x1_S65536_n_0_n_n_0_1_1 rfl rfl rfl rfl x J _ (by norm_num)).trans ?_
    refine congrArg x (funext fun a => ?_)
    fin_cases a
    refine Fin.ext ?_
    have e2 : (StableHlo.Predicate.ixP (⟨r.val * 64 + l.val, by omega⟩ : Fin 65536)) = ix2 ⟨r.val * 64 + l.val, by omega⟩ 0 := by funext a; fin_cases a <;> rfl
    show min (J (StableHlo.Predicate.ixP _)).toInt.toNat (100000 - 1) = n.val
    rw [e2, hJ, toInt_small _ (lt_trans n.isLt (by norm_num))]
    have := n.isLt
    omega
  pointwise [Ops.taken]
  simp only [hi, w_fix _ n.isLt, w_sge _ n.isLt, w_sle _ n.isLt]
  rw [fold_andi _ (fun _ => IntOp.andi 1#1 1#1) fun _ _ => rfl]
  refine Eq.trans (b := Host.gather gather_S100000_S65536x1_S65536_n_0_n_n_0_1_1 x _ (ix1 ⟨r.val * 64 + l.val, by omega⟩)) rfl (hg _ ?_)
  pointwise []
  rw [h, w_fix _ n.isLt]

/-! ## The second kernel's operands at an index -/

theorem cut_at {a b p q o : ℕ} (h) (ho : o + q ≤ b) (hp : p ≤ a) (X : Vec Ideal ⟨2, ![a, b]⟩ .f32) (i : Fin p) (j : Fin q) :
    Head.cut (Rect.unit (s := ⟨2, ![a, b]⟩) ![0, o] ![p, q] h) X (ix2 i j) = X (ix2 ⟨i.val, by omega⟩ ⟨o + j.val, by omega⟩) := by
  refine congrArg X (funext fun t => Fin.ext ?_)
  fin_cases t
  · show 0 + 1 * i.val = i.val; omega
  · show o + 1 * j.val = o + j.val; omega
theorem cut_0 {a b p q : ℕ} (h) (hq : q ≤ b) (hp : p ≤ a) (X : Vec Ideal ⟨2, ![a, b]⟩ .f32) (i : Fin p) (j : Fin q) :
    Head.cut (Rect.unit (s := ⟨2, ![a, b]⟩) ![0, 0] ![p, q] h) X (ix2 i j) = X (ix2 ⟨i.val, by omega⟩ ⟨j.val, by omega⟩) := by
  rw [cut_at h (by omega) hp]
  exact congrArg X (congrArg (ix2 _) (Fin.ext (Nat.zero_add _)))

theorem tile32_at (x : FVec Ideal S1x32 .f32) (i : Fin 8) (j : Fin 32) : tile32 x (ix2 i j) = x (ix2 0 j) := by
  pointwise []
theorem tile64_at (x : FVec Ideal S1x64 .f32) (i : Fin 8) (j : Fin 64) : tile64 x (ix2 i j) = x (ix2 0 j) := by
  pointwise []
theorem tile1_at (x : FVec Ideal S1x1 .f32) (i : Fin 8) (j : Fin 1) : tile1 x (ix2 i j) = x (ix2 0 0) := by
  pointwise []
theorem row32_at (x : FVec Ideal S32 .f32) (j : Fin 32) : shapeCast S1x32 x shapeCasts_S32_S1x32 (ix2 0 j) = x (ix1 j) := by
  pointwise []
theorem row64_at (x : FVec Ideal S64 .f32) (j : Fin 64) : shapeCast S1x64 x shapeCasts_S64_S1x64 (ix2 0 j) = x (ix1 j) := by
  pointwise []
theorem row1_at (x : FVec Ideal S1 .f32) : shapeCast S1x1 x shapeCasts_S1_S1x1 (ix2 0 0) = x (ix1 0) := by
  pointwise []

section
variable (x0 : Vec Ideal S1024x64 .f32) (x4 : Vec Ideal S64x32 .f32) (x5 : Vec Ideal S1x32 .f32) (r : Fin 1024)
  (d : Fin 60 → EReal) (w : Fin 32 → Fin 60 → EReal) (b : Fin 32 → EReal)
  (h0 : ∀ k : Fin 60, x0 (ix2 r ⟨k.val, by omega⟩) = d k) (h4 : ∀ (j : Fin 32) (k : Fin 60), x4 (ix2 ⟨k.val, by omega⟩ j) = w j k)
  (h4' : ∀ (l : Fin 64) (j : Fin 32), 60 ≤ l.val → x4 (ix2 l j) = (0 : EReal)) (h5 : ∀ j, x5 (ix2 0 j) = b j)
include h0 h4 h4' h5

theorem hid_in (j : Fin 32) : Ideal.tanh (∑ k : Fin 64, x0 (ix2 r k) * x4 (ix2 k j) + x5 (ix2 0 j)) = hid d w b j := by
  unfold hid
  rw [h5, hid64 (fun k => x0 (ix2 r k)) (fun k => x4 (ix2 k j)) d (w j) h0 (h4 j) (fun l hl => h4' l j hl)]

theorem z64_in (x6 : Vec Ideal S32x64 .f32) (x7 : Vec Ideal S1x64 .f32) (w2 : Fin 60 → Fin 32 → EReal) (b2 : Fin 60 → EReal)
    (h6 : ∀ (k : Fin 60) (j : Fin 32), x6 (ix2 j ⟨k.val, by omega⟩) = w2 k j) (h7 : ∀ k : Fin 60, x7 (ix2 0 ⟨k.val, by omega⟩) = b2 k) (k : Fin 60) :
    z64 x0 x4 x5 x6 x7 r ⟨k.val, by omega⟩ = logit d w b w2 b2 k := by
  unfold z64 logit
  rw [lane_slt, if_pos k.isLt, h7]
  exact congrArg (· + b2 k) (Finset.sum_congr rfl fun j _ => by rw [hid_in x0 x4 x5 r d w b h0 h4 h4' h5, h6])

theorem lam_in (x10 : Vec Ideal S1x32 .f32) (x11 : Vec Ideal S1x1 .f32) (w2 : Fin 32 → EReal) (b2 : EReal) (h10 : ∀ j, x10 (ix2 0 j) = w2 j) (h11 : x11 (ix2 0 0) = b2) :
    k1_pay13 (k1_pay9 x0) x4 x5 x10 x11 (ix2 r 0) = ∑ j, hid d w b j * w2 j + b2 := by
  rw [pay13_at, h11]
  exact congrArg (· + b2) (Finset.sum_congr rfl fun j _ => by rw [hid_in x0 x4 x5 r d w b h0 h4 h4' h5, h10])
end

theorem z64_out (x0 x4 x5 x6 x7 r) (l : Fin 64) (hl : 60 ≤ l.val) : z64 x0 x4 x5 x6 x7 r l = ⊥ := by
  unfold z64
  rw [lane_slt, if_neg (by omega), named_neg]

section
variable (m : (ℓ : Loc nD τ sig) → Buf (Elt Ideal) ℓ) (hp : Cert.Pre_KernelIdeal_well_posed m) (c : Dev nD) (r : Fin 1024)

open Cert.KernelIdeal.Run in
/-- The second kernel's operands. -/
abbrev I : Head.In Ideal := Head.ins (W16 m) c

include hp in
theorem I_0 (k : Fin 60) : (I m c).x0 (ix2 r ⟨k.val, by omega⟩) = dist (arg m c main_arg1) (arg m c main_arg3) r k := by
  rw [Head.ins_0]
  show V16 m (Run.outs₀ m) c main_v3_0 _ = _
  rw [V16_v3_0]
  exact (found m hp c r k).1
include hp in
theorem I_1 (k : Fin 60) : (I m c).x1 (ix2 r ⟨k.val, by omega⟩) = arg m c main_arg4 (ix1 (nb (arg m c main_arg1) (arg m c main_arg3) r k)) := by
  rw [Head.ins_1]
  show V16 m (Run.outs₀ m) c main_v6 _ = _
  rw [V16_v6]
  exact taken_at _ _ r ⟨k.val, by omega⟩ _ (found m hp c r k).2
theorem I_4 (j : Fin 32) (k : Fin 60) : (I m c).x4 (ix2 ⟨k.val, by omega⟩ j) = arg m c main_arg5 (ix2 j k) := by
  rw [Head.ins_4]
  show V16 m (Run.outs₀ m) c main_v8 _ = _
  rw [V16_v8]
  exact padW_in _ k j
theorem I_4' (l : Fin 64) (j : Fin 32) (hl : 60 ≤ l.val) : (I m c).x4 (ix2 l j) = (0 : EReal) := by
  rw [Head.ins_4]
  show V16 m (Run.outs₀ m) c main_v8 _ = _
  rw [V16_v8]
  exact padW_out _ l hl j
theorem I_5 (i : Fin 8) (j : Fin 32) : (I m c).x5 (ix2 i j) = arg m c main_arg6 (ix1 j) := by
  rw [Head.ins_5]
  show V16 m (Run.outs₀ m) c main_v22 _ = _
  rw [V16_v22]
  exact (tile32_at _ i j).trans (row32_at _ j)
theorem I_6 (k : Fin 60) (j : Fin 32) : (I m c).x6 (ix2 j ⟨k.val, by omega⟩) = arg m c main_arg7 (ix2 k j) := by
  rw [Head.ins_6]
  show V16 m (Run.outs₀ m) c main_v10 _ = _
  rw [V16_v10]
  exact padV_in _ k j
theorem I_7 (i : Fin 8) (k : Fin 60) : (I m c).x7 (ix2 i ⟨k.val, by omega⟩) = arg m c main_arg8 (ix1 k) := by
  rw [Head.ins_7]
  show V16 m (Run.outs₀ m) c main_v26 _ = _
  rw [V16_v26]
  exact (tile64_at _ i _).trans ((row64_at _ _).trans (padB_in _ k))

/-- The logits of a row. -/
abbrev zK (k : Fin 60) : EReal :=
  logit (dist (arg m c main_arg1) (arg m c main_arg3) r) (fun j k => arg m c main_arg5 (ix2 j k)) (fun j => arg m c main_arg6 (ix1 j))
    (fun k j => arg m c main_arg7 (ix2 k j)) (fun k => arg m c main_arg8 (ix1 k)) k

include hp in
theorem np_at : Head.h39 (I m c) (ix2 r 0) = ∑ k, soft (zK m c r) k * arg m c main_arg4 (ix1 (nb (arg m c main_arg1) (arg m c main_arg3) r k)) := by
  unfold Head.h39 Head.h38
  rw [pay12_at, pay11_at]
  refine soft64 _ _ _ _ (fun k => ?_) (fun k => ?_) (fun l hl => z64_out _ _ _ _ _ _ l hl) (fun k => logit_finite _ _ _ _ _ (fun k j => wf_w m hp c k j) (fun k => wf_b m hp c k) k)
  · refine z64_in _ _ _ r _ _ _ (fun k => ?_) (fun j k => ?_) (fun l j hl => ?_) (fun j => ?_) _ _ _ _ (fun k j => ?_) (fun k => ?_) k
    · exact (cut_0 _ (by norm_num) (by norm_num) _ _ _).trans (I_0 m hp c r k)
    · exact (cut_0 _ (by norm_num) (by norm_num) _ _ _).trans (I_4 m c j k)
    · exact (cut_0 _ (by norm_num) (by norm_num) _ _ _).trans (I_4' m c l j hl)
    · exact (cut_0 _ (by norm_num) (by norm_num) _ _ _).trans (I_5 m c _ j)
    · exact (cut_0 _ (by norm_num) (by norm_num) _ _ _).trans (I_6 m c k j)
    · exact (cut_0 _ (by norm_num) (by norm_num) _ _ _).trans (I_7 m c _ k)
  · exact (cut_0 _ (by norm_num) (by norm_num) _ _ _).trans (I_1 m hp c r k)
end

end Cert.Net
-- ==== Proof.Topn.lean ====
/- Taking the greatest of a row again and again, each time with the first place that holds it put out. -/
module

public import proofs.«01_k».proof.Proof.Fold
public import proofs.«01_k».proof.Proof.Top

@[expose] public section

set_option maxRecDepth 16384

noncomputable section

namespace Cert.Net

open Idealize.ShloMosaic Cert.KernelIdeal.Row

variable {n : ℕ} (x : Fin n → EReal)

/-- `y` is `x` with `t` of its greatest entries put out. -/
def Out (t : ℕ) (y : Fin n → EReal) : Prop :=
  ∃ A : Finset (Fin n), A.card = t ∧ (∀ l, y l = if l ∈ A then ⊥ else x l) ∧ ∀ a ∈ A, ∀ l ∉ A, x l ≤ x a

theorem Out.zero : Out x 0 x := ⟨∅, rfl, fun l => by simp, fun a h => by simp at h⟩

variable {x}

theorem le_mx (y : Fin n → EReal) (l : Fin n) : y l ≤ mx y := Finset.le_fold_max _ |>.mpr (Or.inr ⟨l, Finset.mem_univ _, le_rfl⟩)

theorem mx_at (hn : 0 < n) (y : Fin n → EReal) : ∃ l, y l = mx y := by
  by_contra hne
  push Not at hne
  have h : ∀ l, y l < mx y := fun l => lt_of_le_of_ne (le_mx y l) (hne l)
  have : mx y < mx y := Finset.fold_max_lt _ |>.mpr ⟨lt_of_le_of_lt bot_le (h ⟨0, hn⟩), fun l _ => h l⟩
  exact lt_irrefl _ this

theorem Out.mx {t : ℕ} {y : Fin n → EReal} (h : Out x t y) (ht : t < n) : mx y = x (ord x ⟨t, ht⟩) := by
  obtain ⟨A, hA, hy, hle⟩ := h
  have hsurj := sortedFrom_surjective (fun a b => FloatOps.cmpfTotal (F := Ideal) (φ := .f32) .gt (x a) (x b) == 1#1)
  have hinj : Function.Injective (ord x) := Finite.injective_iff_surjective.mpr hsurj
  refine le_antisymm (Finset.fold_max_le _ |>.mpr ⟨bot_le, fun l _ => ?_⟩) ?_
  · rw [hy]
    split
    · exact bot_le
    · rename_i hl
      by_contra hc
      rw [not_le] at hc
      have hsub : insert l A ⊆ (Finset.univ.filter fun s : Fin n => s.val < t).image (ord x) := by
        intro a ha
        obtain ⟨s, rfl⟩ := hsurj a
        refine Finset.mem_image.mpr ⟨s, Finset.mem_filter.mpr ⟨Finset.mem_univ _, ?_⟩, rfl⟩
        have h1 : x l ≤ x (ord x s) := by
          rcases Finset.mem_insert.mp ha with h | h
          · exact le_of_eq (congrArg x h.symm)
          · exact hle _ h _ hl
        by_contra h2
        exact absurd (hc.trans_le h1) (not_lt.mpr (ord_anti x (show (⟨t, ht⟩ : Fin n) ≤ s from not_lt.mp h2)))
      have h3 := Finset.card_le_card hsub
      have h4 : ((Finset.univ.filter fun s : Fin n => s.val < t).image (ord x)).card ≤ t := by
        refine Finset.card_image_le.trans ?_
        have h5 : (Finset.univ.filter fun s : Fin n => s.val < t).image Fin.val ⊆ Finset.range t := by
          intro a ha
          obtain ⟨s, hs, rfl⟩ := Finset.mem_image.mp ha
          exact Finset.mem_range.mpr (Finset.mem_filter.mp hs).2
        have h6 := Finset.card_le_card h5
        rw [Finset.card_image_of_injective _ Fin.val_injective, Finset.card_range] at h6
        exact h6
      rw [Finset.card_insert_of_notMem hl, hA] at h3
      omega
  · have hex : ∃ s : Fin n, s.val ≤ t ∧ ord x s ∉ A := by
      by_contra hne
      push Not at hne
      have hsub : (Finset.univ.image fun s : Fin (t + 1) => ord x ⟨s.val, by omega⟩) ⊆ A := by
        intro a ha
        obtain ⟨s, -, rfl⟩ := Finset.mem_image.mp ha
        exact hne _ (by show s.val ≤ t; omega)
      have h1 := Finset.card_le_card hsub
      rw [Finset.card_image_of_injective _ (fun a b hab => Fin.ext (by have := hinj hab; rw [Fin.mk.injEq] at this; exact this)), Finset.card_univ, Fintype.card_fin, hA] at h1
      omega
    obtain ⟨s, hs, hsA⟩ := hex
    refine (ord_anti x (show s ≤ (⟨t, ht⟩ : Fin n) from hs)).trans ?_
    have h1 := le_mx y (ord x s)
    rw [hy, if_neg hsA] at h1
    exact h1

theorem Out.succ {t : ℕ} {y y' : Fin n → EReal} (h : Out x t y) (ht : t < n) (c : Fin n) (hc : y c = Net.mx y) (hy' : ∀ l, y' l = if l = c then ⊥ else y l) : Out x (t + 1) y' := by
  obtain ⟨A, hA, hy, hle⟩ := h
  have key : ∀ d, d ∉ A → x d = Net.mx y → (∀ l, y' l = if l = d then ⊥ else y l) → Out x (t + 1) y' := by
    intro d hd hxd hd'
    refine ⟨insert d A, by rw [Finset.card_insert_of_notMem hd, hA], fun l => ?_, fun a ha l hl => ?_⟩
    · rw [hd', hy]
      by_cases h1 : l = d
      · rw [if_pos h1, if_pos (by rw [h1]; exact Finset.mem_insert_self ..)]
      · rw [if_neg h1]
        simp only [Finset.mem_insert, h1, false_or]
    · rw [Finset.mem_insert, not_or] at hl
      rcases Finset.mem_insert.mp ha with rfl | h1
      · have h2 := le_mx y l
        rw [hy l, if_neg hl.2] at h2
        rw [hxd]
        exact h2
      · exact hle a h1 l hl.2
  by_cases hb : Net.mx y = ⊥
  · obtain ⟨d, hd⟩ : ∃ d, d ∉ A := by
      by_contra hne
      push Not at hne
      have : A = Finset.univ := Finset.eq_univ_iff_forall.mpr hne
      rw [this, Finset.card_univ, Fintype.card_fin] at hA
      omega
    have hall : ∀ l, y l = ⊥ := fun l => le_bot_iff.mp ((le_mx y l).trans (le_of_eq hb))
    refine key d hd ?_ fun l => ?_
    · have := hall d
      rw [hy, if_neg hd] at this
      rw [this, hb]
    · rw [hy', hall]
      simp only [ite_self]
  · have hcA : c ∉ A := by
      intro h1
      rw [hy, if_pos h1] at hc
      exact hb hc.symm
    refine key c hcA ?_ hy'
    rw [← hc, hy, if_neg hcA]

end Cert.Net
-- ==== Proof.Wav.lean ====
/- The mean confidences as the second kernel computes them, its greatest ones, and the layer over them. -/
module

public import proofs.«01_k».proof.Proof.Np
public import proofs.«01_k».proof.Proof.Topn

@[expose] public section

set_option maxRecDepth 16384

noncomputable section

namespace Cert.Net

open Idealize.ShloMosaic Idealize.ShloMosaic.TcCoe Idealize.ShloMosaic.Pointwise
open Cert.KernelIdeal Cert.KernelIdeal.Gen Cert.KernelIdeal.Knn Cert.KernelIdeal.Ops

/-! ## One round of the search -/

theorem fold_rowI (h : S1024x17.Reduces [1] S1024) (b : BitVec 32) (f : S1024x17.Idx → BitVec 32) (r : Fin 1024) :
    Finset.fold IntOp.minsi b f {i | h.drop i = ix1 r} = Finset.fold IntOp.minsi b (fun k : Fin 17 => f (ix2 r k)) Finset.univ := by
  have hd (i : S1024x17.Idx) : (h.drop i 0).val = (i 0).val := h.drop_apply_val_of_eq i 0 0 (by decide)
  have e : ({i | h.drop i = ix1 r} : Finset S1024x17.Idx) = Finset.univ.image fun k : Fin 17 => ix2 r k := by
    ext i
    simp only [Finset.mem_filter, Finset.mem_univ, true_and, Finset.mem_image]
    constructor
    · intro hi
      refine ⟨i 1, ?_⟩
      have h0 : i 0 = r := Fin.ext ((hd i).symm.trans (congrArg (fun q : S1024.Idx => (q 0).val) hi))
      funext a
      fin_cases a
      · exact h0.symm
      · rfl
    · rintro ⟨k, rfl⟩
      funext a
      fin_cases a
      exact Fin.ext (hd (ix2 r k))
  rw [e, Finset.fold_image fun x _ y _ hxy => show x = y from congrFun hxy 1]
  rfl

/-- The word of the first place that holds the greatest of a row. -/
abbrev first (x : Fin 17 → EReal) : BitVec 32 := Finset.fold IntOp.minsi 2147483647#32 (fun l => if x l = mx x then BitVec.ofNat 32 l.val else 99#32) Finset.univ

theorem minsi_toInt (a b : BitVec 32) : (IntOp.minsi a b).toInt = min a.toInt b.toInt := by
  unfold IntOp.minsi
  rw [BitVec.slt_eq_decide]
  by_cases h : a.toInt < b.toInt
  · rw [decide_eq_true h]; exact (min_eq_left h.le).symm
  · rw [decide_eq_false h]; exact (min_eq_right (not_lt.mp h)).symm

theorem fold_minsi_toInt {ι : Type} [DecidableEq ι] (s : Finset ι) (b : BitVec 32) (f : ι → BitVec 32) : (Finset.fold IntOp.minsi b f s).toInt = Finset.fold min b.toInt (fun i => (f i).toInt) s := by
  induction s using Finset.induction_on with
  | empty => rfl
  | insert a s ha ih => rw [Finset.fold_insert ha, Finset.fold_insert ha, minsi_toInt, ih]

theorem first_eq (x : Fin 17 → EReal) : ∃ c : Fin 17, x c = mx x ∧ first x = BitVec.ofNat 32 c.val := by
  obtain ⟨l0, hl0⟩ := mx_at (by norm_num) x
  have hne : (Finset.univ.filter fun l => x l = mx x).Nonempty := ⟨l0, Finset.mem_filter.mpr ⟨Finset.mem_univ _, hl0⟩⟩
  set c := (Finset.univ.filter fun l => x l = mx x).min' hne with hc
  have hcx : x c = mx x := (Finset.mem_filter.mp (Finset.min'_mem _ hne)).2
  have hcm : ∀ l, x l = mx x → c ≤ l := fun l hl => Finset.min'_le _ l (Finset.mem_filter.mpr ⟨Finset.mem_univ _, hl⟩)
  refine ⟨c, hcx, BitVec.eq_of_toInt_eq ?_⟩
  have hlt := c.isLt
  have hcv : (BitVec.ofNat 32 c.val).toInt = c.val := toInt_small _ (by omega)
  rw [first, fold_minsi_toInt, hcv]
  clear_value c
  refine le_antisymm (Finset.fold_min_le _ |>.mpr (Or.inr ⟨c, Finset.mem_univ _, ?_⟩)) (Finset.le_fold_min _ |>.mpr ⟨?_, fun l _ => ?_⟩)
  · show (if x c = mx x then BitVec.ofNat 32 c.val else 99#32).toInt ≤ _
    rw [if_pos hcx, hcv]
  · show (c.val : ℤ) ≤ (2147483647 : ℤ)
    omega
  · have hl := l.isLt
    by_cases h : x l = mx x
    · have hlv : (BitVec.ofNat 32 l.val).toInt = l.val := toInt_small _ (by omega)
      rw [if_pos h, hlv]
      have : c.val ≤ l.val := hcm l h
      omega
    · rw [if_neg h]
      show (c.val : ℤ) ≤ (99 : ℤ)
      omega

theorem cmpi_nat (a b : ℕ) (ha : a < 17) (hb : b < 17) : IntOp.cmpi CmpIPredicate.eq (BitVec.ofNat 32 a) (BitVec.ofNat 32 b) = BitVec.ofBool (decide (a = b)) := by
  show BitVec.ofBool (BitVec.ofNat 32 a == BitVec.ofNat 32 b) = _
  refine congrArg BitVec.ofBool ?_
  rw [Bool.eq_iff_iff, beq_iff_eq, decide_eq_true_iff]
  constructor
  · intro h
    have := congrArg BitVec.toNat h
    rw [BitVec.toNat_ofNat, BitVec.toNat_ofNat, Nat.mod_eq_of_lt (by omega), Nat.mod_eq_of_lt (by omega)] at this
    exact this
  · rintro rfl; rfl

theorem select_bool {α : Type} (p : Prop) [Decidable p] (a b : α) : Scalar.select (BitVec.ofBool (decide p)) a b = if p then a else b := by
  by_cases h : p <;> simp [h, Scalar.select]

/-- The greatest of each row, the word of its first place, and the rows with that place put out. -/
abbrev M (y : FVec Ideal S1024x17 .f32) : FVec Ideal S1024x1 .f32 := k1_pay18 (F := Ideal) y
def C (y : FVec Ideal S1024x17 .f32) : IVec S1024x1 32 :=
  shapeCast S1024x1 (multiReductionI .minsi [1] S1024 (select (cmpf .oeq y (broadcastTo S1024x17 (M y) broadcasts_S1024x1_S1024x17))
    (broadcastTo S1024x17 (shapeCast S1x17 Head.h84 shapeCasts_S1x17_S1x17) broadcasts_S1x17_S1024x17) (broadcast S1024x17 99#32)) 2147483647#32 reduces_S1024x17_S1024 rfl) shapeCasts_S1024_S1024x1
def N (y : FVec Ideal S1024x17 .f32) : FVec Ideal S1024x17 .f32 := k1_pay30 Head.h84 y (C y)

theorem M_at (y : FVec Ideal S1024x17 .f32) (r : Fin 1024) : @Eq EReal (M y (ix2 r 0)) (mx fun l : Fin 17 => y (ix2 r l)) := by
  rw [show mx (fun l : Fin 17 => (y (ix2 r l) : EReal)) = Finset.fold max (Ideal.ofBits FTy.f32 4286578688#32) (fun l : Fin 17 => y (ix2 r l)) Finset.univ by rw [bits_bot]]
  pointwise [k1_pay18]

theorem C_at (y : FVec Ideal S1024x17 .f32) (r : Fin 1024) : C y (ix2 r 0) = first fun l : Fin 17 => y (ix2 r l) := by
  have h : C y (ix2 r 0) = multiReductionI .minsi [1] S1024 (select (cmpf .oeq y (broadcastTo S1024x17 (M y) broadcasts_S1024x1_S1024x17))
    (broadcastTo S1024x17 (shapeCast S1x17 Head.h84 shapeCasts_S1x17_S1x17) broadcasts_S1x17_S1024x17) (broadcast S1024x17 99#32)) 2147483647#32 reduces_S1024x17_S1024 rfl (ix1 r) := by
    unfold C
    pointwise []
  rw [h]
  refine ((multiReductionI_eq_fold IKind.minsi _ _ reduces_S1024x17_S1024 rfl (ix1 r)).trans (fold_rowI _ _ _ r)).trans ?_
  refine congrArg (fun f => Finset.fold IntOp.minsi 2147483647#32 f Finset.univ) (funext fun l => ?_)
  have e : select (cmpf .oeq y (broadcastTo S1024x17 (M y) broadcasts_S1024x1_S1024x17))
    (broadcastTo S1024x17 (shapeCast S1x17 Head.h84 shapeCasts_S1x17_S1x17) broadcasts_S1x17_S1024x17) (broadcast S1024x17 99#32) (ix2 r l)
     = Scalar.select (BitVec.ofBool (decide (@Eq EReal (y (ix2 r l)) (M y (ix2 r 0))))) (BitVec.ofNat 32 l.val) 99#32 := by
    pointwise [Head.h84]
  rw [e, select_bool, M_at]

theorem N_at (y : FVec Ideal S1024x17 .f32) (r : Fin 1024) : ∃ c : Fin 17, @Eq EReal (y (ix2 r c)) (mx fun l : Fin 17 => y (ix2 r l)) ∧
    ∀ l : Fin 17, @Eq EReal (N y (ix2 r l)) (if l = c then ⊥ else y (ix2 r l)) := by
  obtain ⟨c, hc, h⟩ := first_eq fun l : Fin 17 => y (ix2 r l)
  refine ⟨c, hc, fun l => ?_⟩
  have e : N y (ix2 r l) = Scalar.select (IntOp.cmpi CmpIPredicate.eq (BitVec.ofNat 32 l.val) (C y (ix2 r 0))) (Named.named (F := Ideal) (φ := .f32) κ "neg_inf" 0xFF61B1E6#32) (y (ix2 r l)) := by
    unfold N
    pointwise [k1_pay30, Head.h84]
  rw [e, C_at, h, cmpi_nat _ _ l.isLt c.isLt, select_bool, named_neg]
  simp only [Fin.ext_iff]

theorem N_out {x : Fin 17 → EReal} {t : ℕ} (ht : t < 17) (y : FVec Ideal S1024x17 .f32) (r : Fin 1024) (h : Out x t fun l : Fin 17 => y (ix2 r l)) : Out x (t + 1) fun l : Fin 17 => N y (ix2 r l) := by
  obtain ⟨c, hc, hn⟩ := N_at y r
  exact h.succ ht c hc hn

/-! ## The rounds, one after another -/

def NN (y : FVec Ideal S1024x17 .f32) : ℕ → FVec Ideal S1024x17 .f32
  | 0 => y
  | t + 1 => N (NN y t)

theorem NN_out (y : FVec Ideal S1024x17 .f32) (r : Fin 1024) (t : ℕ) (ht : t ≤ 17) : Out (fun l : Fin 17 => y (ix2 r l)) t fun l : Fin 17 => NN y t (ix2 r l) := by
  induction t with
  | zero => exact Out.zero _
  | succ t ih => exact N_out (by omega) _ r (ih (by omega))

theorem MN_at (y : FVec Ideal S1024x17 .f32) (r : Fin 1024) (t : ℕ) (ht : t < 17) : @Eq EReal (M (NN y t) (ix2 r 0)) (Cert.KernelIdeal.Row.ord (fun l : Fin 17 => (y (ix2 r l) : EReal)) ⟨t, ht⟩ |> fun l => y (ix2 r l)) := by
  rw [M_at]
  exact (NN_out y r t ht.le).mx ht

variable (J : Head.In Ideal)

theorem h156_eq : Head.h156 J = NN (Head.h83 J) 1 := rfl
theorem h158_eq : Head.h158 J = M (NN (Head.h83 J) 1) := rfl
theorem h198_eq : Head.h198 J = NN (Head.h83 J) 3 := rfl
theorem h200_eq : Head.h200 J = M (NN (Head.h83 J) 3) := rfl
theorem h208_eq : Head.h208 J = C (NN (Head.h83 J) 3) := rfl
theorem h240_eq : Head.h240 J = NN (Head.h83 J) 5 := rfl
theorem h250_eq : Head.h250 J = C (NN (Head.h83 J) 5) := rfl

end Cert.Net
-- ==== Proof.Conf.lean ====
/- The mean confidences, the bin a score falls in, and the second logit, as scalars. -/
module

public import proofs.«01_k».proof.Proof.Fold
public import proofs.«01_k».proof.Proof.Nb
public import proofs.«01_k».proof.Proof.Topn

@[expose] public section

set_option maxRecDepth 16384

noncomputable section

namespace Cert.Net

open Idealize.ShloMosaic Idealize.ShloMosaic.Pointwise Cert.KernelIdeal.Knn Cert.KernelIdeal.Row

/-- The mean over the eight lists of a row's confidence in a bin. -/
def conf (A : (⟨3, ![1024, 8, 17]⟩ : Shape).Idx → EReal) (r : Fin 1024) (l : Fin 17) : EReal := Ideal.div (∑ i : Fin 8, A (ix3 r i l)) (Ideal.ofBits .f32 1090519040#32)

/-- The word of the bin a score falls in. -/
def word (y : EReal) : BitVec 32 := Ideal.fptosi 32 (min (Ideal.ofBits .f32 1098907648#32) (max 0 ((y - 1) * Ideal.ofBits .f32 1082130432#32)))

theorem bits_sixteen : Ideal.ofBits FTy.f32 1098907648#32 = ((16 : ℝ) : EReal) := by
  simp [Ideal.ofBits, Ideal.ieee, -EReal.coe_mul]; norm_num

theorem word_lt (y : EReal) : ∃ n : Fin 17, word y = BitVec.ofNat 32 n.val := by
  have key (x : EReal) (h0 : 0 ≤ x) (h1 : x ≤ ((16 : ℝ) : EReal)) : ∃ n : Fin 17, Ideal.fptosi 32 x = BitVec.ofNat 32 n.val := by
    induction x with
    | bot => exact absurd h0 (by simp)
    | top => exact absurd h1 (by simp)
    | coe x =>
      have h0' : 0 ≤ x := EReal.coe_nonneg.mp h0
      have h1' : x ≤ 16 := EReal.coe_le_coe_iff.mp h1
      have hf0 : 0 ≤ ⌊x⌋ := Int.floor_nonneg.mpr h0'
      have hf1 : ⌊x⌋ ≤ 16 := by
        have : ⌊x⌋ ≤ ⌊(16 : ℝ)⌋ := Int.floor_le_floor h1'
        rwa [show ⌊(16 : ℝ)⌋ = 16 by norm_num] at this
      refine ⟨⟨⌊x⌋.toNat, by omega⟩, ?_⟩
      have h : Ideal.toIntClamped (-(2 ^ (32 - 1) : Nat)) ((2 ^ (32 - 1) : Nat) - 1) (x : EReal) = (⌊x⌋.toNat : ℤ) := by
        rw [Ideal.toIntClamped_coe, if_pos h0']
        omega
      unfold Ideal.fptosi
      rw [h, BitVec.ofInt_natCast]
  exact key _ (le_min (by rw [bits_sixteen]; exact EReal.coe_nonneg.mpr (by norm_num)) (le_max_left _ _)) ((min_le_left _ _).trans (le_of_eq bits_sixteen))

/-- The bin a score falls in. -/
def bin (y : EReal) : Fin 17 := (word_lt y).choose
theorem word_eq (y : EReal) : word y = BitVec.ofNat 32 (bin y).val := (word_lt y).choose_spec

/-- The second layer: over the two chosen confidences, the eight greatest, and the distances. -/
def hid2 (p s : EReal) (t : Fin 8 → EReal) (d : Fin 60 → EReal) (w : Fin 32 → Fin 70 → EReal) (b : Fin 32 → EReal) (j : Fin 32) : EReal :=
  Ideal.tanh (p * w j 0 + s * w j 1 + ∑ i : Fin 8, t i * w j ⟨2 + i.val, by omega⟩ + ∑ k : Fin 60, d k * w j ⟨10 + k.val, by omega⟩ + b j)

/-- The eight greatest confidences. -/
def best (x : Fin 17 → EReal) (i : Fin 8) : EReal := x (ord x ⟨i.val, by omega⟩)

/-- The two logits of a row's weights. -/
def lamK (d : Fin 60 → EReal) (w : Fin 32 → Fin 60 → EReal) (b w2 : Fin 32 → EReal) (b2 : EReal) : EReal := ∑ j, hid d w b j * w2 j + b2
def lamM (p s : EReal) (t : Fin 8 → EReal) (d : Fin 60 → EReal) (w : Fin 32 → Fin 70 → EReal) (b w2 : Fin 32 → EReal) (b2 : EReal) : EReal := ∑ j, hid2 p s t d w b j * w2 j + b2

/-- The softmax of two logits: the weight of the first one given. -/
def soft2 (x a b : EReal) : EReal := Ideal.div (Ideal.exp (x - max a b)) (Ideal.exp (a - max a b) + Ideal.exp (b - max a b))

theorem mx_two (z : Fin 2 → EReal) : mx z = max (z 0) (z 1) := by
  refine le_antisymm (Finset.fold_max_le _ |>.mpr ⟨bot_le, fun l _ => ?_⟩) (max_le (le_mx z 0) (le_mx z 1))
  fin_cases l
  · exact le_max_left _ _
  · exact le_max_right _ _

end Cert.Net
-- ==== Proof.Lam.lean ====
/- The two logits of a row's weights as the second kernel computes them. -/
module

public import proofs.«01_k».proof.Proof.Wav
public import proofs.«01_k».proof.Proof.Conf

@[expose] public section

set_option maxRecDepth 16384

noncomputable section

namespace Cert.Net

open Idealize.ShloMosaic Idealize.ShloMosaic.TcCoe Idealize.ShloMosaic.Pointwise
open Cert.KernelIdeal Cert.KernelIdeal.Gen Cert.KernelIdeal.Knn Cert.KernelIdeal.Ops

/-! ## The payloads at an index -/

theorem pay15_at (a b c d e f g h : Vec Ideal S1024x17 .f32) (r : Fin 1024) (l : Fin 17) : @Eq EReal (k1_pay15 (k1_pay14 a b c d e f) g h (ix2 r l))
    ((a (ix2 r l) + b (ix2 r l) + c (ix2 r l) + d (ix2 r l) + e (ix2 r l) + f (ix2 r l) + g (ix2 r l) + h (ix2 r l)) * Ideal.ofBits FTy.f32 1040187392#32) := by
  pointwise [k1_pay15, k1_pay14]

theorem sum_pick (x : Fin 17 → EReal) (n : Fin 17) : ∑ l : Fin 17, Scalar.select (IntOp.cmpi CmpIPredicate.eq (BitVec.ofNat 32 l.val) (BitVec.ofNat 32 n.val)) (x l) 0 = x n := by
  rw [Finset.sum_eq_single n (fun l _ hl => ?_) (fun h => absurd (Finset.mem_univ n) h)]
  · rw [cmpi_nat _ _ n.isLt n.isLt, select_bool, if_pos rfl]
  · rw [cmpi_nat _ _ l.isLt n.isLt, select_bool, if_neg (fun h => hl (Fin.ext h))]

theorem pay16_at (x5 : FVec Ideal S1024x1 .f32) (a b c : Vec Ideal S1024x17 .f32) (r : Fin 1024) : @Eq EReal (k1_pay16 x5 a b c (ix2 r 0)) (k1_pay15 a b c (ix2 r (bin (x5 (ix2 r 0))))) := by
  have h : @Eq EReal (k1_pay16 x5 a b c (ix2 r 0)) (∑ l : Fin 17, Scalar.select (IntOp.cmpi CmpIPredicate.eq (BitVec.ofNat 32 l.val) (word (x5 (ix2 r 0)))) (k1_pay15 a b c (ix2 r l)) 0) := by
    unfold word
    pointwise [k1_pay16]
    rfl
  rw [h, word_eq]
  exact sum_pick (fun l => k1_pay15 a b c (ix2 r l)) _
theorem pay17_at (x5 : FVec Ideal S1024x1 .f32) (a b c : Vec Ideal S1024x17 .f32) (r : Fin 1024) : @Eq EReal (k1_pay17 x5 a b c (ix2 r 0)) (k1_pay15 a b c (ix2 r (bin (x5 (ix2 r 0))))) := by
  have h : @Eq EReal (k1_pay17 x5 a b c (ix2 r 0)) (∑ l : Fin 17, Scalar.select (IntOp.cmpi CmpIPredicate.eq (BitVec.ofNat 32 l.val) (word (x5 (ix2 r 0)))) (k1_pay15 a b c (ix2 r l)) 0) := by
    unfold word
    pointwise [k1_pay17]
    rfl
  rw [h, word_eq]
  exact sum_pick (fun l => k1_pay15 a b c (ix2 r l)) _

theorem pay19_at (v0 v1 : FVec Ideal S1024x1 .f32) (x0 : Vec Ideal S1024x64 .f32) (y : FVec Ideal S1024x17 .f32) (a : Vec Ideal S64x32 .f32) (b c d e : Vec Ideal S1x32 .f32) (r : Fin 1024) (j : Fin 32) :
    @Eq EReal (k1_pay19 (k1_pay9 x0) y v0 v1 a b c d e (ix2 r j))
    (∑ k : Fin 64, x0 (ix2 r k) * a (ix2 k j) + v0 (ix2 r 0) * b (ix2 0 j) + v1 (ix2 r 0) * c (ix2 0 j) + d (ix2 0 j) + M y (ix2 r 0) * e (ix2 0 j)) := by
  pointwise [k1_pay19, k1_pay9, k1_pay18]

/-- Two more confidences weighed. -/
def add2 (a : FVec Ideal S1024x32 .f32) (m1 m2 : FVec Ideal S1024x1 .f32) (f g : Vec Ideal S1x32 .f32) : FVec Ideal S1024x32 .f32 :=
  addf (addf a (mulf (broadcastTo S1024x32 m1 broadcasts_S1024x1_S1024x32) (broadcastTo S1024x32 (shapeCast S1x32 f shapeCasts_S1x32_S1x32) broadcasts_S1x32_S1024x32)))
    (mulf (broadcastTo S1024x32 m2 broadcasts_S1024x1_S1024x32) (broadcastTo S1024x32 (shapeCast S1x32 g shapeCasts_S1x32_S1x32) broadcasts_S1x32_S1024x32))
theorem add2_at (a : FVec Ideal S1024x32 .f32) (m1 m2 : FVec Ideal S1024x1 .f32) (f g : Vec Ideal S1x32 .f32) (r : Fin 1024) (j : Fin 32) :
    @Eq EReal (add2 a m1 m2 f g (ix2 r j)) (a (ix2 r j) + m1 (ix2 r 0) * f (ix2 0 j) + m2 (ix2 r 0) * g (ix2 0 j)) := by
  unfold add2
  pointwise []

/-- The last one weighed, and the layer's output. -/
def fin1 (a : FVec Ideal S1024x32 .f32) (m1 : FVec Ideal S1024x1 .f32) (e : FVec Ideal S1024x32 .f32) (m2 m3 : FVec Ideal S1024x1 .f32) (f g h : Vec Ideal S1x32 .f32) : FVec Ideal S1024x1 .f32 :=
  shapeCast S1024x1 (multiReduction .add [1] S1024 (mulf (tanh (add2 (addf a (mulf (broadcastTo S1024x32 m1 broadcasts_S1024x1_S1024x32) e)) m2 m3 f g))
    (broadcastTo S1024x32 h broadcasts_S1x32_S1024x32)) 0x00000000#32 reduces_S1024x32_S1024 (.inl rfl) rfl) shapeCasts_S1024_S1024x1
theorem fin1_at (a : FVec Ideal S1024x32 .f32) (m1 : FVec Ideal S1024x1 .f32) (e : FVec Ideal S1024x32 .f32) (m2 m3 : FVec Ideal S1024x1 .f32) (f g h : Vec Ideal S1x32 .f32) (r : Fin 1024) :
    @Eq EReal (fin1 a m1 e m2 m3 f g h (ix2 r 0))
      (∑ j : Fin 32, Ideal.tanh (a (ix2 r j) + m1 (ix2 r 0) * e (ix2 r j) + m2 (ix2 r 0) * f (ix2 0 j) + m3 (ix2 r 0) * g (ix2 0 j)) * h (ix2 0 j)) := by
  unfold fin1 add2
  pointwise []

section
variable (J : Head.In Ideal)

/-- A row of the eight weights of the greatest confidences. -/
abbrev wt (i : ℕ) (h : ∀ a, (![i, 0] : Fin 2 → Nat) a + S1x32.size a ≤ S8x32.size a) : Vec Ideal S1x32 .f32 := Head.cut (Rect.unit (s := S8x32) ![i, 0] S1x32.size h) J.x15

theorem h193_eq : Head.h193 J = add2 (Head.h151 J) (M (NN (Head.h83 J) 1)) (M (NN (Head.h83 J) 2)) (wt J 1 inb_S8x32_S1x32_1_0) (wt J 2 inb_S8x32_S1x32_2_0) := rfl
theorem h235_eq : Head.h235 J = add2 (Head.h193 J) (M (NN (Head.h83 J) 3)) (M (NN (Head.h83 J) 4)) (wt J 3 inb_S8x32_S1x32_3_0) (wt J 4 inb_S8x32_S1x32_4_0) := rfl
theorem h296_eq : Head.h296 J = fin1 (Head.h235 J) (M (NN (Head.h83 J) 5)) (k1_pay37 (wt J 5 inb_S8x32_S1x32_5_0)) (M (NN (Head.h83 J) 6)) (M (NN (Head.h83 J) 7))
    (wt J 6 inb_S8x32_S1x32_6_0) (wt J 7 inb_S8x32_S1x32_7_0) (Head.cut (Rect.unit (s := S8x32) ![0, 0] S1x32.size inb_S8x32_S1x32_0_0) J.x17) := rfl

theorem pay37_at (f : Vec Ideal S1x32 .f32) (r : Fin 1024) (j : Fin 32) : @Eq EReal (k1_pay37 f (ix2 r j)) (f (ix2 0 j)) := by
  pointwise [k1_pay37]
theorem pay39_at (f : Vec Ideal S1x1 .f32) (r : Fin 1024) : @Eq EReal (k1_pay39 f (ix2 r 0)) (f (ix2 0 0)) := by
  pointwise [k1_pay39]
theorem pay10_at (f : Vec Ideal S1024x1 .f32) (r : Fin 1024) : @Eq EReal (k1_pay10 f (ix2 r 0)) (f (ix2 r 0)) := by
  pointwise [k1_pay10]

theorem row_at {a b q i : ℕ} (h) (hi : i < a) (hq : q ≤ b) (X : Vec Ideal ⟨2, ![a, b]⟩ .f32) (j : Fin q) :
    Head.cut (Rect.unit (s := ⟨2, ![a, b]⟩) ![i, 0] ![1, q] h) X (ix2 0 j) = X (ix2 ⟨i, hi⟩ ⟨j.val, by omega⟩) := by
  refine congrArg X (funext fun t => Fin.ext ?_)
  fin_cases t
  · show i + 1 * 0 = i; omega
  · show 0 + 1 * j.val = j.val; omega

theorem wt_at (i : ℕ) (h) (hi : i < 8) (j : Fin 32) : @Eq EReal (wt J i h (ix2 0 j)) (J.x15 (ix2 ⟨i, hi⟩ j)) := row_at h hi (by norm_num) _ _

theorem MNN (r : Fin 1024) (t : ℕ) (ht : t < 8) : @Eq EReal (M (NN (Head.h83 J) t) (ix2 r 0)) (best (fun l : Fin 17 => Head.h83 J (ix2 r l)) ⟨t, ht⟩) := MN_at (Head.h83 J) r t (by omega)
end

/-- A distance's lane, and the columns of the second layer's weights. -/
abbrev lane (k : Fin 60) : Fin 64 := ⟨k.val, by omega⟩
abbrev low (k : Fin 60) : Fin 70 := ⟨10 + k.val, by omega⟩
abbrev mid (i : Fin 8) : Fin 70 := ⟨2 + i.val, by omega⟩

/-- The second layer's sum in the kernel's order. -/
theorem order (D s0 s1 b t0 t1 t2 t3 t4 t5 t6 t7 : EReal) :
    D + s0 + s1 + b + t0 + t1 + t2 + t3 + t4 + t5 + t6 + t7 = s0 + s1 + (t0 + t1 + t2 + t3 + t4 + t5 + t6 + t7) + D + b := by
  ac_rfl

section
variable (J : Head.In Ideal) (r : Fin 1024) (p s : EReal) (t : Fin 8 → EReal) (d : Fin 60 → EReal) (w : Fin 32 → Fin 70 → EReal) (b w2 : Fin 32 → EReal) (b2 : EReal)
  (h0 : ∀ k : Fin 60, J.x0 (ix2 r (lane k)) = d k) (h12 : ∀ (j : Fin 32) (k : Fin 60), J.x12 (ix2 (lane k) j) = w j (low k))
  (h12' : ∀ (l : Fin 64) (j : Fin 32), 60 ≤ l.val → J.x12 (ix2 l j) = (0 : EReal)) (h13 : ∀ j, J.x13 (ix2 0 j) = w j 0) (h14 : ∀ j, J.x14 (ix2 0 j) = w j 1)
  (h15 : ∀ (i : Fin 8) (j : Fin 32), J.x15 (ix2 i j) = w j (mid i)) (h16 : ∀ j, J.x16 (ix2 0 j) = b j) (h17 : ∀ j, J.x17 (ix2 0 j) = w2 j)
  (hs : @Eq EReal (Head.h109 J (ix2 r 0)) p) (hv : @Eq EReal (Head.h116 J (ix2 r 0)) s) (ht : ∀ i, best (fun l : Fin 17 => Head.h83 J (ix2 r l)) i = t i)
include h0 h12 h12' h13 h14 h15 h16 h17 hs hv ht

theorem h151_at (j : Fin 32) : @Eq EReal (Head.h151 J (ix2 r j)) (∑ k : Fin 60, d k * w j (low k) + p * w j 0 + s * w j 1 + b j + t 0 * w j 2) := by
  unfold Head.h151 Head.h1
  rw [pay19_at, hs, hv, hid64 _ _ d (fun k => w j (low k)) (fun k => (cut_0 inb_S1024x64_S1024x64_0_0 (by norm_num) (by norm_num) J.x0 r (lane k)).trans (h0 k))
    (fun k => (cut_0 inb_S64x32_S64x32_0_0 (by norm_num) (by norm_num) J.x12 (lane k) j).trans (h12 j k)) (fun l hl => (cut_0 inb_S64x32_S64x32_0_0 (by norm_num) (by norm_num) J.x12 l j).trans (h12' l j hl))]
  rw [show Head.cut (Rect.unit (s := S8x32) ![0, 0] S1x32.size inb_S8x32_S1x32_0_0) J.x13 (ix2 0 j) = w j 0 from (cut_0 _ (by norm_num) (by norm_num) _ _ _).trans (h13 j),
    show Head.cut (Rect.unit (s := S8x32) ![0, 0] S1x32.size inb_S8x32_S1x32_0_0) J.x14 (ix2 0 j) = w j 1 from (cut_0 _ (by norm_num) (by norm_num) _ _ _).trans (h14 j),
    show Head.cut (Rect.unit (s := S8x32) ![0, 0] S1x32.size inb_S8x32_S1x32_0_0) J.x16 (ix2 0 j) = b j from (cut_0 _ (by norm_num) (by norm_num) _ _ _).trans (h16 j),
    show Head.cut (Rect.unit (s := S8x32) ![0, 0] S1x32.size inb_S8x32_S1x32_0_0) J.x15 (ix2 0 j) = w j 2 from (cut_0 _ (by norm_num) (by norm_num) _ _ _).trans (h15 0 j)]
  have e := (MNN J r 0 (by norm_num)).trans (ht 0)
  rw [show M (Head.h83 J) (ix2 r 0) = t 0 from e]

theorem h296_at : @Eq EReal (Head.h296 J (ix2 r 0)) (∑ j, hid2 p s t d w b j * w2 j) := by
  rw [h296_eq, fin1_at]
  refine Finset.sum_congr rfl fun j _ => ?_
  have hw (i : ℕ) (hi : i < 8) (h) : @Eq EReal (wt J i h (ix2 0 j)) (w j ⟨2 + i, by omega⟩) := (wt_at J i h hi j).trans (h15 ⟨i, hi⟩ j)
  have hm (i : ℕ) (hi : i < 8) : @Eq EReal (M (NN (Head.h83 J) i) (ix2 r 0)) (t ⟨i, hi⟩) := (MNN J r i hi).trans (ht ⟨i, hi⟩)
  rw [h235_eq, add2_at, h193_eq, add2_at, h151_at J r p s t d w b w2 h0 h12 h12' h13 h14 h15 h16 h17 hs hv ht, pay37_at, hw 1, hw 2, hw 3, hw 4, hw 5, hw 6, hw 7,
    hm 1, hm 2, hm 3, hm 4, hm 5, hm 6, hm 7,
    show Head.cut (Rect.unit (s := S8x32) ![0, 0] S1x32.size inb_S8x32_S1x32_0_0) J.x17 (ix2 0 j) = w2 j from (cut_0 _ (by norm_num) (by norm_num) _ _ _).trans (h17 j)]
  · unfold hid2
    rw [order, Fin.sum_univ_eight]
    rfl
  all_goals norm_num
end

end Cert.Net
-- ==== Proof.Ref.lean ====
/- The reference's neighbours, logits and neighbour score. -/
module

public import proofs.«01_k».proof.Proof.Fold
public import proofs.«01_k».proof.Proof.Nb
public import proofs.«01_k».proof.Proof.Gen.ReferenceIdeal.Run
public import Idealize.ShloMosaic.Lib.ValueIdxCore

@[expose] public section

set_option maxRecDepth 16384

noncomputable section

namespace Cert.Net

open Idealize.ShloMosaic Idealize.ShloMosaic.TcCoe Idealize.ShloMosaic.Pointwise
open Cert.KernelIdeal.Knn (bits_bot toInt_small)

namespace Ref
open Cert.ReferenceIdeal Cert.ReferenceIdeal.Gen Cert.ReferenceIdeal.Value

variable (V0 : Valuation τ sig (Elt Ideal))

theorem v17_eq : res_main_v17 V0 = Cert.Top.near (V0 (Proc.devRef .tc main_arg1)) (V0 (Proc.devRef .tc main_arg3)) := by
  funext i
  obtain ⟨r, n, rfl⟩ : ∃ (r : Fin 1024) (n : Fin 100000), i = ix2 r n := ⟨i 0, i 1, by funext a; fin_cases a <;> rfl⟩
  pointwise [res_main_v17, res_main_v2, Cert.Top.near, Cert.KernelIdeal.Knn.negD2, Cert.KernelIdeal.Knn.meanQ]

theorem v18_at (r : Fin 1024) (k : Fin 60) : res_main_v18 V0 (ix2 r k) = dist (V0 (Proc.devRef .tc main_arg1)) (V0 (Proc.devRef .tc main_arg3)) r k := by
  have h : @Eq EReal (res_main_v18 V0 (ix2 r k)) (-(Host.topK S1024x60 1 (FloatOps.cmpfTotal .gt) (res_main_v17 V0) sliceFits_S1024x100000_S1024x60).1 (ix2 r k)) := by
    pointwise [res_main_v18]
  rw [v17_eq, Cert.Top.topK_fst (n := 100000) (t := 60) (Cert.Top.near (V0 (Proc.devRef .tc main_arg1)) (V0 (Proc.devRef .tc main_arg3))) sliceFits_S1024x100000_S1024x60 r k (by omega)] at h
  exact h

theorem indices_at (r : Fin 1024) (k : Fin 60) : res_main_indices V0 (ix2 r k) = BitVec.ofNat 32 (nb (V0 (Proc.devRef .tc main_arg1)) (V0 (Proc.devRef .tc main_arg3)) r k).val := by
  show (Host.topK S1024x60 1 (FloatOps.cmpfTotal .gt) (res_main_v17 V0) sliceFits_S1024x100000_S1024x60).2 (ix2 r k) = _
  rw [v17_eq]
  exact Cert.Top.topK_snd (n := 100000) (t := 60) (Cert.Top.near (V0 (Proc.devRef .tc main_arg1)) (V0 (Proc.devRef .tc main_arg3))) sliceFits_S1024x100000_S1024x60 r k (by omega)

theorem call0_at (r : Fin 1024) (k : Fin 60) (z : Fin 1) : res_main_call0_v5 V0 (ix3 r k z) = BitVec.ofNat 32 (nb (V0 (Proc.devRef .tc main_arg1)) (V0 (Proc.devRef .tc main_arg3)) r k).val := by
  have h : res_main_call0_v5 V0 (ix3 r k z) = Scalar.select (IntOp.cmpi .slt (res_main_indices V0 (ix2 r k)) 0#32) (IntOp.addi (res_main_indices V0 (ix2 r k)) 100000#32) (res_main_indices V0 (ix2 r k)) := by
    pointwise [res_main_call0_v5]
  rw [h, indices_at, w_fix _ (Fin.isLt _)]

/-- The logits of a row. -/
def z (r : Fin 1024) (k : Fin 60) : EReal :=
  logit (dist (V0 (Proc.devRef .tc main_arg1)) (V0 (Proc.devRef .tc main_arg3)) r) (fun j k => V0 (Proc.devRef .tc main_arg5) (ix2 j k)) (fun j => V0 (Proc.devRef .tc main_arg6) (ix1 j))
    (fun k j => V0 (Proc.devRef .tc main_arg7) (ix2 k j)) (fun k => V0 (Proc.devRef .tc main_arg8) (ix1 k)) k

theorem v30_at (r : Fin 1024) (k : Fin 60) : res_main_v30 V0 (ix2 r k) = z V0 r k := by
  have h : res_main_v30 V0 (ix2 r k) = logit (fun k => res_main_v18 V0 (ix2 r k)) (fun j k => V0 (Proc.devRef .tc main_arg5) (ix2 j k)) (fun j => V0 (Proc.devRef .tc main_arg6) (ix1 j))
    (fun k j => V0 (Proc.devRef .tc main_arg7) (ix2 k j)) (fun k => V0 (Proc.devRef .tc main_arg8) (ix1 k)) k := by
    pointwise [res_main_v30, logit, hid]
  rw [h, show (fun k => res_main_v18 V0 (ix2 r k)) = _ from funext fun k => v18_at V0 r k]
  rfl

theorem rowMax (Z : FVec Ideal S1024x60 .f32) (r : Fin 1024) :
    max (Ideal.ofBits FTy.f32 4286578688#32) (Finset.fold max (Ideal.ofBits FTy.f32 4286578688#32) Z {i | reducesTo_S1024x60_S1024_d1.drop i = ix1 r}) = mx fun k => Z (ix2 r k) := by
  rw [bot_max, fold_row max reducesTo_S1024x60_S1024_d1, bits_bot]

theorem taken_at (r : Fin 1024) (k : Fin 60) :
    select (Host.reduce IntOp.andi (andi (cmpi .sge (res_main_call0_v5 V0) (broadcastInDim S1024x60x1 ![] bcast_S_S1024x60x1 (constantI S_ 32 0#32))) (cmpi .sle (res_main_call0_v5 V0) (broadcastInDim S1024x60x1 ![0, 1, 2] bcast_S1x1x1_S1024x60x1_0_1_2 (broadcastInDim S1x1x1 ![2] bcast_S1_S1x1x1_2 (constantI S1 32 99999#32))))) (constantI S_ 1 1#1) reducesTo_S1024x60x1_S1024x60_d2 h_S_) (Host.gather gather_S100000_S1024x60x1_S1024x60_n_0_n_n_0_2_1 (V0 (Proc.devRef .tc main_arg4)) (res_main_call0_v5 V0)) (broadcastInDim S1024x60 ![] bcast_S_S1024x60 (constant (F := Ideal) S_ .f32 0x7FC00000#32)) (ix2 r k)
      = V0 (Proc.devRef .tc main_arg4) (ix1 (nb (V0 (Proc.devRef .tc main_arg1)) (V0 (Proc.devRef .tc main_arg3)) r k)) := by
  have hg : Host.gather gather_S100000_S1024x60x1_S1024x60_n_0_n_n_0_2_1 (V0 (Proc.devRef .tc main_arg4)) (res_main_call0_v5 V0) (ix2 r k)
      = V0 (Proc.devRef .tc main_arg4) (ix1 (nb (V0 (Proc.devRef .tc main_arg1)) (V0 (Proc.devRef .tc main_arg3)) r k)) := by
    refine (ValueIdx.gather_take_apply (N := 100000) (R := 1024) (C := 60) (by norm_num) gather_S100000_S1024x60x1_S1024x60_n_0_n_n_0_2_1_wf _ (res_main_call0_v5 V0) (ix2 r k)).trans ?_
    refine congrArg (fun q : Fin 100000 => V0 (Proc.devRef .tc main_arg4) (ix1 q)) (Fin.ext ?_)
    have hi : (ValueIdx.takeIdx (ix2 r k : (⟨2, ![1024, 60]⟩ : Shape).Idx)) = ix3 r k 0 := by funext a; fin_cases a <;> rfl
    show min (res_main_call0_v5 V0 _).toInt.toNat (100000 - 1) = _
    rw [hi, call0_at, toInt_small _ (lt_trans (Fin.isLt _) (by norm_num))]
    have := (nb (V0 (Proc.devRef .tc main_arg1)) (V0 (Proc.devRef .tc main_arg3)) r k).isLt
    omega
  refine Eq.trans ?_ hg
  pointwise []
  rw [fold_andi]
  · rfl
  · intro i hi
    have hd : reducesTo_S1024x60x1_S1024x60_d2.drop i = ix2 r k := (Finset.mem_filter.mp hi).2
    have h0 : i 0 = r := congrFun hd 0
    have h1 : i 1 = k := congrFun hd 1
    have he : i = ix3 r k (i 2) := by funext a; fin_cases a; exacts [h0, h1, rfl]
    have hv := (congrArg (res_main_call0_v5 V0) he).trans (call0_at V0 r k (i 2))
    show IntOp.andi (IntOp.cmpi CmpIPredicate.sge (res_main_call0_v5 V0 i) 0#32) (IntOp.cmpi CmpIPredicate.sle (res_main_call0_v5 V0 i) 99999#32) = 1#1
    rw [hv, w_sge _ (Fin.isLt _), w_sle _ (Fin.isLt _)]
    rfl

theorem v43_at (r : Fin 1024) : @Eq EReal (res_main_v43 V0 (ix1 r))
    (∑ k, soft (z V0 r) k * V0 (Proc.devRef .tc main_arg4) (ix1 (nb (V0 (Proc.devRef .tc main_arg1)) (V0 (Proc.devRef .tc main_arg3)) r k))) := by
  have h : @Eq EReal (res_main_v43 V0 (ix1 r)) (∑ k, soft (fun k => res_main_v30 V0 (ix2 r k)) k *
      select (Host.reduce IntOp.andi (andi (cmpi .sge (res_main_call0_v5 V0) (broadcastInDim S1024x60x1 ![] bcast_S_S1024x60x1 (constantI S_ 32 0#32))) (cmpi .sle (res_main_call0_v5 V0) (broadcastInDim S1024x60x1 ![0, 1, 2] bcast_S1x1x1_S1024x60x1_0_1_2 (broadcastInDim S1x1x1 ![2] bcast_S1_S1x1x1_2 (constantI S1 32 99999#32))))) (constantI S_ 1 1#1) reducesTo_S1024x60x1_S1024x60_d2 h_S_) (Host.gather gather_S100000_S1024x60x1_S1024x60_n_0_n_n_0_2_1 (V0 (Proc.devRef .tc main_arg4)) (res_main_call0_v5 V0)) (broadcastInDim S1024x60 ![] bcast_S_S1024x60 (constant (F := Ideal) S_ .f32 0x7FC00000#32)) (ix2 r k)) := by
    pointwise [res_main_v43, res_main_v37, soft]
    have e := rowMax (res_main_v30 V0) r

    rw [← e]
    rfl
  rw [h, show (fun k => res_main_v30 V0 (ix2 r k)) = z V0 r from funext fun k => v30_at V0 r k]
  exact Finset.sum_congr rfl fun k _ => by rw [taken_at]

end Ref
end Cert.Net
-- ==== Proof.Ref2.lean ====
/- The reference's mean confidences, bins, logits and weights, as scalars. -/
module

public import proofs.«01_k».proof.Proof.Ref
public import proofs.«01_k».proof.Proof.Conf

@[expose] public section

set_option maxRecDepth 16384

noncomputable section

namespace Cert.Net

open Idealize.ShloMosaic Idealize.ShloMosaic.TcCoe Idealize.ShloMosaic.Pointwise
open Cert.KernelIdeal.Knn

namespace Ref
open Cert.ReferenceIdeal Cert.ReferenceIdeal.Gen Cert.ReferenceIdeal.Value

/-- Each row's entries at given columns. -/
theorem pick_at (x : FVec Ideal S1024x17 .f32) (J : IVec S1024x2x1 32) (r : Fin 1024) (i : Fin 2) (n : Fin 17) (h : J (ix3 r i 0) = BitVec.ofNat 32 n.val) :
    Host.gather gather_S1024x17_S1024x2x1_S1024x2_n_1_0_0_1_2_11 x J (ix2 r i) = x (ix2 r n) := by
  unfold Host.gather
  refine congrArg x (funext fun a => Fin.ext ?_)
  show (gather_S1024x17_S1024x2x1_S1024x2_n_1_0_0_1_2_11).start (ix2 r i) J a + (gather_S1024x17_S1024x2x1_S1024x2_n_1_0_0_1_2_11).batchCoord (ix2 r i) a
    + (gather_S1024x17_S1024x2x1_S1024x2_n_1_0_0_1_2_11).offCoord (ix2 r i) a = _
  have ha : a = 0 ∨ a = 1 := by fin_cases a <;> simp
  rcases ha with rfl | rfl
  · rw [GatherDims.start_batching _ _ _ _ (List.mem_singleton.mpr rfl), GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ (gather_S1024x17_S1024x2x1_S1024x2_n_1_0_0_1_2_11).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl)), Nat.add_zero]
    unfold GatherDims.start
    rw [dif_pos (show (1 : Fin 2) ∈ (gather_S1024x17_S1024x2x1_S1024x2_n_1_0_0_1_2_11).startIndexMap from List.mem_singleton.mpr rfl)]
    have hi : (gather_S1024x17_S1024x2x1_S1024x2_n_1_0_0_1_2_11).siIdx (ix2 r i) ⟨List.idxOf (1 : Fin 2) (gather_S1024x17_S1024x2x1_S1024x2_n_1_0_0_1_2_11).startIndexMap,
        List.idxOf_lt_length_iff.2 (List.mem_singleton.mpr rfl)⟩ = ix3 r i 0 := by
      funext b
      refine Fin.ext ?_
      fin_cases b <;> rfl
    rw [hi, h]
    show min (BitVec.ofNat 32 n.val).toInt.toNat (17 - 1) = n.val
    have := n.isLt
    rw [toInt_small _ (by omega)]
    omega

theorem w17_sle (n : ℕ) (h : n < 17) : IntOp.cmpi .sle (BitVec.ofNat 32 n) 16#32 = 1#1 := by
  show BitVec.ofBool (decide ((BitVec.ofNat 32 n).toInt ≤ (BitVec.ofNat 32 16).toInt)) = 1#1
  rw [toInt_small n (by omega), toInt_small 16 (by omega), decide_eq_true (by omega)]
  rfl

variable (V0 : Valuation τ sig (Elt Ideal))

theorem v57_at (r : Fin 1024) (l : Fin 17) : @Eq EReal (res_main_v57 V0 (ix2 r l)) (conf (V0 (Proc.devRef .tc main_arg2)) r l) := by
  unfold conf
  pointwise [res_main_v57]

/-- A row's two scores. -/
def score (r : Fin 1024) (i : Fin 2) : EReal := if i = 0 then V0 (Proc.devRef .tc main_arg0) (ix1 r) else res_main_v43 V0 (ix1 r)

theorem v72_at (r : Fin 1024) (i : Fin 2) : res_main_v72 V0 (ix2 r i) = BitVec.ofNat 32 (bin (score V0 r i)).val := by
  refine Eq.trans ?_ (word_eq _)
  fin_cases i
  · show _ = word (V0 (Proc.devRef .tc main_arg0) (ix1 r))
    unfold word
    rw [← Ideal.ofBits_zero_f32]
    pointwise [res_main_v72]
    rw [← Ideal.ofBits_zero_f32]
    rfl
  · show _ = word (res_main_v43 V0 (ix1 r))
    unfold word
    rw [← Ideal.ofBits_zero_f32]
    pointwise [res_main_v72]
    rw [← Ideal.ofBits_zero_f32]
    rfl

theorem call3_at (r : Fin 1024) (i : Fin 2) (q : Fin 1) : res_main_call3_v5 V0 (ix3 r i q) = BitVec.ofNat 32 (bin (score V0 r i)).val := by
  have h : res_main_call3_v5 V0 (ix3 r i q) = Scalar.select (IntOp.cmpi .slt (res_main_v72 V0 (ix2 r i)) 0#32) (IntOp.addi (res_main_v72 V0 (ix2 r i)) 17#32) (res_main_v72 V0 (ix2 r i)) := by
    pointwise [res_main_call3_v5]
  have := (bin (score V0 r i)).isLt
  rw [h, v72_at, w_fix _ (by omega)]

theorem pick (r : Fin 1024) (i : Fin 2) : Scalar.select (Finset.fold IntOp.andi (1#1)
      (fun x => IntOp.andi (IntOp.cmpi CmpIPredicate.sge (res_main_call3_v5 V0 x) 0#32) (IntOp.cmpi CmpIPredicate.sle (res_main_call3_v5 V0 x) 16#32))
      {x | reducesTo_S1024x2x1_S1024x2_d2.drop x = ix2 r i})
    (Host.gather gather_S1024x17_S1024x2x1_S1024x2_n_1_0_0_1_2_11 (res_main_v57 V0) (res_main_call3_v5 V0) (ix2 r i)) (Ideal.ofBits FTy.f32 2143289344#32)
    = conf (V0 (Proc.devRef .tc main_arg2)) r (bin (score V0 r i)) := by
  rw [fold_andi]
  · refine Eq.trans ?_ (v57_at V0 r _)
    exact pick_at (res_main_v57 V0) (res_main_call3_v5 V0) r i _ (call3_at V0 r i 0)
  · intro x hx
    have hd : reducesTo_S1024x2x1_S1024x2_d2.drop x = ix2 r i := (Finset.mem_filter.mp hx).2
    have h0 : x 0 = r := congrFun hd 0
    have h1 : x 1 = i := congrFun hd 1
    have he : x = ix3 r i (x 2) := by funext a; fin_cases a; exacts [h0, h1, rfl]
    have hv := (congrArg (res_main_call3_v5 V0) he).trans (call3_at V0 r i (x 2))
    have := (bin (score V0 r i)).isLt
    rw [hv, w_sge _ (by omega), w17_sle _ (by omega)]
    rfl

theorem best_at (r : Fin 1024) (i : Fin 8) : @Eq EReal ((Host.topK S1024x8 1 (FloatOps.cmpfTotal CmpDirection.gt) (res_main_v57 V0) sliceFits_S1024x17_S1024x8).1 (ix2 r i))
    (best (conf (V0 (Proc.devRef .tc main_arg2)) r) i) := by
  have h := Cert.Top.topK_fst (n := 17) (t := 8) (res_main_v57 V0) sliceFits_S1024x17_S1024x8 r i (by omega)
  refine h.trans ?_
  have e : (fun l : Fin 17 => (res_main_v57 V0 (ix2 r l) : EReal)) = conf (V0 (Proc.devRef .tc main_arg2)) r := funext fun l => v57_at V0 r l
  show best (fun l : Fin 17 => (res_main_v57 V0 (ix2 r l) : EReal)) i = _
  rw [e]

/-- The two logits of a row's weights. -/
def lk (r : Fin 1024) : EReal :=
  lamK (dist (V0 (Proc.devRef .tc main_arg1)) (V0 (Proc.devRef .tc main_arg3)) r) (fun j k => V0 (Proc.devRef .tc main_arg9) (ix2 j k)) (fun j => V0 (Proc.devRef .tc main_arg10) (ix1 j))
    (fun j => V0 (Proc.devRef .tc main_arg11) (ix2 0 j)) (V0 (Proc.devRef .tc main_arg12) (ix1 0))
def lm (r : Fin 1024) : EReal :=
  lamM (conf (V0 (Proc.devRef .tc main_arg2)) r (bin (score V0 r 0))) (conf (V0 (Proc.devRef .tc main_arg2)) r (bin (score V0 r 1))) (best (conf (V0 (Proc.devRef .tc main_arg2)) r))
    (dist (V0 (Proc.devRef .tc main_arg1)) (V0 (Proc.devRef .tc main_arg3)) r) (fun j k => V0 (Proc.devRef .tc main_arg13) (ix2 j k)) (fun j => V0 (Proc.devRef .tc main_arg14) (ix1 j))
    (fun j => V0 (Proc.devRef .tc main_arg15) (ix2 0 j)) (V0 (Proc.devRef .tc main_arg16) (ix1 0))

theorem v87_0 (r : Fin 1024) : @Eq EReal (res_main_v87 V0 (ix2 r 0)) (lk V0 r) := by
  have h : @Eq EReal (res_main_v87 V0 (ix2 r 0)) (lamK (fun k => res_main_v18 V0 (ix2 r k)) (fun j k => V0 (Proc.devRef .tc main_arg9) (ix2 j k)) (fun j => V0 (Proc.devRef .tc main_arg10) (ix1 j))
    (fun j => V0 (Proc.devRef .tc main_arg11) (ix2 0 j)) (V0 (Proc.devRef .tc main_arg12) (ix1 0))) := by
    unfold lamK hid
    pointwise [res_main_v87]
  rw [h, show (fun k => res_main_v18 V0 (ix2 r k)) = _ from funext fun k => v18_at V0 r k]
  rfl

theorem v87_1 (r : Fin 1024) : @Eq EReal (res_main_v87 V0 (ix2 r 1)) (lm V0 r) := by
  pointwise [res_main_v87]
  unfold lm lamM hid2
  simp only [Fin.sum_univ_two]
  refine congrArg (· + (V0 (Proc.devRef .tc main_arg16) (ix1 0) : EReal)) (Finset.sum_congr rfl fun j _ => ?_)
  refine congrArg (fun q : EReal => Ideal.tanh q * V0 (Proc.devRef .tc main_arg15) (ix2 0 j)) ?_
  refine congrArg (· + (V0 (Proc.devRef .tc main_arg14) (ix1 j) : EReal)) ?_
  refine congrArg₂ (· + ·) (congrArg₂ (· + ·) (congrArg₂ (· + ·) (congrArg (· * (V0 (Proc.devRef .tc main_arg13) (ix2 j 0) : EReal)) (pick V0 r 0)) (congrArg (· * (V0 (Proc.devRef .tc main_arg13) (ix2 j 1) : EReal)) (pick V0 r 1))) ?_) ?_
  · exact Finset.sum_congr rfl fun i _ => congrArg (· * (V0 (Proc.devRef .tc main_arg13) (ix2 j ⟨2 + i.val, by omega⟩) : EReal)) (best_at V0 r i)
  · exact Finset.sum_congr rfl fun k _ => congrArg (· * (V0 (Proc.devRef .tc main_arg13) (ix2 j ⟨10 + k.val, by omega⟩) : EReal)) (v18_at V0 r k)

theorem rowMax2 (Z : FVec Ideal S1024x2 .f32) (r : Fin 1024) :
    max (Ideal.ofBits FTy.f32 4286578688#32) (Finset.fold max (Ideal.ofBits FTy.f32 4286578688#32) Z {i | reducesTo_S1024x2_S1024_d1.drop i = ix1 r}) = max (Z (ix2 r 0) : EReal) (Z (ix2 r 1)) := by
  rw [bot_max, fold_row max reducesTo_S1024x2_S1024_d1, bits_bot]
  exact mx_two fun k => Z (ix2 r k)

theorem v98_at (r : Fin 1024) (i : Fin 2) : @Eq EReal (res_main_v98 V0 (ix2 r i)) (soft2 (res_main_v87 V0 (ix2 r i)) (res_main_v87 V0 (ix2 r 0)) (res_main_v87 V0 (ix2 r 1))) := by
  unfold soft2
  pointwise [res_main_v98, res_main_v94]
  have e := rowMax2 (res_main_v87 V0) r
  rw [Fin.sum_univ_two, ← e]
  rfl

theorem v98_0 (r : Fin 1024) : @Eq EReal (res_main_v98 V0 (ix2 r 0)) (soft2 (lk V0 r) (lk V0 r) (lm V0 r)) := by rw [v98_at, v87_0, v87_1]
theorem v98_1 (r : Fin 1024) : @Eq EReal (res_main_v98 V0 (ix2 r 1)) (soft2 (lm V0 r) (lk V0 r) (lm V0 r)) := by rw [v98_at, v87_0, v87_1]

end Ref
end Cert.Net
-- ==== Proof.Res.lean ====
/- The results of both programs as one function of the arguments. -/
module

public import proofs.«01_k».proof.Proof.Lam
public import proofs.«01_k».proof.Proof.Ref2

@[expose] public section

set_option maxRecDepth 16384

noncomputable section

namespace Cert.Net

open Idealize.ShloMosaic Idealize.ShloMosaic.TcCoe Idealize.ShloMosaic.Pointwise
open Cert.KernelIdeal Cert.KernelIdeal.Gen Cert.KernelIdeal.Knn Cert.KernelIdeal.Ops

/-- The arguments. -/
structure Args where
  a0 : FVec Ideal S1024 .f32
  a1 : FVec Ideal S1024x8x64 .f32
  a2 : FVec Ideal S1024x8x17 .f32
  a3 : FVec Ideal S100000x64 .f32
  a4 : FVec Ideal S100000 .f32
  a5 : FVec Ideal S32x60 .f32
  a6 : FVec Ideal S32 .f32
  a7 : FVec Ideal S60x32 .f32
  a8 : FVec Ideal S60 .f32
  a9 : FVec Ideal S32x60 .f32
  a10 : FVec Ideal S32 .f32
  a11 : FVec Ideal S1x32 .f32
  a12 : FVec Ideal S1 .f32
  a13 : FVec Ideal S32x70 .f32
  a14 : FVec Ideal S32 .f32
  a15 : FVec Ideal S1x32 .f32
  a16 : FVec Ideal S1 .f32

namespace Args
variable (A : Args) (r : Fin 1024)

/-- The neighbours' score of a row. -/
def np : EReal :=
  ∑ k, soft (fun k => logit (dist A.a1 A.a3 r) (fun j k => A.a5 (ix2 j k)) (fun j => A.a6 (ix1 j)) (fun k j => A.a7 (ix2 k j)) (fun k => A.a8 (ix1 k)) k) k * A.a4 (ix1 (nb A.a1 A.a3 r k))
/-- The two logits of its weights. -/
def lk : EReal := lamK (dist A.a1 A.a3 r) (fun j k => A.a9 (ix2 j k)) (fun j => A.a10 (ix1 j)) (fun j => A.a11 (ix2 0 j)) (A.a12 (ix1 0))
def lm : EReal := lamM (conf A.a2 r (bin (A.a0 (ix1 r)))) (conf A.a2 r (bin (A.np r))) (best (conf A.a2 r)) (dist A.a1 A.a3 r) (fun j k => A.a13 (ix2 j k)) (fun j => A.a14 (ix1 j))
  (fun j => A.a15 (ix2 0 j)) (A.a16 (ix1 0))
/-- The weights. -/
def wk : EReal := soft2 (A.lk r) (A.lk r) (A.lm r)
def wm : EReal := soft2 (A.lm r) (A.lk r) (A.lm r)
/-- The weighed score. -/
def out : EReal := A.wk r * A.np r + A.wm r * A.a0 (ix1 r)
end Args

/-! ## The kernel -/

section
variable (m : (ℓ : Loc nD τ sig) → Buf (Elt Ideal) ℓ) (hp : Cert.Pre_KernelIdeal_well_posed m) (c : Dev nD) (r : Fin 1024)

def argsK : Args :=
  ⟨arg m c main_arg0, arg m c main_arg1, arg m c main_arg2, arg m c main_arg3, arg m c main_arg4, arg m c main_arg5, arg m c main_arg6, arg m c main_arg7, arg m c main_arg8,
    arg m c main_arg9, arg m c main_arg10, arg m c main_arg11, arg m c main_arg12, arg m c main_arg13, arg m c main_arg14, arg m c main_arg15, arg m c main_arg16⟩

theorem I_2 : (I m c).x2 (ix2 r 0) = arg m c main_arg0 (ix1 r) := by
  rw [Head.ins_2]
  show V16 m (Run.outs₀ m) c main_v61 _ = _
  rw [V16_v61]
  have (x : FVec Ideal S1024 .f32) : shapeCast S1024x1 x shapeCasts_S1024_S1024x1 (ix2 r 0) = x (ix1 r) := by pointwise []
  exact this _
theorem I_3 (i : Fin 8) (l : Fin 17) : (I m c).x3 (ix2 r ⟨17 * i.val + l.val, by omega⟩) = arg m c main_arg2 (ix3 r i l) := by
  rw [Head.ins_3]
  show V16 m (Run.outs₀ m) c main_v62 _ = _
  rw [V16_v62]
  have (x : FVec Ideal S1024x8x17 .f32) : shapeCast S1024x136 x shapeCasts_S1024x8x17_S1024x136 (ix2 r ⟨17 * i.val + l.val, by omega⟩) = x (ix3 r i l) := by
    have h1 : (⟨(17 * i.val + l.val) / 17, by omega⟩ : Fin 8) = i := Fin.ext (by show (17 * i.val + l.val) / 17 = i.val; omega)
    have h2 : (⟨(17 * i.val + l.val) % 17, by omega⟩ : Fin 17) = l := Fin.ext (by show (17 * i.val + l.val) % 17 = l.val; omega)
    pointwise []
  exact this _
theorem I_8 (j : Fin 32) (k : Fin 60) : (I m c).x8 (ix2 ⟨k.val, by omega⟩ j) = arg m c main_arg9 (ix2 j k) := by
  rw [Head.ins_8]
  show V16 m (Run.outs₀ m) c main_v13 _ = _
  rw [V16_v13]
  exact padW_in _ k j
theorem I_8' (l : Fin 64) (j : Fin 32) (hl : 60 ≤ l.val) : (I m c).x8 (ix2 l j) = (0 : EReal) := by
  rw [Head.ins_8]
  show V16 m (Run.outs₀ m) c main_v13 _ = _
  rw [V16_v13]
  exact padW_out _ l hl j
theorem I_9 (i : Fin 8) (j : Fin 32) : (I m c).x9 (ix2 i j) = arg m c main_arg10 (ix1 j) := by
  rw [Head.ins_9]
  show V16 m (Run.outs₀ m) c main_v30 _ = _
  rw [V16_v30]
  exact (tile32_at _ i j).trans (row32_at _ j)
theorem I_10 (i : Fin 8) (j : Fin 32) : (I m c).x10 (ix2 i j) = arg m c main_arg11 (ix2 0 j) := by
  rw [Head.ins_10]
  show V16 m (Run.outs₀ m) c main_v33 _ = _
  rw [V16_v33]
  exact tile32_at _ i j
theorem I_11 (i : Fin 8) (j : Fin 1) : (I m c).x11 (ix2 i j) = arg m c main_arg12 (ix1 0) := by
  rw [Head.ins_11]
  show V16 m (Run.outs₀ m) c main_v37 _ = _
  rw [V16_v37]
  exact (tile1_at _ i j).trans (row1_at _)
theorem I_12 (j : Fin 32) (k : Fin 60) : (I m c).x12 (ix2 ⟨k.val, by omega⟩ j) = arg m c main_arg13 (ix2 j ⟨10 + k.val, by omega⟩) := by
  rw [Head.ins_12]
  show V16 m (Run.outs₀ m) c main_v16 _ = _
  rw [V16_v16]
  refine (padW_in _ k j).trans ?_
  have (x : FVec Ideal S32x70 .f32) : extractStridedSlice S32x60 ![0, 10] x slices_S32x70_S32x60_0_10 (ix2 j k) = x (ix2 j ⟨10 + k.val, by omega⟩) := by pointwise []
  exact this _
theorem I_12' (l : Fin 64) (j : Fin 32) (hl : 60 ≤ l.val) : (I m c).x12 (ix2 l j) = (0 : EReal) := by
  rw [Head.ins_12]
  show V16 m (Run.outs₀ m) c main_v16 _ = _
  rw [V16_v16]
  exact padW_out _ l hl j
theorem I_13 (i : Fin 8) (j : Fin 32) : (I m c).x13 (ix2 i j) = arg m c main_arg13 (ix2 j 0) := by
  rw [Head.ins_13]
  show V16 m (Run.outs₀ m) c main_v43 _ = _
  rw [V16_v43]
  refine (tile32_at _ i j).trans ((row32_at _ j).trans ?_)
  have (x : FVec Ideal S32x70 .f32) : shapeCast S32 (extractStridedSlice S32x1 ![0, 0] x slices_S32x70_S32x1_0_0) shapeCasts_S32x1_S32 (ix1 j) = x (ix2 j 0) := by pointwise []
  exact this _
theorem I_14 (i : Fin 8) (j : Fin 32) : (I m c).x14 (ix2 i j) = arg m c main_arg13 (ix2 j 1) := by
  rw [Head.ins_14]
  show V16 m (Run.outs₀ m) c main_v49 _ = _
  rw [V16_v49]
  refine (tile32_at _ i j).trans ((row32_at _ j).trans ?_)
  have (x : FVec Ideal S32x70 .f32) : shapeCast S32 (extractStridedSlice S32x1 ![0, 1] x slices_S32x70_S32x1_0_1) shapeCasts_S32x1_S32 (ix1 j) = x (ix2 j 1) := by pointwise []
  exact this _
theorem I_15 (i : Fin 8) (j : Fin 32) : (I m c).x15 (ix2 i j) = arg m c main_arg13 (ix2 j ⟨2 + i.val, by omega⟩) := by
  rw [Head.ins_15]
  show V16 m (Run.outs₀ m) c main_v18 _ = _
  rw [V16_v18]
  have (x : FVec Ideal S32x70 .f32) : transpose S8x32 [1, 0] (extractStridedSlice S32x8 ![0, 2] x slices_S32x70_S32x8_0_2) transposes_S32x8_S8x32_1_0 (ix2 i j) = x (ix2 j ⟨2 + i.val, by omega⟩) := by
    pointwise []
  exact this _
theorem I_16 (i : Fin 8) (j : Fin 32) : (I m c).x16 (ix2 i j) = arg m c main_arg14 (ix1 j) := by
  rw [Head.ins_16]
  show V16 m (Run.outs₀ m) c main_v53 _ = _
  rw [V16_v53]
  exact (tile32_at _ i j).trans (row32_at _ j)
theorem I_17 (i : Fin 8) (j : Fin 32) : (I m c).x17 (ix2 i j) = arg m c main_arg15 (ix2 0 j) := by
  rw [Head.ins_17]
  show V16 m (Run.outs₀ m) c main_v56 _ = _
  rw [V16_v56]
  exact tile32_at _ i j
theorem I_18 (i : Fin 8) (j : Fin 1) : (I m c).x18 (ix2 i j) = arg m c main_arg16 (ix1 0) := by
  rw [Head.ins_18]
  show V16 m (Run.outs₀ m) c main_v60 _ = _
  rw [V16_v60]
  exact (tile1_at _ i j).trans (row1_at _)

theorem h5_at : @Eq EReal (Head.h5 (I m c) (ix2 r 0)) ((argsK m c).a0 (ix1 r)) := by
  unfold Head.h5
  rw [pay10_at]
  exact (cut_0 inb_S1024x1_S1024x1_0_0 (by norm_num) (by norm_num) _ r 0).trans (I_2 m c r)

include hp in
theorem h39_at : @Eq EReal (Head.h39 (I m c) (ix2 r 0)) ((argsK m c).np r) := np_at m hp c r

include hp in
theorem h56_at : @Eq EReal (Head.h56 (I m c) (ix2 r 0)) ((argsK m c).lk r) := by
  unfold Head.h56 Head.h1
  refine lam_in _ _ _ r _ _ _ (fun k => ?_) (fun j k => ?_) (fun l j hl => ?_) (fun j => ?_) _ _ _ _ (fun j => ?_) ?_
  · exact (cut_0 _ (by norm_num) (by norm_num) _ _ _).trans (I_0 m hp c r k)
  · exact (cut_0 _ (by norm_num) (by norm_num) _ _ _).trans (I_8 m c j k)
  · exact (cut_0 _ (by norm_num) (by norm_num) _ _ _).trans (I_8' m c l j hl)
  · exact (cut_0 _ (by norm_num) (by norm_num) _ _ _).trans (I_9 m c _ j)
  · exact (cut_0 _ (by norm_num) (by norm_num) _ _ _).trans (I_10 m c _ j)
  · exact (cut_0 _ (by norm_num) (by norm_num) _ _ _).trans (I_11 m c _ _)

theorem cut17 (o : ℕ) (h) (i : Fin 8) (ho : o = 17 * i.val) (l : Fin 17) :
    @Eq EReal (Head.cut (Rect.unit (s := S1024x136) ![0, o] S1024x17.size h) (I m c).x3 (ix2 r l)) ((argsK m c).a2 (ix3 r i l)) := by
  subst ho
  exact (cut_at (q := 17) (p := 1024) h (by omega) (by norm_num) _ r l).trans (I_3 m c r i l)

theorem h83_at (l : Fin 17) : @Eq EReal (Head.h83 (I m c) (ix2 r l)) (conf (argsK m c).a2 r l) := by
  unfold Head.h83 Head.h75 conf
  rw [pay15_at, eighth, Fin.sum_univ_eight, cut17 m c r 0 _ 0 rfl, cut17 m c r 17 _ 1 rfl, cut17 m c r 34 _ 2 rfl, cut17 m c r 51 _ 3 rfl, cut17 m c r 68 _ 4 rfl, cut17 m c r 85 _ 5 rfl,
    cut17 m c r 102 _ 6 rfl, cut17 m c r 119 _ 7 rfl]

theorem h109_at : @Eq EReal (Head.h109 (I m c) (ix2 r 0)) (conf (argsK m c).a2 r (bin ((argsK m c).a0 (ix1 r)))) := by
  unfold Head.h109
  rw [pay16_at, h5_at]
  exact h83_at m c r _
include hp in
theorem h116_at : @Eq EReal (Head.h116 (I m c) (ix2 r 0)) (conf (argsK m c).a2 r (bin ((argsK m c).np r))) := by
  unfold Head.h116
  rw [pay17_at, h39_at m hp]
  exact h83_at m c r _

include hp in
theorem lm_at : @Eq EReal (Head.h296 (I m c) (ix2 r 0) + Head.h299 (I m c) (ix2 r 0)) ((argsK m c).lm r) := by
  have e : (fun l : Fin 17 => (Head.h83 (I m c) (ix2 r l) : EReal)) = conf (argsK m c).a2 r := funext fun l => h83_at m c r l
  have h1 := h296_at (I m c) r _ _ (best (conf (argsK m c).a2 r)) (dist (argsK m c).a1 (argsK m c).a3 r) (fun j k => (argsK m c).a13 (ix2 j k)) (fun j => (argsK m c).a14 (ix1 j))
    (fun j => (argsK m c).a15 (ix2 0 j)) (fun k => I_0 m hp c r k) (fun j k => I_12 m c j k) (fun l j hl => I_12' m c l j hl) (fun j => I_13 m c 0 j) (fun j => I_14 m c 0 j)
    (fun i j => I_15 m c i j) (fun j => I_16 m c 0 j) (fun j => I_17 m c 0 j) (h109_at m c r) (h116_at m hp c r) (fun i => by rw [e])
  have h2 : @Eq EReal (Head.h299 (I m c) (ix2 r 0)) ((argsK m c).a16 (ix1 0)) := by
    unfold Head.h299
    rw [pay39_at]
    exact (cut_0 _ (by norm_num) (by norm_num) _ _ _).trans (I_18 m c _ _)
  rw [h1, h2]
  rfl

theorem pay6_at (x y z : FVec Ideal S1024x1 .f32) : @Eq EReal (k1_pay6 x y z (ix2 r 0)) (soft2 (x (ix2 r 0)) (x (ix2 r 0)) (y (ix2 r 0) + z (ix2 r 0))) := by
  unfold soft2
  pointwise [k1_pay6, k1_pay5, k1_pay4, k1_pay3, k1_pay2, k1_pay1]
theorem pay7_at (x y z : FVec Ideal S1024x1 .f32) : @Eq EReal (k1_pay7 x y z (ix2 r 0)) (soft2 (y (ix2 r 0) + z (ix2 r 0)) (x (ix2 r 0)) (y (ix2 r 0) + z (ix2 r 0))) := by
  unfold soft2
  pointwise [k1_pay7, k1_pay5, k1_pay4, k1_pay3, k1_pay2, k1_pay1]
theorem pay8_at (a b x y z : FVec Ideal S1024x1 .f32) : @Eq EReal (k1_pay8 a b x y z (ix2 r 0)) (k1_pay6 x y z (ix2 r 0) * b (ix2 r 0) + k1_pay7 x y z (ix2 r 0) * a (ix2 r 0)) := by
  pointwise [k1_pay8]

include hp in
theorem o21_at : @Eq EReal (Head.o21 (I m c) (ix2 r 0)) ((argsK m c).wk r) := by
  unfold Head.o21
  rw [pay6_at, lm_at m hp, h56_at m hp]
  rfl
include hp in
theorem o22_at : @Eq EReal (Head.o22 (I m c) (ix2 r 0)) ((argsK m c).wm r) := by
  unfold Head.o22
  rw [pay7_at, lm_at m hp, h56_at m hp]
  rfl
include hp in
theorem o19_at : @Eq EReal (Head.o19 (I m c) (ix2 r 0)) ((argsK m c).out r) := by
  have h1 := o21_at m hp c r
  have h2 := o22_at m hp c r
  unfold Head.o21 at h1
  unfold Head.o22 at h2
  unfold Head.o19
  rw [pay8_at, h1, h2, h39_at m hp, h5_at]
  rfl

theorem flat_at (x : FVec Ideal S1024x1 .f32) : shapeCast S1024 x shapeCasts_S1024x1_S1024 (ix1 r) = x (ix2 r 0) := by pointwise []

open Cert.KernelIdeal.Run in
include hp in
theorem kernel_at : @Eq EReal (V18 m (outs m) c main_v63_0 (ix2 r 0)) ((argsK m c).out r) ∧ @Eq EReal (V18 m (outs m) c main_v64 (ix1 r)) ((argsK m c).np r)
    ∧ @Eq EReal (V18 m (outs m) c main_v65 (ix1 r)) ((argsK m c).wk r) ∧ @Eq EReal (V18 m (outs m) c main_v66 (ix1 r)) ((argsK m c).wm r) := by
  refine ⟨?_, ?_, ?_, ?_⟩
  · rw [V18_of m (outs m) c _ (by decide), V17_0, Head.out0_eq]
    exact o19_at m hp c r
  · rw [V18_v64, V17_1, Head.out1_eq]
    exact (flat_at r _).trans (h39_at m hp c r)
  · rw [V18_v65, V17_2, Head.out2_eq]
    exact (flat_at r _).trans (o21_at m hp c r)
  · rw [V18_v66, V17_3, Head.out3_eq]
    exact (flat_at r _).trans (o22_at m hp c r)
end

end Cert.Net

/-! ## The reference -/

namespace Cert.Net.Ref
open Idealize.ShloMosaic Idealize.ShloMosaic.TcCoe Idealize.ShloMosaic.Pointwise
open Cert.ReferenceIdeal Cert.ReferenceIdeal.Gen Cert.ReferenceIdeal.Value

variable (V0 : Valuation τ sig (Elt Ideal)) (r : Fin 1024)

def argsR : Args :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5),
    V0 (Proc.devRef .tc main_arg6), V0 (Proc.devRef .tc main_arg7), V0 (Proc.devRef .tc main_arg8), V0 (Proc.devRef .tc main_arg9), V0 (Proc.devRef .tc main_arg10), V0 (Proc.devRef .tc main_arg11),
    V0 (Proc.devRef .tc main_arg12), V0 (Proc.devRef .tc main_arg13), V0 (Proc.devRef .tc main_arg14), V0 (Proc.devRef .tc main_arg15), V0 (Proc.devRef .tc main_arg16)⟩

theorem np_at : @Eq EReal (res_main_v43 V0 (ix1 r)) ((argsR V0).np r) := v43_at V0 r

theorem lk_eq : lk V0 r = (argsR V0).lk r := rfl
theorem lm_eq : lm V0 r = (argsR V0).lm r := by
  have h : score V0 r 1 = (argsR V0).np r := np_at V0 r
  unfold lm
  rw [h]
  rfl

theorem wk_at : @Eq EReal (res_main_v98 V0 (ix2 r 0)) ((argsR V0).wk r) := by rw [v98_0, lk_eq, lm_eq]; rfl
theorem wm_at : @Eq EReal (res_main_v98 V0 (ix2 r 1)) ((argsR V0).wm r) := by rw [v98_1, lk_eq, lm_eq]; rfl

theorem first_at (x : FVec Ideal S1024x2 .f32) : shapeCast S1024 (extractStridedSlice S1024x1 ![0, 0] x slices_S1024x2_S1024x1_0_0) shapeCasts_S1024x1_S1024 (ix1 r) = x (ix2 r 0) := by pointwise []
theorem second_at (x : FVec Ideal S1024x2 .f32) : shapeCast S1024 (extractStridedSlice S1024x1 ![0, 1] x slices_S1024x2_S1024x1_0_1) shapeCasts_S1024x1_S1024 (ix1 r) = x (ix2 r 1) := by pointwise []
theorem mix_at (x y a b : FVec Ideal S1024 .f32) : @Eq EReal (broadcastInDim S1024x1 ![0] bcast_S1024_S1024x1_0 (addf (mulf x y) (mulf a b)) (ix2 r 0)) (x (ix1 r) * y (ix1 r) + a (ix1 r) * b (ix1 r)) := by
  pointwise []

theorem out_at : @Eq EReal (broadcastInDim S1024x1 ![0] bcast_S1024_S1024x1_0 (addf (mulf (shapeCast S1024 (extractStridedSlice S1024x1 ![0, 0] (res_main_v98 V0) slices_S1024x2_S1024x1_0_0) shapeCasts_S1024x1_S1024) (res_main_v43 V0)) (mulf (shapeCast S1024 (extractStridedSlice S1024x1 ![0, 1] (res_main_v98 V0) slices_S1024x2_S1024x1_0_1) shapeCasts_S1024x1_S1024) (V0 (Proc.devRef .tc main_arg0)))) (ix2 r 0))
    ((argsR V0).out r) := by
  refine (mix_at r _ _ _ _).trans ?_
  rw [first_at, second_at, wk_at, wm_at, np_at]
  rfl

end Cert.Net.Ref
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_well_posed
public import proofs.«01_k».proof.Proof.Gen.ReferenceIdeal.Run
public import proofs.«01_k».proof.Proof.Frames
public import proofs.«01_k».proof.Proof.Res
public import Idealize.ShloMosaic.Adequacy
public import Idealize.ShloMosaic.Init

@[expose] public section

noncomputable section

namespace Cert.Proof

open Idealize.ShloMosaic Idealize.SL.Sem Cert.KernelIdeal

theorem frame_kernel : quiescent_KernelIdeal := fun m ρ _ =>
  (θ_run Cert.KernelIdeal.defs _ _).mono (fun _ h => ⟨fun c => (h.1 c).2, h.2⟩) (Cert.KernelIdeal.Run.kept m ρ)
theorem frame_reference : quiescent_ReferenceIdeal := fun m ρ _ => Cert.ReferenceIdeal.Value.kept m ρ

section
open Cert.Net Idealize.ShloMosaic.Pointwise

/-- The two programs' arguments are the same. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Ref.argsR (StableHlo.launchContents m' c) = argsK m c := by
  obtain ⟨h0, h1, h2, h3, h4, h5, h6, h7, h8, h9, h10, h11, h12, h13, h14, h15, h16⟩ := h
  show Args.mk _ _ _ _ _ _ _ _ _ _ _ _ _ _ _ _ _ = Args.mk _ _ _ _ _ _ _ _ _ _ _ _ _ _ _ _ _
  rw [Args.mk.injEq]
  exact ⟨h0, h1, h2, h3, h4, h5, h6, h7, h8, h9, h10, h11, h12, h13, h14, h15, h16⟩

theorem ext1 (x y : Cert.KernelIdeal.S1024x1.Idx → EReal) (h : ∀ r, x (ix2 r 0) = y (ix2 r 0)) : x = y := by
  funext i
  have e : i = ix2 (i 0) 0 := by
    funext a
    fin_cases a
    · rfl
    · exact Subsingleton.elim (α := Fin 1) _ _
  rw [e]
  exact h _
theorem ext0 (x y : Cert.KernelIdeal.S1024.Idx → EReal) (h : ∀ r, x (ix1 r) = y (ix1 r)) : x = y := by
  funext i
  have e : i = ix1 (i 0) := by
    funext a
    fin_cases a
    rfl
  rw [e]
  exact h _

open Idealize.ShloMosaic.TcCoe Cert.KernelIdeal.Run Cert.KernelIdeal.Gen in
theorem value : algebraic_KernelIdeal_ReferenceIdeal_pre_well_posed := by
  intro m g m' g' hp hargs
  refine ⟨fun c => V18 m (outs m) c main_v63_0, fun c => m ((c.tc : Thread nD τ).loc main_arg0), fun c => V18 m (outs m) c main_v64, fun c => V18 m (outs m) c main_v65,
    fun c => V18 m (outs m) c main_v66, ?_, ?_⟩
  · refine (θ_run Cert.KernelIdeal.defs _ _).mono (fun r h c => ?_) (kept m g)
    have hk := h.1 c
    exact ⟨hk.1 _ (mem_uc main_v63_0 (by decide)), hk.2.1, hk.1 _ (mem_uc main_v64 (by decide)), hk.1 _ (mem_uc main_v65 (by decide)), hk.1 _ (mem_uc main_v66 (by decide)), hk.2⟩
  · refine (θ_run Cert.ReferenceIdeal.defs _ _).mono (fun r h c => ?_) (Cert.ReferenceIdeal.Value.run m' g')
    obtain ⟨e0, e1, e2, e3, e4, e5⟩ := h c
    have ha := args_eq m m' c (hargs c)
    have hk := fun r => kernel_at m hp c r
    refine ⟨e0.trans ?_, e1.trans (hargs c).1, e2.trans ?_, e3.trans ?_, e4.trans ?_, e5⟩
    · exact ext1 _ _ fun r => (Ref.out_at _ r).trans ((congrArg (fun A => Args.out A r) ha).trans (hk r).1.symm)
    · exact ext0 _ _ fun r => (Ref.np_at _ r).trans ((congrArg (fun A => Args.np A r) ha).trans (hk r).2.1.symm)
    · exact ext0 _ _ fun r => (Ref.first_at r _).trans ((Ref.wk_at _ r).trans ((congrArg (fun A => Args.wk A r) ha).trans (hk r).2.2.1.symm))
    · exact ext0 _ _ fun r => (Ref.second_at r _).trans ((Ref.wm_at _ r).trans ((congrArg (fun A => Args.wm A r) ha).trans (hk r).2.2.2.symm))
end

theorem claim : Cert.Claim :=
  ⟨Cert.KernelIdeal.Gen.facts, Cert.ReferenceIdeal.Gen.facts, Cert.Pre_well_posed.Gen.facts,
    frame_kernel, fun m ρ _ => frame_kernel m ρ trivial, frame_reference, fun m ρ _ => frame_reference m ρ trivial, value⟩

end Cert.Proof

end
